-- ==== Defs.lean ====
def Pre_NaMain (m : (ℓ : Loc Cert.NaMain.nD Cert.NaMain.τ Cert.NaMain.sig) → Buf (Elt Bits) ℓ) : Prop :=
  True

def Pre_NaMainIdeal (m : (ℓ : Loc Cert.NaMainIdeal.nD Cert.NaMainIdeal.τ Cert.NaMainIdeal.sig) → Buf (Elt Ideal) ℓ) : Prop :=
  True

def Pre_NaMainIdeal_na_main_real [hPre_na_main_real : Cert.Pre_na_main_real.Facts] (m : (ℓ : Loc Cert.NaMainIdeal.nD Cert.NaMainIdeal.τ Cert.NaMainIdeal.sig) → Buf (Elt Ideal) ℓ) : Prop :=
  ∀ c : Dev Cert.NaMainIdeal.nD,
    (Cert.Pre_na_main_real.fn (F := Ideal) (m ((c.tc : Thread Cert.NaMainIdeal.nD Cert.NaMainIdeal.τ).loc Cert.NaMainIdeal.main_arg0)) (m ((c.tc : Thread Cert.NaMainIdeal.nD Cert.NaMainIdeal.τ).loc Cert.NaMainIdeal.main_arg1)) (m ((c.tc : Thread Cert.NaMainIdeal.nD Cert.NaMainIdeal.τ).loc Cert.NaMainIdeal.main_arg2))) = (fun _ => 1#1)

def Pre_NaMainRefIdeal (m : (ℓ : Loc Cert.NaMainRefIdeal.nD Cert.NaMainRefIdeal.τ Cert.NaMainRefIdeal.sig) → Buf (Elt Ideal) ℓ) : Prop :=
  True

def Pre_NaMainRefIdeal_na_main_real [hPre_na_main_real : Cert.Pre_na_main_real.Facts] (m : (ℓ : Loc Cert.NaMainRefIdeal.nD Cert.NaMainRefIdeal.τ Cert.NaMainRefIdeal.sig) → Buf (Elt Ideal) ℓ) : Prop :=
  ∀ c : Dev Cert.NaMainRefIdeal.nD,
    (Cert.Pre_na_main_real.fn (F := Ideal) (m ((c.tc : Thread Cert.NaMainRefIdeal.nD Cert.NaMainRefIdeal.τ).loc Cert.NaMainRefIdeal.main_arg0)) (m ((c.tc : Thread Cert.NaMainRefIdeal.nD Cert.NaMainRefIdeal.τ).loc Cert.NaMainRefIdeal.main_arg1)) (m ((c.tc : Thread Cert.NaMainRefIdeal.nD Cert.NaMainRefIdeal.τ).loc Cert.NaMainRefIdeal.main_arg2))) = (fun _ => 1#1)

def Pre_NaMeta (m : (ℓ : Loc Cert.NaMeta.nD Cert.NaMeta.τ Cert.NaMeta.sig) → Buf (Elt Bits) ℓ) : Prop :=
  True

def Pre_NaMetaIdeal (m : (ℓ : Loc Cert.NaMetaIdeal.nD Cert.NaMetaIdeal.τ Cert.NaMetaIdeal.sig) → Buf (Elt Ideal) ℓ) : Prop :=
  True

def Pre_NaMetaIdeal_na_meta_real [hPre_na_meta_real : Cert.Pre_na_meta_real.Facts] (m : (ℓ : Loc Cert.NaMetaIdeal.nD Cert.NaMetaIdeal.τ Cert.NaMetaIdeal.sig) → Buf (Elt Ideal) ℓ) : Prop :=
  ∀ c : Dev Cert.NaMetaIdeal.nD,
    (Cert.Pre_na_meta_real.fn (F := Ideal) (m ((c.tc : Thread Cert.NaMetaIdeal.nD Cert.NaMetaIdeal.τ).loc Cert.NaMetaIdeal.main_arg0)) (m ((c.tc : Thread Cert.NaMetaIdeal.nD Cert.NaMetaIdeal.τ).loc Cert.NaMetaIdeal.main_arg1))) = (fun _ => 1#1)

def Pre_NaMetaRefIdeal (m : (ℓ : Loc Cert.NaMetaRefIdeal.nD Cert.NaMetaRefIdeal.τ Cert.NaMetaRefIdeal.sig) → Buf (Elt Ideal) ℓ) : Prop :=
  True

def Pre_NaMetaRefIdeal_na_meta_real [hPre_na_meta_real : Cert.Pre_na_meta_real.Facts] (m : (ℓ : Loc Cert.NaMetaRefIdeal.nD Cert.NaMetaRefIdeal.τ Cert.NaMetaRefIdeal.sig) → Buf (Elt Ideal) ℓ) : Prop :=
  ∀ c : Dev Cert.NaMetaRefIdeal.nD,
    (Cert.Pre_na_meta_real.fn (F := Ideal) (m ((c.tc : Thread Cert.NaMetaRefIdeal.nD Cert.NaMetaRefIdeal.τ).loc Cert.NaMetaRefIdeal.main_arg0)) (m ((c.tc : Thread Cert.NaMetaRefIdeal.nD Cert.NaMetaRefIdeal.τ).loc Cert.NaMetaRefIdeal.main_arg1))) = (fun _ => 1#1)

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_FinalNorm (m : (ℓ : Loc Cert.FinalNorm.nD Cert.FinalNorm.τ Cert.FinalNorm.sig) → Buf (Elt Bits) ℓ) : Prop :=
  True

def Pre_FinalNormIdeal (m : (ℓ : Loc Cert.FinalNormIdeal.nD Cert.FinalNormIdeal.τ Cert.FinalNormIdeal.sig) → Buf (Elt Ideal) ℓ) : Prop :=
  True

def Pre_FinalNormRefIdeal (m : (ℓ : Loc Cert.FinalNormRefIdeal.nD Cert.FinalNormRefIdeal.τ Cert.FinalNormRefIdeal.sig) → Buf (Elt Ideal) ℓ) : Prop :=
  True

def Pre_ShortConv (m : (ℓ : Loc Cert.ShortConv.nD Cert.ShortConv.τ Cert.ShortConv.sig) → Buf (Elt Bits) ℓ) : Prop :=
  True

def Pre_ShortConvIdeal (m : (ℓ : Loc Cert.ShortConvIdeal.nD Cert.ShortConvIdeal.τ Cert.ShortConvIdeal.sig) → Buf (Elt Ideal) ℓ) : Prop :=
  True

def Pre_ShortConvRefIdeal (m : (ℓ : Loc Cert.ShortConvRefIdeal.nD Cert.ShortConvRefIdeal.τ Cert.ShortConvRefIdeal.sig) → Buf (Elt Ideal) ℓ) : Prop :=
  True

def Pre_Filter (m : (ℓ : Loc Cert.Filter.nD Cert.Filter.τ Cert.Filter.sig) → Buf (Elt Bits) ℓ) : Prop :=
  True

def Pre_FilterIdeal (m : (ℓ : Loc Cert.FilterIdeal.nD Cert.FilterIdeal.τ Cert.FilterIdeal.sig) → Buf (Elt Ideal) ℓ) : Prop :=
  True

def Pre_FilterIdeal_filter_real [hPre_filter_real : Cert.Pre_filter_real.Facts] (m : (ℓ : Loc Cert.FilterIdeal.nD Cert.FilterIdeal.τ Cert.FilterIdeal.sig) → Buf (Elt Ideal) ℓ) : Prop :=
  ∀ c : Dev Cert.FilterIdeal.nD,
    (Cert.Pre_filter_real.fn (F := Ideal) (m ((c.tc : Thread Cert.FilterIdeal.nD Cert.FilterIdeal.τ).loc Cert.FilterIdeal.main_arg0)) (m ((c.tc : Thread Cert.FilterIdeal.nD Cert.FilterIdeal.τ).loc Cert.FilterIdeal.main_arg1)) (m ((c.tc : Thread Cert.FilterIdeal.nD Cert.FilterIdeal.τ).loc Cert.FilterIdeal.main_arg2)) (m ((c.tc : Thread Cert.FilterIdeal.nD Cert.FilterIdeal.τ).loc Cert.FilterIdeal.main_arg3)) (m ((c.tc : Thread Cert.FilterIdeal.nD Cert.FilterIdeal.τ).loc Cert.FilterIdeal.main_arg4)) (m ((c.tc : Thread Cert.FilterIdeal.nD Cert.FilterIdeal.τ).loc Cert.FilterIdeal.main_arg5)) (m ((c.tc : Thread Cert.FilterIdeal.nD Cert.FilterIdeal.τ).loc Cert.FilterIdeal.main_arg6)) (m ((c.tc : Thread Cert.FilterIdeal.nD Cert.FilterIdeal.τ).loc Cert.FilterIdeal.main_arg7)) (m ((c.tc : Thread Cert.FilterIdeal.nD Cert.FilterIdeal.τ).loc Cert.FilterIdeal.main_arg8)) (m ((c.tc : Thread Cert.FilterIdeal.nD Cert.FilterIdeal.τ).loc Cert.FilterIdeal.main_arg9))) = (fun _ => 1#1)

def Pre_FilterRefIdeal (m : (ℓ : Loc Cert.FilterRefIdeal.nD Cert.FilterRefIdeal.τ Cert.FilterRefIdeal.sig) → Buf (Elt Ideal) ℓ) : Prop :=
  True

def Pre_FilterRefIdeal_filter_real [hPre_filter_real : Cert.Pre_filter_real.Facts] (m : (ℓ : Loc Cert.FilterRefIdeal.nD Cert.FilterRefIdeal.τ Cert.FilterRefIdeal.sig) → Buf (Elt Ideal) ℓ) : Prop :=
  ∀ c : Dev Cert.FilterRefIdeal.nD,
    (Cert.Pre_filter_real.fn (F := Ideal) (m ((c.tc : Thread Cert.FilterRefIdeal.nD Cert.FilterRefIdeal.τ).loc Cert.FilterRefIdeal.main_arg0)) (m ((c.tc : Thread Cert.FilterRefIdeal.nD Cert.FilterRefIdeal.τ).loc Cert.FilterRefIdeal.main_arg1)) (m ((c.tc : Thread Cert.FilterRefIdeal.nD Cert.FilterRefIdeal.τ).loc Cert.FilterRefIdeal.main_arg2)) (m ((c.tc : Thread Cert.FilterRefIdeal.nD Cert.FilterRefIdeal.τ).loc Cert.FilterRefIdeal.main_arg3)) (m ((c.tc : Thread Cert.FilterRefIdeal.nD Cert.FilterRefIdeal.τ).loc Cert.FilterRefIdeal.main_arg4)) (m ((c.tc : Thread Cert.FilterRefIdeal.nD Cert.FilterRefIdeal.τ).loc Cert.FilterRefIdeal.main_arg5)) (m ((c.tc : Thread Cert.FilterRefIdeal.nD Cert.FilterRefIdeal.τ).loc Cert.FilterRefIdeal.main_arg6)) (m ((c.tc : Thread Cert.FilterRefIdeal.nD Cert.FilterRefIdeal.τ).loc Cert.FilterRefIdeal.main_arg7)) (m ((c.tc : Thread Cert.FilterRefIdeal.nD Cert.FilterRefIdeal.τ).loc Cert.FilterRefIdeal.main_arg8)) (m ((c.tc : Thread Cert.FilterRefIdeal.nD Cert.FilterRefIdeal.τ).loc Cert.FilterRefIdeal.main_arg9))) = (fun _ => 1#1)

def quiescent_NaMain [hNaMain : Cert.NaMain.Facts] : Prop :=
  ∀ (m : (ℓ : Loc Cert.NaMain.nD Cert.NaMain.τ Cert.NaMain.sig) → Buf (Elt Bits) ℓ) (g : Dev Cert.NaMain.nD → PrngReg), Pre_NaMain m →
    θ_run (Cert.NaMain.defs (F := Bits)) (onTc (τ := Cert.NaMain.τ) (Cert.NaMain.main (F := Bits))) ⟨m, fun _ => 0, g⟩ (fun r => (∀ c : Dev Cert.NaMain.nD,
      r.2.mem ((c.tc : Thread Cert.NaMain.nD Cert.NaMain.τ).loc Cert.NaMain.main_arg0) = m ((c.tc : Thread Cert.NaMain.nD Cert.NaMain.τ).loc Cert.NaMain.main_arg0)
      ∧ r.2.mem ((c.tc : Thread Cert.NaMain.nD Cert.NaMain.τ).loc Cert.NaMain.main_arg1) = m ((c.tc : Thread Cert.NaMain.nD Cert.NaMain.τ).loc Cert.NaMain.main_arg1)
      ∧ r.2.mem ((c.tc : Thread Cert.NaMain.nD Cert.NaMain.τ).loc Cert.NaMain.main_arg2) = m ((c.tc : Thread Cert.NaMain.nD Cert.NaMain.τ).loc Cert.NaMain.main_arg2))
      ∧ r.2.sem = fun _ => 0)

def quiescent_NaMainIdeal [hNaMainIdeal : Cert.NaMainIdeal.Facts] : Prop :=
  ∀ (m : (ℓ : Loc Cert.NaMainIdeal.nD Cert.NaMainIdeal.τ Cert.NaMainIdeal.sig) → Buf (Elt Ideal) ℓ) (g : Dev Cert.NaMainIdeal.nD → PrngReg), Pre_NaMainIdeal m →
    θ_run (Cert.NaMainIdeal.defs (F := Ideal)) (onTc (τ := Cert.NaMainIdeal.τ) (Cert.NaMainIdeal.main (F := Ideal))) ⟨m, fun _ => 0, g⟩ (fun r => (∀ c : Dev Cert.NaMainIdeal.nD,
      r.2.mem ((c.tc : Thread Cert.NaMainIdeal.nD Cert.NaMainIdeal.τ).loc Cert.NaMainIdeal.main_arg0) = m ((c.tc : Thread Cert.NaMainIdeal.nD Cert.NaMainIdeal.τ).loc Cert.NaMainIdeal.main_arg0)
      ∧ r.2.mem ((c.tc : Thread Cert.NaMainIdeal.nD Cert.NaMainIdeal.τ).loc Cert.NaMainIdeal.main_arg1) = m ((c.tc : Thread Cert.NaMainIdeal.nD Cert.NaMainIdeal.τ).loc Cert.NaMainIdeal.main_arg1)
      ∧ r.2.mem ((c.tc : Thread Cert.NaMainIdeal.nD Cert.NaMainIdeal.τ).loc Cert.NaMainIdeal.main_arg2) = m ((c.tc : Thread Cert.NaMainIdeal.nD Cert.NaMainIdeal.τ).loc Cert.NaMainIdeal.main_arg2))
      ∧ r.2.sem = fun _ => 0)

def quiescent_NaMainIdeal_pre_na_main_real [hNaMainIdeal : Cert.NaMainIdeal.Facts] [hPre_na_main_real : Cert.Pre_na_main_real.Facts] : Prop :=
  ∀ (m : (ℓ : Loc Cert.NaMainIdeal.nD Cert.NaMainIdeal.τ Cert.NaMainIdeal.sig) → Buf (Elt Ideal) ℓ) (g : Dev Cert.NaMainIdeal.nD → PrngReg), Pre_NaMainIdeal_na_main_real m →
    θ_run (Cert.NaMainIdeal.defs (F := Ideal)) (onTc (τ := Cert.NaMainIdeal.τ) (Cert.NaMainIdeal.main (F := Ideal))) ⟨m, fun _ => 0, g⟩ (fun r => (∀ c : Dev Cert.NaMainIdeal.nD,
      r.2.mem ((c.tc : Thread Cert.NaMainIdeal.nD Cert.NaMainIdeal.τ).loc Cert.NaMainIdeal.main_arg0) = m ((c.tc : Thread Cert.NaMainIdeal.nD Cert.NaMainIdeal.τ).loc Cert.NaMainIdeal.main_arg0)
      ∧ r.2.mem ((c.tc : Thread Cert.NaMainIdeal.nD Cert.NaMainIdeal.τ).loc Cert.NaMainIdeal.main_arg1) = m ((c.tc : Thread Cert.NaMainIdeal.nD Cert.NaMainIdeal.τ).loc Cert.NaMainIdeal.main_arg1)
      ∧ r.2.mem ((c.tc : Thread Cert.NaMainIdeal.nD Cert.NaMainIdeal.τ).loc Cert.NaMainIdeal.main_arg2) = m ((c.tc : Thread Cert.NaMainIdeal.nD Cert.NaMainIdeal.τ).loc Cert.NaMainIdeal.main_arg2))
      ∧ r.2.sem = fun _ => 0)

def quiescent_NaMainRefIdeal [hNaMainRefIdeal : Cert.NaMainRefIdeal.Facts] : Prop :=
  ∀ (m : (ℓ : Loc Cert.NaMainRefIdeal.nD Cert.NaMainRefIdeal.τ Cert.NaMainRefIdeal.sig) → Buf (Elt Ideal) ℓ) (g : Dev Cert.NaMainRefIdeal.nD → PrngReg), Pre_NaMainRefIdeal m →
    θ_run (Cert.NaMainRefIdeal.defs (F := Ideal)) (onTc (τ := Cert.NaMainRefIdeal.τ) (Cert.NaMainRefIdeal.main (F := Ideal))) ⟨m, fun _ => 0, g⟩ (fun r => (∀ c : Dev Cert.NaMainRefIdeal.nD,
      r.2.mem ((c.tc : Thread Cert.NaMainRefIdeal.nD Cert.NaMainRefIdeal.τ).loc Cert.NaMainRefIdeal.main_arg0) = m ((c.tc : Thread Cert.NaMainRefIdeal.nD Cert.NaMainRefIdeal.τ).loc Cert.NaMainRefIdeal.main_arg0)
      ∧ r.2.mem ((c.tc : Thread Cert.NaMainRefIdeal.nD Cert.NaMainRefIdeal.τ).loc Cert.NaMainRefIdeal.main_arg1) = m ((c.tc : Thread Cert.NaMainRefIdeal.nD Cert.NaMainRefIdeal.τ).loc Cert.NaMainRefIdeal.main_arg1)
      ∧ r.2.mem ((c.tc : Thread Cert.NaMainRefIdeal.nD Cert.NaMainRefIdeal.τ).loc Cert.NaMainRefIdeal.main_arg2) = m ((c.tc : Thread Cert.NaMainRefIdeal.nD Cert.NaMainRefIdeal.τ).loc Cert.NaMainRefIdeal.main_arg2))
      ∧ r.2.sem = fun _ => 0)

def quiescent_NaMainRefIdeal_pre_na_main_real [hNaMainRefIdeal : Cert.NaMainRefIdeal.Facts] [hPre_na_main_real : Cert.Pre_na_main_real.Facts] : Prop :=
  ∀ (m : (ℓ : Loc Cert.NaMainRefIdeal.nD Cert.NaMainRefIdeal.τ Cert.NaMainRefIdeal.sig) → Buf (Elt Ideal) ℓ) (g : Dev Cert.NaMainRefIdeal.nD → PrngReg), Pre_NaMainRefIdeal_na_main_real m →
    θ_run (Cert.NaMainRefIdeal.defs (F := Ideal)) (onTc (τ := Cert.NaMainRefIdeal.τ) (Cert.NaMainRefIdeal.main (F := Ideal))) ⟨m, fun _ => 0, g⟩ (fun r => (∀ c : Dev Cert.NaMainRefIdeal.nD,
      r.2.mem ((c.tc : Thread Cert.NaMainRefIdeal.nD Cert.NaMainRefIdeal.τ).loc Cert.NaMainRefIdeal.main_arg0) = m ((c.tc : Thread Cert.NaMainRefIdeal.nD Cert.NaMainRefIdeal.τ).loc Cert.NaMainRefIdeal.main_arg0)
      ∧ r.2.mem ((c.tc : Thread Cert.NaMainRefIdeal.nD Cert.NaMainRefIdeal.τ).loc Cert.NaMainRefIdeal.main_arg1) = m ((c.tc : Thread Cert.NaMainRefIdeal.nD Cert.NaMainRefIdeal.τ).loc Cert.NaMainRefIdeal.main_arg1)
      ∧ r.2.mem ((c.tc : Thread Cert.NaMainRefIdeal.nD Cert.NaMainRefIdeal.τ).loc Cert.NaMainRefIdeal.main_arg2) = m ((c.tc : Thread Cert.NaMainRefIdeal.nD Cert.NaMainRefIdeal.τ).loc Cert.NaMainRefIdeal.main_arg2))
      ∧ r.2.sem = fun _ => 0)

def quiescent_NaMeta [hNaMeta : Cert.NaMeta.Facts] : Prop :=
  ∀ (m : (ℓ : Loc Cert.NaMeta.nD Cert.NaMeta.τ Cert.NaMeta.sig) → Buf (Elt Bits) ℓ) (g : Dev Cert.NaMeta.nD → PrngReg), Pre_NaMeta m →
    θ_run (Cert.NaMeta.defs (F := Bits)) (onTc (τ := Cert.NaMeta.τ) (Cert.NaMeta.main (F := Bits))) ⟨m, fun _ => 0, g⟩ (fun r => (∀ c : Dev Cert.NaMeta.nD,
      r.2.mem ((c.tc : Thread Cert.NaMeta.nD Cert.NaMeta.τ).loc Cert.NaMeta.main_arg0) = m ((c.tc : Thread Cert.NaMeta.nD Cert.NaMeta.τ).loc Cert.NaMeta.main_arg0)
      ∧ r.2.mem ((c.tc : Thread Cert.NaMeta.nD Cert.NaMeta.τ).loc Cert.NaMeta.main_arg1) = m ((c.tc : Thread Cert.NaMeta.nD Cert.NaMeta.τ).loc Cert.NaMeta.main_arg1))
      ∧ r.2.sem = fun _ => 0)

def quiescent_NaMetaIdeal [hNaMetaIdeal : Cert.NaMetaIdeal.Facts] : Prop :=
  ∀ (m : (ℓ : Loc Cert.NaMetaIdeal.nD Cert.NaMetaIdeal.τ Cert.NaMetaIdeal.sig) → Buf (Elt Ideal) ℓ) (g : Dev Cert.NaMetaIdeal.nD → PrngReg), Pre_NaMetaIdeal m →
    θ_run (Cert.NaMetaIdeal.defs (F := Ideal)) (onTc (τ := Cert.NaMetaIdeal.τ) (Cert.NaMetaIdeal.main (F := Ideal))) ⟨m, fun _ => 0, g⟩ (fun r => (∀ c : Dev Cert.NaMetaIdeal.nD,
      r.2.mem ((c.tc : Thread Cert.NaMetaIdeal.nD Cert.NaMetaIdeal.τ).loc Cert.NaMetaIdeal.main_arg0) = m ((c.tc : Thread Cert.NaMetaIdeal.nD Cert.NaMetaIdeal.τ).loc Cert.NaMetaIdeal.main_arg0)
      ∧ r.2.mem ((c.tc : Thread Cert.NaMetaIdeal.nD Cert.NaMetaIdeal.τ).loc Cert.NaMetaIdeal.main_arg1) = m ((c.tc : Thread Cert.NaMetaIdeal.nD Cert.NaMetaIdeal.τ).loc Cert.NaMetaIdeal.main_arg1))
      ∧ r.2.sem = fun _ => 0)

def quiescent_NaMetaIdeal_pre_na_meta_real [hNaMetaIdeal : Cert.NaMetaIdeal.Facts] [hPre_na_meta_real : Cert.Pre_na_meta_real.Facts] : Prop :=
  ∀ (m : (ℓ : Loc Cert.NaMetaIdeal.nD Cert.NaMetaIdeal.τ Cert.NaMetaIdeal.sig) → Buf (Elt Ideal) ℓ) (g : Dev Cert.NaMetaIdeal.nD → PrngReg), Pre_NaMetaIdeal_na_meta_real m →
    θ_run (Cert.NaMetaIdeal.defs (F := Ideal)) (onTc (τ := Cert.NaMetaIdeal.τ) (Cert.NaMetaIdeal.main (F := Ideal))) ⟨m, fun _ => 0, g⟩ (fun r => (∀ c : Dev Cert.NaMetaIdeal.nD,
      r.2.mem ((c.tc : Thread Cert.NaMetaIdeal.nD Cert.NaMetaIdeal.τ).loc Cert.NaMetaIdeal.main_arg0) = m ((c.tc : Thread Cert.NaMetaIdeal.nD Cert.NaMetaIdeal.τ).loc Cert.NaMetaIdeal.main_arg0)
      ∧ r.2.mem ((c.tc : Thread Cert.NaMetaIdeal.nD Cert.NaMetaIdeal.τ).loc Cert.NaMetaIdeal.main_arg1) = m ((c.tc : Thread Cert.NaMetaIdeal.nD Cert.NaMetaIdeal.τ).loc Cert.NaMetaIdeal.main_arg1))
      ∧ r.2.sem = fun _ => 0)

def quiescent_NaMetaRefIdeal [hNaMetaRefIdeal : Cert.NaMetaRefIdeal.Facts] : Prop :=
  ∀ (m : (ℓ : Loc Cert.NaMetaRefIdeal.nD Cert.NaMetaRefIdeal.τ Cert.NaMetaRefIdeal.sig) → Buf (Elt Ideal) ℓ) (g : Dev Cert.NaMetaRefIdeal.nD → PrngReg), Pre_NaMetaRefIdeal m →
    θ_run (Cert.NaMetaRefIdeal.defs (F := Ideal)) (onTc (τ := Cert.NaMetaRefIdeal.τ) (Cert.NaMetaRefIdeal.main (F := Ideal))) ⟨m, fun _ => 0, g⟩ (fun r => (∀ c : Dev Cert.NaMetaRefIdeal.nD,
      r.2.mem ((c.tc : Thread Cert.NaMetaRefIdeal.nD Cert.NaMetaRefIdeal.τ).loc Cert.NaMetaRefIdeal.main_arg0) = m ((c.tc : Thread Cert.NaMetaRefIdeal.nD Cert.NaMetaRefIdeal.τ).loc Cert.NaMetaRefIdeal.main_arg0)
      ∧ r.2.mem ((c.tc : Thread Cert.NaMetaRefIdeal.nD Cert.NaMetaRefIdeal.τ).loc Cert.NaMetaRefIdeal.main_arg1) = m ((c.tc : Thread Cert.NaMetaRefIdeal.nD Cert.NaMetaRefIdeal.τ).loc Cert.NaMetaRefIdeal.main_arg1))
      ∧ r.2.sem = fun _ => 0)

def quiescent_NaMetaRefIdeal_pre_na_meta_real [hNaMetaRefIdeal : Cert.NaMetaRefIdeal.Facts] [hPre_na_meta_real : Cert.Pre_na_meta_real.Facts] : Prop :=
  ∀ (m : (ℓ : Loc Cert.NaMetaRefIdeal.nD Cert.NaMetaRefIdeal.τ Cert.NaMetaRefIdeal.sig) → Buf (Elt Ideal) ℓ) (g : Dev Cert.NaMetaRefIdeal.nD → PrngReg), Pre_NaMetaRefIdeal_na_meta_real m →
    θ_run (Cert.NaMetaRefIdeal.defs (F := Ideal)) (onTc (τ := Cert.NaMetaRefIdeal.τ) (Cert.NaMetaRefIdeal.main (F := Ideal))) ⟨m, fun _ => 0, g⟩ (fun r => (∀ c : Dev Cert.NaMetaRefIdeal.nD,
      r.2.mem ((c.tc : Thread Cert.NaMetaRefIdeal.nD Cert.NaMetaRefIdeal.τ).loc Cert.NaMetaRefIdeal.main_arg0) = m ((c.tc : Thread Cert.NaMetaRefIdeal.nD Cert.NaMetaRefIdeal.τ).loc Cert.NaMetaRefIdeal.main_arg0)
      ∧ r.2.mem ((c.tc : Thread Cert.NaMetaRefIdeal.nD Cert.NaMetaRefIdeal.τ).loc Cert.NaMetaRefIdeal.main_arg1) = m ((c.tc : Thread Cert.NaMetaRefIdeal.nD Cert.NaMetaRefIdeal.τ).loc Cert.NaMetaRefIdeal.main_arg1))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2))
      ∧ r.2.sem = fun _ => 0)

def quiescent_FinalNorm [hFinalNorm : Cert.FinalNorm.Facts] : Prop :=
  ∀ (m : (ℓ : Loc Cert.FinalNorm.nD Cert.FinalNorm.τ Cert.FinalNorm.sig) → Buf (Elt Bits) ℓ) (g : Dev Cert.FinalNorm.nD → PrngReg), Pre_FinalNorm m →
    θ_run (Cert.FinalNorm.defs (F := Bits)) (onTc (τ := Cert.FinalNorm.τ) (Cert.FinalNorm.main (F := Bits))) ⟨m, fun _ => 0, g⟩ (fun r => (∀ c : Dev Cert.FinalNorm.nD,
      r.2.mem ((c.tc : Thread Cert.FinalNorm.nD Cert.FinalNorm.τ).loc Cert.FinalNorm.main_arg0) = m ((c.tc : Thread Cert.FinalNorm.nD Cert.FinalNorm.τ).loc Cert.FinalNorm.main_arg0)
      ∧ r.2.mem ((c.tc : Thread Cert.FinalNorm.nD Cert.FinalNorm.τ).loc Cert.FinalNorm.main_arg1) = m ((c.tc : Thread Cert.FinalNorm.nD Cert.FinalNorm.τ).loc Cert.FinalNorm.main_arg1))
      ∧ r.2.sem = fun _ => 0)

def quiescent_FinalNormIdeal [hFinalNormIdeal : Cert.FinalNormIdeal.Facts] : Prop :=
  ∀ (m : (ℓ : Loc Cert.FinalNormIdeal.nD Cert.FinalNormIdeal.τ Cert.FinalNormIdeal.sig) → Buf (Elt Ideal) ℓ) (g : Dev Cert.FinalNormIdeal.nD → PrngReg), Pre_FinalNormIdeal m →
    θ_run (Cert.FinalNormIdeal.defs (F := Ideal)) (onTc (τ := Cert.FinalNormIdeal.τ) (Cert.FinalNormIdeal.main (F := Ideal))) ⟨m, fun _ => 0, g⟩ (fun r => (∀ c : Dev Cert.FinalNormIdeal.nD,
      r.2.mem ((c.tc : Thread Cert.FinalNormIdeal.nD Cert.FinalNormIdeal.τ).loc Cert.FinalNormIdeal.main_arg0) = m ((c.tc : Thread Cert.FinalNormIdeal.nD Cert.FinalNormIdeal.τ).loc Cert.FinalNormIdeal.main_arg0)
      ∧ r.2.mem ((c.tc : Thread Cert.FinalNormIdeal.nD Cert.FinalNormIdeal.τ).loc Cert.FinalNormIdeal.main_arg1) = m ((c.tc : Thread Cert.FinalNormIdeal.nD Cert.FinalNormIdeal.τ).loc Cert.FinalNormIdeal.main_arg1))
      ∧ r.2.sem = fun _ => 0)

def quiescent_FinalNormRefIdeal [hFinalNormRefIdeal : Cert.FinalNormRefIdeal.Facts] : Prop :=
  ∀ (m : (ℓ : Loc Cert.FinalNormRefIdeal.nD Cert.FinalNormRefIdeal.τ Cert.FinalNormRefIdeal.sig) → Buf (Elt Ideal) ℓ) (g : Dev Cert.FinalNormRefIdeal.nD → PrngReg), Pre_FinalNormRefIdeal m →
    θ_run (Cert.FinalNormRefIdeal.defs (F := Ideal)) (onTc (τ := Cert.FinalNormRefIdeal.τ) (Cert.FinalNormRefIdeal.main (F := Ideal))) ⟨m, fun _ => 0, g⟩ (fun r => (∀ c : Dev Cert.FinalNormRefIdeal.nD,
      r.2.mem ((c.tc : Thread Cert.FinalNormRefIdeal.nD Cert.FinalNormRefIdeal.τ).loc Cert.FinalNormRefIdeal.main_arg0) = m ((c.tc : Thread Cert.FinalNormRefIdeal.nD Cert.FinalNormRefIdeal.τ).loc Cert.FinalNormRefIdeal.main_arg0)
      ∧ r.2.mem ((c.tc : Thread Cert.FinalNormRefIdeal.nD Cert.FinalNormRefIdeal.τ).loc Cert.FinalNormRefIdeal.main_arg1) = m ((c.tc : Thread Cert.FinalNormRefIdeal.nD Cert.FinalNormRefIdeal.τ).loc Cert.FinalNormRefIdeal.main_arg1))
      ∧ r.2.sem = fun _ => 0)

def quiescent_ShortConv [hShortConv : Cert.ShortConv.Facts] : Prop :=
  ∀ (m : (ℓ : Loc Cert.ShortConv.nD Cert.ShortConv.τ Cert.ShortConv.sig) → Buf (Elt Bits) ℓ) (g : Dev Cert.ShortConv.nD → PrngReg), Pre_ShortConv m →
    θ_run (Cert.ShortConv.defs (F := Bits)) (onTc (τ := Cert.ShortConv.τ) (Cert.ShortConv.main (F := Bits))) ⟨m, fun _ => 0, g⟩ (fun r => (∀ c : Dev Cert.ShortConv.nD,
      r.2.mem ((c.tc : Thread Cert.ShortConv.nD Cert.ShortConv.τ).loc Cert.ShortConv.main_arg0) = m ((c.tc : Thread Cert.ShortConv.nD Cert.ShortConv.τ).loc Cert.ShortConv.main_arg0)
      ∧ r.2.mem ((c.tc : Thread Cert.ShortConv.nD Cert.ShortConv.τ).loc Cert.ShortConv.main_arg1) = m ((c.tc : Thread Cert.ShortConv.nD Cert.ShortConv.τ).loc Cert.ShortConv.main_arg1)
      ∧ r.2.mem ((c.tc : Thread Cert.ShortConv.nD Cert.ShortConv.τ).loc Cert.ShortConv.main_arg2) = m ((c.tc : Thread Cert.ShortConv.nD Cert.ShortConv.τ).loc Cert.ShortConv.main_arg2))
      ∧ r.2.sem = fun _ => 0)

def quiescent_ShortConvIdeal [hShortConvIdeal : Cert.ShortConvIdeal.Facts] : Prop :=
  ∀ (m : (ℓ : Loc Cert.ShortConvIdeal.nD Cert.ShortConvIdeal.τ Cert.ShortConvIdeal.sig) → Buf (Elt Ideal) ℓ) (g : Dev Cert.ShortConvIdeal.nD → PrngReg), Pre_ShortConvIdeal m →
    θ_run (Cert.ShortConvIdeal.defs (F := Ideal)) (onTc (τ := Cert.ShortConvIdeal.τ) (Cert.ShortConvIdeal.main (F := Ideal))) ⟨m, fun _ => 0, g⟩ (fun r => (∀ c : Dev Cert.ShortConvIdeal.nD,
      r.2.mem ((c.tc : Thread Cert.ShortConvIdeal.nD Cert.ShortConvIdeal.τ).loc Cert.ShortConvIdeal.main_arg0) = m ((c.tc : Thread Cert.ShortConvIdeal.nD Cert.ShortConvIdeal.τ).loc Cert.ShortConvIdeal.main_arg0)
      ∧ r.2.mem ((c.tc : Thread Cert.ShortConvIdeal.nD Cert.ShortConvIdeal.τ).loc Cert.ShortConvIdeal.main_arg1) = m ((c.tc : Thread Cert.ShortConvIdeal.nD Cert.ShortConvIdeal.τ).loc Cert.ShortConvIdeal.main_arg1)
      ∧ r.2.mem ((c.tc : Thread Cert.ShortConvIdeal.nD Cert.ShortConvIdeal.τ).loc Cert.ShortConvIdeal.main_arg2) = m ((c.tc : Thread Cert.ShortConvIdeal.nD Cert.ShortConvIdeal.τ).loc Cert.ShortConvIdeal.main_arg2))
      ∧ r.2.sem = fun _ => 0)

def quiescent_ShortConvRefIdeal [hShortConvRefIdeal : Cert.ShortConvRefIdeal.Facts] : Prop :=
  ∀ (m : (ℓ : Loc Cert.ShortConvRefIdeal.nD Cert.ShortConvRefIdeal.τ Cert.ShortConvRefIdeal.sig) → Buf (Elt Ideal) ℓ) (g : Dev Cert.ShortConvRefIdeal.nD → PrngReg), Pre_ShortConvRefIdeal m →
    θ_run (Cert.ShortConvRefIdeal.defs (F := Ideal)) (onTc (τ := Cert.ShortConvRefIdeal.τ) (Cert.ShortConvRefIdeal.main (F := Ideal))) ⟨m, fun _ => 0, g⟩ (fun r => (∀ c : Dev Cert.ShortConvRefIdeal.nD,
      r.2.mem ((c.tc : Thread Cert.ShortConvRefIdeal.nD Cert.ShortConvRefIdeal.τ).loc Cert.ShortConvRefIdeal.main_arg0) = m ((c.tc : Thread Cert.ShortConvRefIdeal.nD Cert.ShortConvRefIdeal.τ).loc Cert.ShortConvRefIdeal.main_arg0)
      ∧ r.2.mem ((c.tc : Thread Cert.ShortConvRefIdeal.nD Cert.ShortConvRefIdeal.τ).loc Cert.ShortConvRefIdeal.main_arg1) = m ((c.tc : Thread Cert.ShortConvRefIdeal.nD Cert.ShortConvRefIdeal.τ).loc Cert.ShortConvRefIdeal.main_arg1)
      ∧ r.2.mem ((c.tc : Thread Cert.ShortConvRefIdeal.nD Cert.ShortConvRefIdeal.τ).loc Cert.ShortConvRefIdeal.main_arg2) = m ((c.tc : Thread Cert.ShortConvRefIdeal.nD Cert.ShortConvRefIdeal.τ).loc Cert.ShortConvRefIdeal.main_arg2))
      ∧ r.2.sem = fun _ => 0)

def quiescent_Filter [hFilter : Cert.Filter.Facts] : Prop :=
  ∀ (m : (ℓ : Loc Cert.Filter.nD Cert.Filter.τ Cert.Filter.sig) → Buf (Elt Bits) ℓ) (g : Dev Cert.Filter.nD → PrngReg), Pre_Filter m →
    θ_run (Cert.Filter.defs (F := Bits)) (onTc (τ := Cert.Filter.τ) (Cert.Filter.main (F := Bits))) ⟨m, fun _ => 0, g⟩ (fun r => (∀ c : Dev Cert.Filter.nD,
      r.2.mem ((c.tc : Thread Cert.Filter.nD Cert.Filter.τ).loc Cert.Filter.main_arg0) = m ((c.tc : Thread Cert.Filter.nD Cert.Filter.τ).loc Cert.Filter.main_arg0)
      ∧ r.2.mem ((c.tc : Thread Cert.Filter.nD Cert.Filter.τ).loc Cert.Filter.main_arg1) = m ((c.tc : Thread Cert.Filter.nD Cert.Filter.τ).loc Cert.Filter.main_arg1)
      ∧ r.2.mem ((c.tc : Thread Cert.Filter.nD Cert.Filter.τ).loc Cert.Filter.main_arg2) = m ((c.tc : Thread Cert.Filter.nD Cert.Filter.τ).loc Cert.Filter.main_arg2)
      ∧ r.2.mem ((c.tc : Thread Cert.Filter.nD Cert.Filter.τ).loc Cert.Filter.main_arg3) = m ((c.tc : Thread Cert.Filter.nD Cert.Filter.τ).loc Cert.Filter.main_arg3)
      ∧ r.2.mem ((c.tc : Thread Cert.Filter.nD Cert.Filter.τ).loc Cert.Filter.main_arg4) = m ((c.tc : Thread Cert.Filter.nD Cert.Filter.τ).loc Cert.Filter.main_arg4)
      ∧ r.2.mem ((c.tc : Thread Cert.Filter.nD Cert.Filter.τ).loc Cert.Filter.main_arg5) = m ((c.tc : Thread Cert.Filter.nD Cert.Filter.τ).loc Cert.Filter.main_arg5)
      ∧ r.2.mem ((c.tc : Thread Cert.Filter.nD Cert.Filter.τ).loc Cert.Filter.main_arg6) = m ((c.tc : Thread Cert.Filter.nD Cert.Filter.τ).loc Cert.Filter.main_arg6)
      ∧ r.2.mem ((c.tc : Thread Cert.Filter.nD Cert.Filter.τ).loc Cert.Filter.main_arg7) = m ((c.tc : Thread Cert.Filter.nD Cert.Filter.τ).loc Cert.Filter.main_arg7)
      ∧ r.2.mem ((c.tc : Thread Cert.Filter.nD Cert.Filter.τ).loc Cert.Filter.main_arg8) = m ((c.tc : Thread Cert.Filter.nD Cert.Filter.τ).loc Cert.Filter.main_arg8)
      ∧ r.2.mem ((c.tc : Thread Cert.Filter.nD Cert.Filter.τ).loc Cert.Filter.main_arg9) = m ((c.tc : Thread Cert.Filter.nD Cert.Filter.τ).loc Cert.Filter.main_arg9))
      ∧ r.2.sem = fun _ => 0)

def quiescent_FilterIdeal [hFilterIdeal : Cert.FilterIdeal.Facts] : Prop :=
  ∀ (m : (ℓ : Loc Cert.FilterIdeal.nD Cert.FilterIdeal.τ Cert.FilterIdeal.sig) → Buf (Elt Ideal) ℓ) (g : Dev Cert.FilterIdeal.nD → PrngReg), Pre_FilterIdeal m →
    θ_run (Cert.FilterIdeal.defs (F := Ideal)) (onTc (τ := Cert.FilterIdeal.τ) (Cert.FilterIdeal.main (F := Ideal))) ⟨m, fun _ => 0, g⟩ (fun r => (∀ c : Dev Cert.FilterIdeal.nD,
      r.2.mem ((c.tc : Thread Cert.FilterIdeal.nD Cert.FilterIdeal.τ).loc Cert.FilterIdeal.main_arg0) = m ((c.tc : Thread Cert.FilterIdeal.nD Cert.FilterIdeal.τ).loc Cert.FilterIdeal.main_arg0)
      ∧ r.2.mem ((c.tc : Thread Cert.FilterIdeal.nD Cert.FilterIdeal.τ).loc Cert.FilterIdeal.main_arg1) = m ((c.tc : Thread Cert.FilterIdeal.nD Cert.FilterIdeal.τ).loc Cert.FilterIdeal.main_arg1)
      ∧ r.2.mem ((c.tc : Thread Cert.FilterIdeal.nD Cert.FilterIdeal.τ).loc Cert.FilterIdeal.main_arg2) = m ((c.tc : Thread Cert.FilterIdeal.nD Cert.FilterIdeal.τ).loc Cert.FilterIdeal.main_arg2)
      ∧ r.2.mem ((c.tc : Thread Cert.FilterIdeal.nD Cert.FilterIdeal.τ).loc Cert.FilterIdeal.main_arg3) = m ((c.tc : Thread Cert.FilterIdeal.nD Cert.FilterIdeal.τ).loc Cert.FilterIdeal.main_arg3)
      ∧ r.2.mem ((c.tc : Thread Cert.FilterIdeal.nD Cert.FilterIdeal.τ).loc Cert.FilterIdeal.main_arg4) = m ((c.tc : Thread Cert.FilterIdeal.nD Cert.FilterIdeal.τ).loc Cert.FilterIdeal.main_arg4)
      ∧ r.2.mem ((c.tc : Thread Cert.FilterIdeal.nD Cert.FilterIdeal.τ).loc Cert.FilterIdeal.main_arg5) = m ((c.tc : Thread Cert.FilterIdeal.nD Cert.FilterIdeal.τ).loc Cert.FilterIdeal.main_arg5)
      ∧ r.2.mem ((c.tc : Thread Cert.FilterIdeal.nD Cert.FilterIdeal.τ).loc Cert.FilterIdeal.main_arg6) = m ((c.tc : Thread Cert.FilterIdeal.nD Cert.FilterIdeal.τ).loc Cert.FilterIdeal.main_arg6)
      ∧ r.2.mem ((c.tc : Thread Cert.FilterIdeal.nD Cert.FilterIdeal.τ).loc Cert.FilterIdeal.main_arg7) = m ((c.tc : Thread Cert.FilterIdeal.nD Cert.FilterIdeal.τ).loc Cert.FilterIdeal.main_arg7)
      ∧ r.2.mem ((c.tc : Thread Cert.FilterIdeal.nD Cert.FilterIdeal.τ).loc Cert.FilterIdeal.main_arg8) = m ((c.tc : Thread Cert.FilterIdeal.nD Cert.FilterIdeal.τ).loc Cert.FilterIdeal.main_arg8)
      ∧ r.2.mem ((c.tc : Thread Cert.FilterIdeal.nD Cert.FilterIdeal.τ).loc Cert.FilterIdeal.main_arg9) = m ((c.tc : Thread Cert.FilterIdeal.nD Cert.FilterIdeal.τ).loc Cert.FilterIdeal.main_arg9))
      ∧ r.2.sem = fun _ => 0)

def quiescent_FilterIdeal_pre_filter_real [hFilterIdeal : Cert.FilterIdeal.Facts] [hPre_filter_real : Cert.Pre_filter_real.Facts] : Prop :=
  ∀ (m : (ℓ : Loc Cert.FilterIdeal.nD Cert.FilterIdeal.τ Cert.FilterIdeal.sig) → Buf (Elt Ideal) ℓ) (g : Dev Cert.FilterIdeal.nD → PrngReg), Pre_FilterIdeal_filter_real m →
    θ_run (Cert.FilterIdeal.defs (F := Ideal)) (onTc (τ := Cert.FilterIdeal.τ) (Cert.FilterIdeal.main (F := Ideal))) ⟨m, fun _ => 0, g⟩ (fun r => (∀ c : Dev Cert.FilterIdeal.nD,
      r.2.mem ((c.tc : Thread Cert.FilterIdeal.nD Cert.FilterIdeal.τ).loc Cert.FilterIdeal.main_arg0) = m ((c.tc : Thread Cert.FilterIdeal.nD Cert.FilterIdeal.τ).loc Cert.FilterIdeal.main_arg0)
      ∧ r.2.mem ((c.tc : Thread Cert.FilterIdeal.nD Cert.FilterIdeal.τ).loc Cert.FilterIdeal.main_arg1) = m ((c.tc : Thread Cert.FilterIdeal.nD Cert.FilterIdeal.τ).loc Cert.FilterIdeal.main_arg1)
      ∧ r.2.mem ((c.tc : Thread Cert.FilterIdeal.nD Cert.FilterIdeal.τ).loc Cert.FilterIdeal.main_arg2) = m ((c.tc : Thread Cert.FilterIdeal.nD Cert.FilterIdeal.τ).loc Cert.FilterIdeal.main_arg2)
      ∧ r.2.mem ((c.tc : Thread Cert.FilterIdeal.nD Cert.FilterIdeal.τ).loc Cert.FilterIdeal.main_arg3) = m ((c.tc : Thread Cert.FilterIdeal.nD Cert.FilterIdeal.τ).loc Cert.FilterIdeal.main_arg3)
      ∧ r.2.mem ((c.tc : Thread Cert.FilterIdeal.nD Cert.FilterIdeal.τ).loc Cert.FilterIdeal.main_arg4) = m ((c.tc : Thread Cert.FilterIdeal.nD Cert.FilterIdeal.τ).loc Cert.FilterIdeal.main_arg4)
      ∧ r.2.mem ((c.tc : Thread Cert.FilterIdeal.nD Cert.FilterIdeal.τ).loc Cert.FilterIdeal.main_arg5) = m ((c.tc : Thread Cert.FilterIdeal.nD Cert.FilterIdeal.τ).loc Cert.FilterIdeal.main_arg5)
      ∧ r.2.mem ((c.tc : Thread Cert.FilterIdeal.nD Cert.FilterIdeal.τ).loc Cert.FilterIdeal.main_arg6) = m ((c.tc : Thread Cert.FilterIdeal.nD Cert.FilterIdeal.τ).loc Cert.FilterIdeal.main_arg6)
      ∧ r.2.mem ((c.tc : Thread Cert.FilterIdeal.nD Cert.FilterIdeal.τ).loc Cert.FilterIdeal.main_arg7) = m ((c.tc : Thread Cert.FilterIdeal.nD Cert.FilterIdeal.τ).loc Cert.FilterIdeal.main_arg7)
      ∧ r.2.mem ((c.tc : Thread Cert.FilterIdeal.nD Cert.FilterIdeal.τ).loc Cert.FilterIdeal.main_arg8) = m ((c.tc : Thread Cert.FilterIdeal.nD Cert.FilterIdeal.τ).loc Cert.FilterIdeal.main_arg8)
      ∧ r.2.mem ((c.tc : Thread Cert.FilterIdeal.nD Cert.FilterIdeal.τ).loc Cert.FilterIdeal.main_arg9) = m ((c.tc : Thread Cert.FilterIdeal.nD Cert.FilterIdeal.τ).loc Cert.FilterIdeal.main_arg9))
      ∧ r.2.sem = fun _ => 0)

def quiescent_FilterRefIdeal [hFilterRefIdeal : Cert.FilterRefIdeal.Facts] : Prop :=
  ∀ (m : (ℓ : Loc Cert.FilterRefIdeal.nD Cert.FilterRefIdeal.τ Cert.FilterRefIdeal.sig) → Buf (Elt Ideal) ℓ) (g : Dev Cert.FilterRefIdeal.nD → PrngReg), Pre_FilterRefIdeal m →
    θ_run (Cert.FilterRefIdeal.defs (F := Ideal)) (onTc (τ := Cert.FilterRefIdeal.τ) (Cert.FilterRefIdeal.main (F := Ideal))) ⟨m, fun _ => 0, g⟩ (fun r => (∀ c : Dev Cert.FilterRefIdeal.nD,
      r.2.mem ((c.tc : Thread Cert.FilterRefIdeal.nD Cert.FilterRefIdeal.τ).loc Cert.FilterRefIdeal.main_arg0) = m ((c.tc : Thread Cert.FilterRefIdeal.nD Cert.FilterRefIdeal.τ).loc Cert.FilterRefIdeal.main_arg0)
      ∧ r.2.mem ((c.tc : Thread Cert.FilterRefIdeal.nD Cert.FilterRefIdeal.τ).loc Cert.FilterRefIdeal.main_arg1) = m ((c.tc : Thread Cert.FilterRefIdeal.nD Cert.FilterRefIdeal.τ).loc Cert.FilterRefIdeal.main_arg1)
      ∧ r.2.mem ((c.tc : Thread Cert.FilterRefIdeal.nD Cert.FilterRefIdeal.τ).loc Cert.FilterRefIdeal.main_arg2) = m ((c.tc : Thread Cert.FilterRefIdeal.nD Cert.FilterRefIdeal.τ).loc Cert.FilterRefIdeal.main_arg2)
      ∧ r.2.mem ((c.tc : Thread Cert.FilterRefIdeal.nD Cert.FilterRefIdeal.τ).loc Cert.FilterRefIdeal.main_arg3) = m ((c.tc : Thread Cert.FilterRefIdeal.nD Cert.FilterRefIdeal.τ).loc Cert.FilterRefIdeal.main_arg3)
      ∧ r.2.mem ((c.tc : Thread Cert.FilterRefIdeal.nD Cert.FilterRefIdeal.τ).loc Cert.FilterRefIdeal.main_arg4) = m ((c.tc : Thread Cert.FilterRefIdeal.nD Cert.FilterRefIdeal.τ).loc Cert.FilterRefIdeal.main_arg4)
      ∧ r.2.mem ((c.tc : Thread Cert.FilterRefIdeal.nD Cert.FilterRefIdeal.τ).loc Cert.FilterRefIdeal.main_arg5) = m ((c.tc : Thread Cert.FilterRefIdeal.nD Cert.FilterRefIdeal.τ).loc Cert.FilterRefIdeal.main_arg5)
      ∧ r.2.mem ((c.tc : Thread Cert.FilterRefIdeal.nD Cert.FilterRefIdeal.τ).loc Cert.FilterRefIdeal.main_arg6) = m ((c.tc : Thread Cert.FilterRefIdeal.nD Cert.FilterRefIdeal.τ).loc Cert.FilterRefIdeal.main_arg6)
      ∧ r.2.mem ((c.tc : Thread Cert.FilterRefIdeal.nD Cert.FilterRefIdeal.τ).loc Cert.FilterRefIdeal.main_arg7) = m ((c.tc : Thread Cert.FilterRefIdeal.nD Cert.FilterRefIdeal.τ).loc Cert.FilterRefIdeal.main_arg7)
      ∧ r.2.mem ((c.tc : Thread Cert.FilterRefIdeal.nD Cert.FilterRefIdeal.τ).loc Cert.FilterRefIdeal.main_arg8) = m ((c.tc : Thread Cert.FilterRefIdeal.nD Cert.FilterRefIdeal.τ).loc Cert.FilterRefIdeal.main_arg8)
      ∧ r.2.mem ((c.tc : Thread Cert.FilterRefIdeal.nD Cert.FilterRefIdeal.τ).loc Cert.FilterRefIdeal.main_arg9) = m ((c.tc : Thread Cert.FilterRefIdeal.nD Cert.FilterRefIdeal.τ).loc Cert.FilterRefIdeal.main_arg9))
      ∧ r.2.sem = fun _ => 0)

def quiescent_FilterRefIdeal_pre_filter_real [hFilterRefIdeal : Cert.FilterRefIdeal.Facts] [hPre_filter_real : Cert.Pre_filter_real.Facts] : Prop :=
  ∀ (m : (ℓ : Loc Cert.FilterRefIdeal.nD Cert.FilterRefIdeal.τ Cert.FilterRefIdeal.sig) → Buf (Elt Ideal) ℓ) (g : Dev Cert.FilterRefIdeal.nD → PrngReg), Pre_FilterRefIdeal_filter_real m →
    θ_run (Cert.FilterRefIdeal.defs (F := Ideal)) (onTc (τ := Cert.FilterRefIdeal.τ) (Cert.FilterRefIdeal.main (F := Ideal))) ⟨m, fun _ => 0, g⟩ (fun r => (∀ c : Dev Cert.FilterRefIdeal.nD,
      r.2.mem ((c.tc : Thread Cert.FilterRefIdeal.nD Cert.FilterRefIdeal.τ).loc Cert.FilterRefIdeal.main_arg0) = m ((c.tc : Thread Cert.FilterRefIdeal.nD Cert.FilterRefIdeal.τ).loc Cert.FilterRefIdeal.main_arg0)
      ∧ r.2.mem ((c.tc : Thread Cert.FilterRefIdeal.nD Cert.FilterRefIdeal.τ).loc Cert.FilterRefIdeal.main_arg1) = m ((c.tc : Thread Cert.FilterRefIdeal.nD Cert.FilterRefIdeal.τ).loc Cert.FilterRefIdeal.main_arg1)
      ∧ r.2.mem ((c.tc : Thread Cert.FilterRefIdeal.nD Cert.FilterRefIdeal.τ).loc Cert.FilterRefIdeal.main_arg2) = m ((c.tc : Thread Cert.FilterRefIdeal.nD Cert.FilterRefIdeal.τ).loc Cert.FilterRefIdeal.main_arg2)
      ∧ r.2.mem ((c.tc : Thread Cert.FilterRefIdeal.nD Cert.FilterRefIdeal.τ).loc Cert.FilterRefIdeal.main_arg3) = m ((c.tc : Thread Cert.FilterRefIdeal.nD Cert.FilterRefIdeal.τ).loc Cert.FilterRefIdeal.main_arg3)
      ∧ r.2.mem ((c.tc : Thread Cert.FilterRefIdeal.nD Cert.FilterRefIdeal.τ).loc Cert.FilterRefIdeal.main_arg4) = m ((c.tc : Thread Cert.FilterRefIdeal.nD Cert.FilterRefIdeal.τ).loc Cert.FilterRefIdeal.main_arg4)
      ∧ r.2.mem ((c.tc : Thread Cert.FilterRefIdeal.nD Cert.FilterRefIdeal.τ).loc Cert.FilterRefIdeal.main_arg5) = m ((c.tc : Thread Cert.FilterRefIdeal.nD Cert.FilterRefIdeal.τ).loc Cert.FilterRefIdeal.main_arg5)
      ∧ r.2.mem ((c.tc : Thread Cert.FilterRefIdeal.nD Cert.FilterRefIdeal.τ).loc Cert.FilterRefIdeal.main_arg6) = m ((c.tc : Thread Cert.FilterRefIdeal.nD Cert.FilterRefIdeal.τ).loc Cert.FilterRefIdeal.main_arg6)
      ∧ r.2.mem ((c.tc : Thread Cert.FilterRefIdeal.nD Cert.FilterRefIdeal.τ).loc Cert.FilterRefIdeal.main_arg7) = m ((c.tc : Thread Cert.FilterRefIdeal.nD Cert.FilterRefIdeal.τ).loc Cert.FilterRefIdeal.main_arg7)
      ∧ r.2.mem ((c.tc : Thread Cert.FilterRefIdeal.nD Cert.FilterRefIdeal.τ).loc Cert.FilterRefIdeal.main_arg8) = m ((c.tc : Thread Cert.FilterRefIdeal.nD Cert.FilterRefIdeal.τ).loc Cert.FilterRefIdeal.main_arg8)
      ∧ r.2.mem ((c.tc : Thread Cert.FilterRefIdeal.nD Cert.FilterRefIdeal.τ).loc Cert.FilterRefIdeal.main_arg9) = m ((c.tc : Thread Cert.FilterRefIdeal.nD Cert.FilterRefIdeal.τ).loc Cert.FilterRefIdeal.main_arg9))
      ∧ r.2.sem = fun _ => 0)

def preserves_NaMain_NaMainIdeal : Prop :=
  True

def algebraic_NaMainIdeal_NaMainRefIdeal_pre_na_main_real [hNaMainIdeal : Cert.NaMainIdeal.Facts] [hNaMainRefIdeal : Cert.NaMainRefIdeal.Facts] [hPre_na_main_real : Cert.Pre_na_main_real.Facts] : Prop :=
  ∀ (m : (ℓ : Loc Cert.NaMainIdeal.nD Cert.NaMainIdeal.τ Cert.NaMainIdeal.sig) → Buf (Elt Ideal) ℓ) (g : Dev Cert.NaMainIdeal.nD → PrngReg)
    (m' : (ℓ : Loc Cert.NaMainRefIdeal.nD Cert.NaMainRefIdeal.τ Cert.NaMainRefIdeal.sig) → Buf (Elt Ideal) ℓ) (g' : Dev Cert.NaMainRefIdeal.nD → PrngReg), Pre_NaMainIdeal_na_main_real m →
    (∀ c : Dev Cert.NaMainIdeal.nD,
      m' ((c.tc : Thread Cert.NaMainRefIdeal.nD Cert.NaMainRefIdeal.τ).loc Cert.NaMainRefIdeal.main_arg0) = m ((c.tc : Thread Cert.NaMainIdeal.nD Cert.NaMainIdeal.τ).loc Cert.NaMainIdeal.main_arg0)
      ∧ m' ((c.tc : Thread Cert.NaMainRefIdeal.nD Cert.NaMainRefIdeal.τ).loc Cert.NaMainRefIdeal.main_arg1) = m ((c.tc : Thread Cert.NaMainIdeal.nD Cert.NaMainIdeal.τ).loc Cert.NaMainIdeal.main_arg1)
      ∧ m' ((c.tc : Thread Cert.NaMainRefIdeal.nD Cert.NaMainRefIdeal.τ).loc Cert.NaMainRefIdeal.main_arg2) = m ((c.tc : Thread Cert.NaMainIdeal.nD Cert.NaMainIdeal.τ).loc Cert.NaMainIdeal.main_arg2)) →
    ∃ (v0 : (c : Dev Cert.NaMainIdeal.nD) → Buf (Elt Ideal) ((c.tc : Thread Cert.NaMainIdeal.nD Cert.NaMainIdeal.τ).loc Cert.NaMainIdeal.main_v19)),
      θ_run (Cert.NaMainIdeal.defs (F := Ideal)) (onTc (τ := Cert.NaMainIdeal.τ) (Cert.NaMainIdeal.main (F := Ideal))) ⟨m, fun _ => 0, g⟩ (fun r => ∀ c : Dev Cert.NaMainIdeal.nD,
          r.2.mem ((c.tc : Thread Cert.NaMainIdeal.nD Cert.NaMainIdeal.τ).loc Cert.NaMainIdeal.main_v19) = v0 c
          ∧ r.2.mem ((c.tc : Thread Cert.NaMainIdeal.nD Cert.NaMainIdeal.τ).loc Cert.NaMainIdeal.main_arg0) = m ((c.tc : Thread Cert.NaMainIdeal.nD Cert.NaMainIdeal.τ).loc Cert.NaMainIdeal.main_arg0)
          ∧ r.2.mem ((c.tc : Thread Cert.NaMainIdeal.nD Cert.NaMainIdeal.τ).loc Cert.NaMainIdeal.main_arg1) = m ((c.tc : Thread Cert.NaMainIdeal.nD Cert.NaMainIdeal.τ).loc Cert.NaMainIdeal.main_arg1)
          ∧ r.2.mem ((c.tc : Thread Cert.NaMainIdeal.nD Cert.NaMainIdeal.τ).loc Cert.NaMainIdeal.main_arg2) = m ((c.tc : Thread Cert.NaMainIdeal.nD Cert.NaMainIdeal.τ).loc Cert.NaMainIdeal.main_arg2))
      ∧ θ_run (Cert.NaMainRefIdeal.defs (F := Ideal)) (onTc (τ := Cert.NaMainRefIdeal.τ) (Cert.NaMainRefIdeal.main (F := Ideal))) ⟨m', fun _ => 0, g'⟩ (fun r => ∀ c : Dev Cert.NaMainRefIdeal.nD,
          r.2.mem ((c.tc : Thread Cert.NaMainRefIdeal.nD Cert.NaMainRefIdeal.τ).loc Cert.NaMainRefIdeal.main_v127) = v0 c
          ∧ r.2.mem ((c.tc : Thread Cert.NaMainRefIdeal.nD Cert.NaMainRefIdeal.τ).loc Cert.NaMainRefIdeal.main_arg0) = m' ((c.tc : Thread Cert.NaMainRefIdeal.nD Cert.NaMainRefIdeal.τ).loc Cert.NaMainRefIdeal.main_arg0)
          ∧ r.2.mem ((c.tc : Thread Cert.NaMainRefIdeal.nD Cert.NaMainRefIdeal.τ).loc Cert.NaMainRefIdeal.main_arg1) = m' ((c.tc : Thread Cert.NaMainRefIdeal.nD Cert.NaMainRefIdeal.τ).loc Cert.NaMainRefIdeal.main_arg1)
          ∧ r.2.mem ((c.tc : Thread Cert.NaMainRefIdeal.nD Cert.NaMainRefIdeal.τ).loc Cert.NaMainRefIdeal.main_arg2) = m' ((c.tc : Thread Cert.NaMainRefIdeal.nD Cert.NaMainRefIdeal.τ).loc Cert.NaMainRefIdeal.main_arg2))

def preserves_NaMeta_NaMetaIdeal : Prop :=
  True

def algebraic_NaMetaIdeal_NaMetaRefIdeal_pre_na_meta_real [hNaMetaIdeal : Cert.NaMetaIdeal.Facts] [hNaMetaRefIdeal : Cert.NaMetaRefIdeal.Facts] [hPre_na_meta_real : Cert.Pre_na_meta_real.Facts] : Prop :=
  ∀ (m : (ℓ : Loc Cert.NaMetaIdeal.nD Cert.NaMetaIdeal.τ Cert.NaMetaIdeal.sig) → Buf (Elt Ideal) ℓ) (g : Dev Cert.NaMetaIdeal.nD → PrngReg)
    (m' : (ℓ : Loc Cert.NaMetaRefIdeal.nD Cert.NaMetaRefIdeal.τ Cert.NaMetaRefIdeal.sig) → Buf (Elt Ideal) ℓ) (g' : Dev Cert.NaMetaRefIdeal.nD → PrngReg), Pre_NaMetaIdeal_na_meta_real m →
    (∀ c : Dev Cert.NaMetaIdeal.nD,
      m' ((c.tc : Thread Cert.NaMetaRefIdeal.nD Cert.NaMetaRefIdeal.τ).loc Cert.NaMetaRefIdeal.main_arg0) = m ((c.tc : Thread Cert.NaMetaIdeal.nD Cert.NaMetaIdeal.τ).loc Cert.NaMetaIdeal.main_arg0)
      ∧ m' ((c.tc : Thread Cert.NaMetaRefIdeal.nD Cert.NaMetaRefIdeal.τ).loc Cert.NaMetaRefIdeal.main_arg1) = m ((c.tc : Thread Cert.NaMetaIdeal.nD Cert.NaMetaIdeal.τ).loc Cert.NaMetaIdeal.main_arg1)) →
    ∃ (v0 : (c : Dev Cert.NaMetaIdeal.nD) → Buf (Elt Ideal) ((c.tc : Thread Cert.NaMetaIdeal.nD Cert.NaMetaIdeal.τ).loc Cert.NaMetaIdeal.main_v2)),
      θ_run (Cert.NaMetaIdeal.defs (F := Ideal)) (onTc (τ := Cert.NaMetaIdeal.τ) (Cert.NaMetaIdeal.main (F := Ideal))) ⟨m, fun _ => 0, g⟩ (fun r => ∀ c : Dev Cert.NaMetaIdeal.nD,
          r.2.mem ((c.tc : Thread Cert.NaMetaIdeal.nD Cert.NaMetaIdeal.τ).loc Cert.NaMetaIdeal.main_v2) = v0 c
          ∧ r.2.mem ((c.tc : Thread Cert.NaMetaIdeal.nD Cert.NaMetaIdeal.τ).loc Cert.NaMetaIdeal.main_arg0) = m ((c.tc : Thread Cert.NaMetaIdeal.nD Cert.NaMetaIdeal.τ).loc Cert.NaMetaIdeal.main_arg0)
          ∧ r.2.mem ((c.tc : Thread Cert.NaMetaIdeal.nD Cert.NaMetaIdeal.τ).loc Cert.NaMetaIdeal.main_arg1) = m ((c.tc : Thread Cert.NaMetaIdeal.nD Cert.NaMetaIdeal.τ).loc Cert.NaMetaIdeal.main_arg1))
      ∧ θ_run (Cert.NaMetaRefIdeal.defs (F := Ideal)) (onTc (τ := Cert.NaMetaRefIdeal.τ) (Cert.NaMetaRefIdeal.main (F := Ideal))) ⟨m', fun _ => 0, g'⟩ (fun r => ∀ c : Dev Cert.NaMetaRefIdeal.nD,
          r.2.mem ((c.tc : Thread Cert.NaMetaRefIdeal.nD Cert.NaMetaRefIdeal.τ).loc Cert.NaMetaRefIdeal.main_v32) = v0 c
          ∧ r.2.mem ((c.tc : Thread Cert.NaMetaRefIdeal.nD Cert.NaMetaRefIdeal.τ).loc Cert.NaMetaRefIdeal.main_arg0) = m' ((c.tc : Thread Cert.NaMetaRefIdeal.nD Cert.NaMetaRefIdeal.τ).loc Cert.NaMetaRefIdeal.main_arg0)
          ∧ r.2.mem ((c.tc : Thread Cert.NaMetaRefIdeal.nD Cert.NaMetaRefIdeal.τ).loc Cert.NaMetaRefIdeal.main_arg1) = m' ((c.tc : Thread Cert.NaMetaRefIdeal.nD Cert.NaMetaRefIdeal.τ).loc Cert.NaMetaRefIdeal.main_arg1))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)) →
    ∃ (v0 : (c : Dev Cert.InProjIdeal.nD) → Buf (Elt Ideal) ((c.tc : Thread Cert.InProjIdeal.nD Cert.InProjIdeal.τ).loc Cert.InProjIdeal.main_v2)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v2) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v13) = v0 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)) →
    ∃ (v0 : (c : Dev Cert.MergeIdeal.nD) → Buf (Elt Ideal) ((c.tc : Thread Cert.MergeIdeal.nD Cert.MergeIdeal.τ).loc Cert.MergeIdeal.main_v3)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v3) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v25) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)) →
    ∃ (v0 : (c : Dev Cert.OutProjIdeal.nD) → Buf (Elt Ideal) ((c.tc : Thread Cert.OutProjIdeal.nD Cert.OutProjIdeal.τ).loc Cert.OutProjIdeal.main_v1)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v1) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v2) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2))

def preserves_FinalNorm_FinalNormIdeal : Prop :=
  True

def algebraic_FinalNormIdeal_FinalNormRefIdeal [hFinalNormIdeal : Cert.FinalNormIdeal.Facts] [hFinalNormRefIdeal : Cert.FinalNormRefIdeal.Facts] : Prop :=
  ∀ (m : (ℓ : Loc Cert.FinalNormIdeal.nD Cert.FinalNormIdeal.τ Cert.FinalNormIdeal.sig) → Buf (Elt Ideal) ℓ) (g : Dev Cert.FinalNormIdeal.nD → PrngReg)
    (m' : (ℓ : Loc Cert.FinalNormRefIdeal.nD Cert.FinalNormRefIdeal.τ Cert.FinalNormRefIdeal.sig) → Buf (Elt Ideal) ℓ) (g' : Dev Cert.FinalNormRefIdeal.nD → PrngReg), Pre_FinalNormIdeal m →
    (∀ c : Dev Cert.FinalNormIdeal.nD,
      m' ((c.tc : Thread Cert.FinalNormRefIdeal.nD Cert.FinalNormRefIdeal.τ).loc Cert.FinalNormRefIdeal.main_arg0) = m ((c.tc : Thread Cert.FinalNormIdeal.nD Cert.FinalNormIdeal.τ).loc Cert.FinalNormIdeal.main_arg0)
      ∧ m' ((c.tc : Thread Cert.FinalNormRefIdeal.nD Cert.FinalNormRefIdeal.τ).loc Cert.FinalNormRefIdeal.main_arg1) = m ((c.tc : Thread Cert.FinalNormIdeal.nD Cert.FinalNormIdeal.τ).loc Cert.FinalNormIdeal.main_arg1)) →
    ∃ (v0 : (c : Dev Cert.FinalNormIdeal.nD) → Buf (Elt Ideal) ((c.tc : Thread Cert.FinalNormIdeal.nD Cert.FinalNormIdeal.τ).loc Cert.FinalNormIdeal.main_v1)),
      θ_run (Cert.FinalNormIdeal.defs (F := Ideal)) (onTc (τ := Cert.FinalNormIdeal.τ) (Cert.FinalNormIdeal.main (F := Ideal))) ⟨m, fun _ => 0, g⟩ (fun r => ∀ c : Dev Cert.FinalNormIdeal.nD,
          r.2.mem ((c.tc : Thread Cert.FinalNormIdeal.nD Cert.FinalNormIdeal.τ).loc Cert.FinalNormIdeal.main_v1) = v0 c
          ∧ r.2.mem ((c.tc : Thread Cert.FinalNormIdeal.nD Cert.FinalNormIdeal.τ).loc Cert.FinalNormIdeal.main_arg0) = m ((c.tc : Thread Cert.FinalNormIdeal.nD Cert.FinalNormIdeal.τ).loc Cert.FinalNormIdeal.main_arg0)
          ∧ r.2.mem ((c.tc : Thread Cert.FinalNormIdeal.nD Cert.FinalNormIdeal.τ).loc Cert.FinalNormIdeal.main_arg1) = m ((c.tc : Thread Cert.FinalNormIdeal.nD Cert.FinalNormIdeal.τ).loc Cert.FinalNormIdeal.main_arg1))
      ∧ θ_run (Cert.FinalNormRefIdeal.defs (F := Ideal)) (onTc (τ := Cert.FinalNormRefIdeal.τ) (Cert.FinalNormRefIdeal.main (F := Ideal))) ⟨m', fun _ => 0, g'⟩ (fun r => ∀ c : Dev Cert.FinalNormRefIdeal.nD,
          r.2.mem ((c.tc : Thread Cert.FinalNormRefIdeal.nD Cert.FinalNormRefIdeal.τ).loc Cert.FinalNormRefIdeal.main_v13) = v0 c
          ∧ r.2.mem ((c.tc : Thread Cert.FinalNormRefIdeal.nD Cert.FinalNormRefIdeal.τ).loc Cert.FinalNormRefIdeal.main_arg0) = m' ((c.tc : Thread Cert.FinalNormRefIdeal.nD Cert.FinalNormRefIdeal.τ).loc Cert.FinalNormRefIdeal.main_arg0)
          ∧ r.2.mem ((c.tc : Thread Cert.FinalNormRefIdeal.nD Cert.FinalNormRefIdeal.τ).loc Cert.FinalNormRefIdeal.main_arg1) = m' ((c.tc : Thread Cert.FinalNormRefIdeal.nD Cert.FinalNormRefIdeal.τ).loc Cert.FinalNormRefIdeal.main_arg1))

def preserves_ShortConv_ShortConvIdeal : Prop :=
  True

def algebraic_ShortConvIdeal_ShortConvRefIdeal [hShortConvIdeal : Cert.ShortConvIdeal.Facts] [hShortConvRefIdeal : Cert.ShortConvRefIdeal.Facts] : Prop :=
  ∀ (m : (ℓ : Loc Cert.ShortConvIdeal.nD Cert.ShortConvIdeal.τ Cert.ShortConvIdeal.sig) → Buf (Elt Ideal) ℓ) (g : Dev Cert.ShortConvIdeal.nD → PrngReg)
    (m' : (ℓ : Loc Cert.ShortConvRefIdeal.nD Cert.ShortConvRefIdeal.τ Cert.ShortConvRefIdeal.sig) → Buf (Elt Ideal) ℓ) (g' : Dev Cert.ShortConvRefIdeal.nD → PrngReg), Pre_ShortConvIdeal m →
    (∀ c : Dev Cert.ShortConvIdeal.nD,
      m' ((c.tc : Thread Cert.ShortConvRefIdeal.nD Cert.ShortConvRefIdeal.τ).loc Cert.ShortConvRefIdeal.main_arg0) = m ((c.tc : Thread Cert.ShortConvIdeal.nD Cert.ShortConvIdeal.τ).loc Cert.ShortConvIdeal.main_arg0)
      ∧ m' ((c.tc : Thread Cert.ShortConvRefIdeal.nD Cert.ShortConvRefIdeal.τ).loc Cert.ShortConvRefIdeal.main_arg1) = m ((c.tc : Thread Cert.ShortConvIdeal.nD Cert.ShortConvIdeal.τ).loc Cert.ShortConvIdeal.main_arg1)
      ∧ m' ((c.tc : Thread Cert.ShortConvRefIdeal.nD Cert.ShortConvRefIdeal.τ).loc Cert.ShortConvRefIdeal.main_arg2) = m ((c.tc : Thread Cert.ShortConvIdeal.nD Cert.ShortConvIdeal.τ).loc Cert.ShortConvIdeal.main_arg2)) →
    ∃ (v0 : (c : Dev Cert.ShortConvIdeal.nD) → Buf (Elt Ideal) ((c.tc : Thread Cert.ShortConvIdeal.nD Cert.ShortConvIdeal.τ).loc Cert.ShortConvIdeal.main_v1)),
      θ_run (Cert.ShortConvIdeal.defs (F := Ideal)) (onTc (τ := Cert.ShortConvIdeal.τ) (Cert.ShortConvIdeal.main (F := Ideal))) ⟨m, fun _ => 0, g⟩ (fun r => ∀ c : Dev Cert.ShortConvIdeal.nD,
          r.2.mem ((c.tc : Thread Cert.ShortConvIdeal.nD Cert.ShortConvIdeal.τ).loc Cert.ShortConvIdeal.main_v1) = v0 c
          ∧ r.2.mem ((c.tc : Thread Cert.ShortConvIdeal.nD Cert.ShortConvIdeal.τ).loc Cert.ShortConvIdeal.main_arg0) = m ((c.tc : Thread Cert.ShortConvIdeal.nD Cert.ShortConvIdeal.τ).loc Cert.ShortConvIdeal.main_arg0)
          ∧ r.2.mem ((c.tc : Thread Cert.ShortConvIdeal.nD Cert.ShortConvIdeal.τ).loc Cert.ShortConvIdeal.main_arg1) = m ((c.tc : Thread Cert.ShortConvIdeal.nD Cert.ShortConvIdeal.τ).loc Cert.ShortConvIdeal.main_arg1)
          ∧ r.2.mem ((c.tc : Thread Cert.ShortConvIdeal.nD Cert.ShortConvIdeal.τ).loc Cert.ShortConvIdeal.main_arg2) = m ((c.tc : Thread Cert.ShortConvIdeal.nD Cert.ShortConvIdeal.τ).loc Cert.ShortConvIdeal.main_arg2))
      ∧ θ_run (Cert.ShortConvRefIdeal.defs (F := Ideal)) (onTc (τ := Cert.ShortConvRefIdeal.τ) (Cert.ShortConvRefIdeal.main (F := Ideal))) ⟨m', fun _ => 0, g'⟩ (fun r => ∀ c : Dev Cert.ShortConvRefIdeal.nD,
          r.2.mem ((c.tc : Thread Cert.ShortConvRefIdeal.nD Cert.ShortConvRefIdeal.τ).loc Cert.ShortConvRefIdeal.main_v24) = v0 c
          ∧ r.2.mem ((c.tc : Thread Cert.ShortConvRefIdeal.nD Cert.ShortConvRefIdeal.τ).loc Cert.ShortConvRefIdeal.main_arg0) = m' ((c.tc : Thread Cert.ShortConvRefIdeal.nD Cert.ShortConvRefIdeal.τ).loc Cert.ShortConvRefIdeal.main_arg0)
          ∧ r.2.mem ((c.tc : Thread Cert.ShortConvRefIdeal.nD Cert.ShortConvRefIdeal.τ).loc Cert.ShortConvRefIdeal.main_arg1) = m' ((c.tc : Thread Cert.ShortConvRefIdeal.nD Cert.ShortConvRefIdeal.τ).loc Cert.ShortConvRefIdeal.main_arg1)
          ∧ r.2.mem ((c.tc : Thread Cert.ShortConvRefIdeal.nD Cert.ShortConvRefIdeal.τ).loc Cert.ShortConvRefIdeal.main_arg2) = m' ((c.tc : Thread Cert.ShortConvRefIdeal.nD Cert.ShortConvRefIdeal.τ).loc Cert.ShortConvRefIdeal.main_arg2))

def preserves_Filter_FilterIdeal : Prop :=
  True

def algebraic_FilterIdeal_FilterRefIdeal_pre_filter_real [hFilterIdeal : Cert.FilterIdeal.Facts] [hFilterRefIdeal : Cert.FilterRefIdeal.Facts] [hPre_filter_real : Cert.Pre_filter_real.Facts] : Prop :=
  ∀ (m : (ℓ : Loc Cert.FilterIdeal.nD Cert.FilterIdeal.τ Cert.FilterIdeal.sig) → Buf (Elt Ideal) ℓ) (g : Dev Cert.FilterIdeal.nD → PrngReg)
    (m' : (ℓ : Loc Cert.FilterRefIdeal.nD Cert.FilterRefIdeal.τ Cert.FilterRefIdeal.sig) → Buf (Elt Ideal) ℓ) (g' : Dev Cert.FilterRefIdeal.nD → PrngReg), Pre_FilterIdeal_filter_real m →
    (∀ c : Dev Cert.FilterIdeal.nD,
      m' ((c.tc : Thread Cert.FilterRefIdeal.nD Cert.FilterRefIdeal.τ).loc Cert.FilterRefIdeal.main_arg0) = m ((c.tc : Thread Cert.FilterIdeal.nD Cert.FilterIdeal.τ).loc Cert.FilterIdeal.main_arg0)
      ∧ m' ((c.tc : Thread Cert.FilterRefIdeal.nD Cert.FilterRefIdeal.τ).loc Cert.FilterRefIdeal.main_arg1) = m ((c.tc : Thread Cert.FilterIdeal.nD Cert.FilterIdeal.τ).loc Cert.FilterIdeal.main_arg1)
      ∧ m' ((c.tc : Thread Cert.FilterRefIdeal.nD Cert.FilterRefIdeal.τ).loc Cert.FilterRefIdeal.main_arg2) = m ((c.tc : Thread Cert.FilterIdeal.nD Cert.FilterIdeal.τ).loc Cert.FilterIdeal.main_arg2)
      ∧ m' ((c.tc : Thread Cert.FilterRefIdeal.nD Cert.FilterRefIdeal.τ).loc Cert.FilterRefIdeal.main_arg3) = m ((c.tc : Thread Cert.FilterIdeal.nD Cert.FilterIdeal.τ).loc Cert.FilterIdeal.main_arg3)
      ∧ m' ((c.tc : Thread Cert.FilterRefIdeal.nD Cert.FilterRefIdeal.τ).loc Cert.FilterRefIdeal.main_arg4) = m ((c.tc : Thread Cert.FilterIdeal.nD Cert.FilterIdeal.τ).loc Cert.FilterIdeal.main_arg4)
      ∧ m' ((c.tc : Thread Cert.FilterRefIdeal.nD Cert.FilterRefIdeal.τ).loc Cert.FilterRefIdeal.main_arg5) = m ((c.tc : Thread Cert.FilterIdeal.nD Cert.FilterIdeal.τ).loc Cert.FilterIdeal.main_arg5)
      ∧ m' ((c.tc : Thread Cert.FilterRefIdeal.nD Cert.FilterRefIdeal.τ).loc Cert.FilterRefIdeal.main_arg6) = m ((c.tc : Thread Cert.FilterIdeal.nD Cert.FilterIdeal.τ).loc Cert.FilterIdeal.main_arg6)
      ∧ m' ((c.tc : Thread Cert.FilterRefIdeal.nD Cert.FilterRefIdeal.τ).loc Cert.FilterRefIdeal.main_arg7) = m ((c.tc : Thread Cert.FilterIdeal.nD Cert.FilterIdeal.τ).loc Cert.FilterIdeal.main_arg7)
      ∧ m' ((c.tc : Thread Cert.FilterRefIdeal.nD Cert.FilterRefIdeal.τ).loc Cert.FilterRefIdeal.main_arg8) = m ((c.tc : Thread Cert.FilterIdeal.nD Cert.FilterIdeal.τ).loc Cert.FilterIdeal.main_arg8)
      ∧ m' ((c.tc : Thread Cert.FilterRefIdeal.nD Cert.FilterRefIdeal.τ).loc Cert.FilterRefIdeal.main_arg9) = m ((c.tc : Thread Cert.FilterIdeal.nD Cert.FilterIdeal.τ).loc Cert.FilterIdeal.main_arg9)) →
    ∃ (v0 : (c : Dev Cert.FilterIdeal.nD) → Buf (Elt Ideal) ((c.tc : Thread Cert.FilterIdeal.nD Cert.FilterIdeal.τ).loc Cert.FilterIdeal.main_v18)),
      θ_run (Cert.FilterIdeal.defs (F := Ideal)) (onTc (τ := Cert.FilterIdeal.τ) (Cert.FilterIdeal.main (F := Ideal))) ⟨m, fun _ => 0, g⟩ (fun r => ∀ c : Dev Cert.FilterIdeal.nD,
          r.2.mem ((c.tc : Thread Cert.FilterIdeal.nD Cert.FilterIdeal.τ).loc Cert.FilterIdeal.main_v18) = v0 c
          ∧ r.2.mem ((c.tc : Thread Cert.FilterIdeal.nD Cert.FilterIdeal.τ).loc Cert.FilterIdeal.main_arg0) = m ((c.tc : Thread Cert.FilterIdeal.nD Cert.FilterIdeal.τ).loc Cert.FilterIdeal.main_arg0)
          ∧ r.2.mem ((c.tc : Thread Cert.FilterIdeal.nD Cert.FilterIdeal.τ).loc Cert.FilterIdeal.main_arg1) = m ((c.tc : Thread Cert.FilterIdeal.nD Cert.FilterIdeal.τ).loc Cert.FilterIdeal.main_arg1)
          ∧ r.2.mem ((c.tc : Thread Cert.FilterIdeal.nD Cert.FilterIdeal.τ).loc Cert.FilterIdeal.main_arg2) = m ((c.tc : Thread Cert.FilterIdeal.nD Cert.FilterIdeal.τ).loc Cert.FilterIdeal.main_arg2)
          ∧ r.2.mem ((c.tc : Thread Cert.FilterIdeal.nD Cert.FilterIdeal.τ).loc Cert.FilterIdeal.main_arg3) = m ((c.tc : Thread Cert.FilterIdeal.nD Cert.FilterIdeal.τ).loc Cert.FilterIdeal.main_arg3)
          ∧ r.2.mem ((c.tc : Thread Cert.FilterIdeal.nD Cert.FilterIdeal.τ).loc Cert.FilterIdeal.main_arg4) = m ((c.tc : Thread Cert.FilterIdeal.nD Cert.FilterIdeal.τ).loc Cert.FilterIdeal.main_arg4)
          ∧ r.2.mem ((c.tc : Thread Cert.FilterIdeal.nD Cert.FilterIdeal.τ).loc Cert.FilterIdeal.main_arg5) = m ((c.tc : Thread Cert.FilterIdeal.nD Cert.FilterIdeal.τ).loc Cert.FilterIdeal.main_arg5)
          ∧ r.2.mem ((c.tc : Thread Cert.FilterIdeal.nD Cert.FilterIdeal.τ).loc Cert.FilterIdeal.main_arg6) = m ((c.tc : Thread Cert.FilterIdeal.nD Cert.FilterIdeal.τ).loc Cert.FilterIdeal.main_arg6)
          ∧ r.2.mem ((c.tc : Thread Cert.FilterIdeal.nD Cert.FilterIdeal.τ).loc Cert.FilterIdeal.main_arg7) = m ((c.tc : Thread Cert.FilterIdeal.nD Cert.FilterIdeal.τ).loc Cert.FilterIdeal.main_arg7)
          ∧ r.2.mem ((c.tc : Thread Cert.FilterIdeal.nD Cert.FilterIdeal.τ).loc Cert.FilterIdeal.main_arg8) = m ((c.tc : Thread Cert.FilterIdeal.nD Cert.FilterIdeal.τ).loc Cert.FilterIdeal.main_arg8)
          ∧ r.2.mem ((c.tc : Thread Cert.FilterIdeal.nD Cert.FilterIdeal.τ).loc Cert.FilterIdeal.main_arg9) = m ((c.tc : Thread Cert.FilterIdeal.nD Cert.FilterIdeal.τ).loc Cert.FilterIdeal.main_arg9))
      ∧ θ_run (Cert.FilterRefIdeal.defs (F := Ideal)) (onTc (τ := Cert.FilterRefIdeal.τ) (Cert.FilterRefIdeal.main (F := Ideal))) ⟨m', fun _ => 0, g'⟩ (fun r => ∀ c : Dev Cert.FilterRefIdeal.nD,
          r.2.mem ((c.tc : Thread Cert.FilterRefIdeal.nD Cert.FilterRefIdeal.τ).loc Cert.FilterRefIdeal.main_v47) = v0 c
          ∧ r.2.mem ((c.tc : Thread Cert.FilterRefIdeal.nD Cert.FilterRefIdeal.τ).loc Cert.FilterRefIdeal.main_arg0) = m' ((c.tc : Thread Cert.FilterRefIdeal.nD Cert.FilterRefIdeal.τ).loc Cert.FilterRefIdeal.main_arg0)
          ∧ r.2.mem ((c.tc : Thread Cert.FilterRefIdeal.nD Cert.FilterRefIdeal.τ).loc Cert.FilterRefIdeal.main_arg1) = m' ((c.tc : Thread Cert.FilterRefIdeal.nD Cert.FilterRefIdeal.τ).loc Cert.FilterRefIdeal.main_arg1)
          ∧ r.2.mem ((c.tc : Thread Cert.FilterRefIdeal.nD Cert.FilterRefIdeal.τ).loc Cert.FilterRefIdeal.main_arg2) = m' ((c.tc : Thread Cert.FilterRefIdeal.nD Cert.FilterRefIdeal.τ).loc Cert.FilterRefIdeal.main_arg2)
          ∧ r.2.mem ((c.tc : Thread Cert.FilterRefIdeal.nD Cert.FilterRefIdeal.τ).loc Cert.FilterRefIdeal.main_arg3) = m' ((c.tc : Thread Cert.FilterRefIdeal.nD Cert.FilterRefIdeal.τ).loc Cert.FilterRefIdeal.main_arg3)
          ∧ r.2.mem ((c.tc : Thread Cert.FilterRefIdeal.nD Cert.FilterRefIdeal.τ).loc Cert.FilterRefIdeal.main_arg4) = m' ((c.tc : Thread Cert.FilterRefIdeal.nD Cert.FilterRefIdeal.τ).loc Cert.FilterRefIdeal.main_arg4)
          ∧ r.2.mem ((c.tc : Thread Cert.FilterRefIdeal.nD Cert.FilterRefIdeal.τ).loc Cert.FilterRefIdeal.main_arg5) = m' ((c.tc : Thread Cert.FilterRefIdeal.nD Cert.FilterRefIdeal.τ).loc Cert.FilterRefIdeal.main_arg5)
          ∧ r.2.mem ((c.tc : Thread Cert.FilterRefIdeal.nD Cert.FilterRefIdeal.τ).loc Cert.FilterRefIdeal.main_arg6) = m' ((c.tc : Thread Cert.FilterRefIdeal.nD Cert.FilterRefIdeal.τ).loc Cert.FilterRefIdeal.main_arg6)
          ∧ r.2.mem ((c.tc : Thread Cert.FilterRefIdeal.nD Cert.FilterRefIdeal.τ).loc Cert.FilterRefIdeal.main_arg7) = m' ((c.tc : Thread Cert.FilterRefIdeal.nD Cert.FilterRefIdeal.τ).loc Cert.FilterRefIdeal.main_arg7)
          ∧ r.2.mem ((c.tc : Thread Cert.FilterRefIdeal.nD Cert.FilterRefIdeal.τ).loc Cert.FilterRefIdeal.main_arg8) = m' ((c.tc : Thread Cert.FilterRefIdeal.nD Cert.FilterRefIdeal.τ).loc Cert.FilterRefIdeal.main_arg8)
          ∧ r.2.mem ((c.tc : Thread Cert.FilterRefIdeal.nD Cert.FilterRefIdeal.τ).loc Cert.FilterRefIdeal.main_arg9) = m' ((c.tc : Thread Cert.FilterRefIdeal.nD Cert.FilterRefIdeal.τ).loc Cert.FilterRefIdeal.main_arg9))

def Claim : Prop :=
  ∃ (hNaMain : Cert.NaMain.Facts) (hNaMainIdeal : Cert.NaMainIdeal.Facts) (hNaMainRefIdeal : Cert.NaMainRefIdeal.Facts) (hNaMeta : Cert.NaMeta.Facts) (hNaMetaIdeal : Cert.NaMetaIdeal.Facts) (hNaMetaRefIdeal : Cert.NaMetaRefIdeal.Facts) (hInProj : Cert.InProj.Facts) (hInProjIdeal : Cert.InProjIdeal.Facts) (hInProjRefIdeal : Cert.InProjRefIdeal.Facts) (hMerge : Cert.Merge.Facts) (hMergeIdeal : Cert.MergeIdeal.Facts) (hMergeRefIdeal : Cert.MergeRefIdeal.Facts) (hOutProj : Cert.OutProj.Facts) (hOutProjIdeal : Cert.OutProjIdeal.Facts) (hOutProjRefIdeal : Cert.OutProjRefIdeal.Facts) (hFinalNorm : Cert.FinalNorm.Facts) (hFinalNormIdeal : Cert.FinalNormIdeal.Facts) (hFinalNormRefIdeal : Cert.FinalNormRefIdeal.Facts) (hShortConv : Cert.ShortConv.Facts) (hShortConvIdeal : Cert.ShortConvIdeal.Facts) (hShortConvRefIdeal : Cert.ShortConvRefIdeal.Facts) (hFilter : Cert.Filter.Facts) (hFilterIdeal : Cert.FilterIdeal.Facts) (hFilterRefIdeal : Cert.FilterRefIdeal.Facts) (hPre_na_main_real : Cert.Pre_na_main_real.Facts) (hPre_na_meta_real : Cert.Pre_na_meta_real.Facts) (hPre_filter_real : Cert.Pre_filter_real.Facts),
    quiescent_NaMain (hNaMain := hNaMain)
    ∧ quiescent_NaMainIdeal (hNaMainIdeal := hNaMainIdeal)
    ∧ quiescent_NaMainIdeal_pre_na_main_real (hNaMainIdeal := hNaMainIdeal) (hPre_na_main_real := hPre_na_main_real)
    ∧ quiescent_NaMainRefIdeal (hNaMainRefIdeal := hNaMainRefIdeal)
    ∧ quiescent_NaMainRefIdeal_pre_na_main_real (hNaMainRefIdeal := hNaMainRefIdeal) (hPre_na_main_real := hPre_na_main_real)
    ∧ quiescent_NaMeta (hNaMeta := hNaMeta)
    ∧ quiescent_NaMetaIdeal (hNaMetaIdeal := hNaMetaIdeal)
    ∧ quiescent_NaMetaIdeal_pre_na_meta_real (hNaMetaIdeal := hNaMetaIdeal) (hPre_na_meta_real := hPre_na_meta_real)
    ∧ quiescent_NaMetaRefIdeal (hNaMetaRefIdeal := hNaMetaRefIdeal)
    ∧ quiescent_NaMetaRefIdeal_pre_na_meta_real (hNaMetaRefIdeal := hNaMetaRefIdeal) (hPre_na_meta_real := hPre_na_meta_real)
    ∧ quiescent_InProj (hInProj := hInProj)
    ∧ quiescent_InProjIdeal (hInProjIdeal := hInProjIdeal)
    ∧ quiescent_InProjRefIdeal (hInProjRefIdeal := hInProjRefIdeal)
    ∧ quiescent_Merge (hMerge := hMerge)
    ∧ quiescent_MergeIdeal (hMergeIdeal := hMergeIdeal)
    ∧ quiescent_MergeRefIdeal (hMergeRefIdeal := hMergeRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_FinalNorm (hFinalNorm := hFinalNorm)
    ∧ quiescent_FinalNormIdeal (hFinalNormIdeal := hFinalNormIdeal)
    ∧ quiescent_FinalNormRefIdeal (hFinalNormRefIdeal := hFinalNormRefIdeal)
    ∧ quiescent_ShortConv (hShortConv := hShortConv)
    ∧ quiescent_ShortConvIdeal (hShortConvIdeal := hShortConvIdeal)
    ∧ quiescent_ShortConvRefIdeal (hShortConvRefIdeal := hShortConvRefIdeal)
    ∧ quiescent_Filter (hFilter := hFilter)
    ∧ quiescent_FilterIdeal (hFilterIdeal := hFilterIdeal)
    ∧ quiescent_FilterIdeal_pre_filter_real (hFilterIdeal := hFilterIdeal) (hPre_filter_real := hPre_filter_real)
    ∧ quiescent_FilterRefIdeal (hFilterRefIdeal := hFilterRefIdeal)
    ∧ quiescent_FilterRefIdeal_pre_filter_real (hFilterRefIdeal := hFilterRefIdeal) (hPre_filter_real := hPre_filter_real)
    ∧ preserves_NaMain_NaMainIdeal
    ∧ algebraic_NaMainIdeal_NaMainRefIdeal_pre_na_main_real (hNaMainIdeal := hNaMainIdeal) (hNaMainRefIdeal := hNaMainRefIdeal) (hPre_na_main_real := hPre_na_main_real)
    ∧ preserves_NaMeta_NaMetaIdeal
    ∧ algebraic_NaMetaIdeal_NaMetaRefIdeal_pre_na_meta_real (hNaMetaIdeal := hNaMetaIdeal) (hNaMetaRefIdeal := hNaMetaRefIdeal) (hPre_na_meta_real := hPre_na_meta_real)
    ∧ preserves_InProj_InProjIdeal
    ∧ algebraic_InProjIdeal_InProjRefIdeal (hInProjIdeal := hInProjIdeal) (hInProjRefIdeal := hInProjRefIdeal)
    ∧ preserves_Merge_MergeIdeal
    ∧ algebraic_MergeIdeal_MergeRefIdeal (hMergeIdeal := hMergeIdeal) (hMergeRefIdeal := hMergeRefIdeal)
    ∧ preserves_OutProj_OutProjIdeal
    ∧ algebraic_OutProjIdeal_OutProjRefIdeal (hOutProjIdeal := hOutProjIdeal) (hOutProjRefIdeal := hOutProjRefIdeal)
    ∧ preserves_FinalNorm_FinalNormIdeal
    ∧ algebraic_FinalNormIdeal_FinalNormRefIdeal (hFinalNormIdeal := hFinalNormIdeal) (hFinalNormRefIdeal := hFinalNormRefIdeal)
    ∧ preserves_ShortConv_ShortConvIdeal
    ∧ algebraic_ShortConvIdeal_ShortConvRefIdeal (hShortConvIdeal := hShortConvIdeal) (hShortConvRefIdeal := hShortConvRefIdeal)
    ∧ preserves_Filter_FilterIdeal
    ∧ algebraic_FilterIdeal_FilterRefIdeal_pre_filter_real (hFilterIdeal := hFilterIdeal) (hFilterRefIdeal := hFilterRefIdeal) (hPre_filter_real := hPre_filter_real)
-- ==== Pre_filter_real.lean ====
abbrev S16400x64 : Shape := ⟨2, ![16400, 64]⟩
abbrev S33x64 : Shape := ⟨2, ![33, 64]⟩
abbrev S64 : Shape := ⟨1, ![64]⟩
abbrev S64x64 : Shape := ⟨2, ![64, 64]⟩
abbrev S64x4096 : Shape := ⟨2, ![64, 4096]⟩
abbrev S2x2x1024 : Shape := ⟨3, ![2, 2, 1024]⟩
abbrev S_ : Shape := ⟨0, ![]⟩

class Facts : Prop where
  bcast_S_S64x4096 : S_.BroadcastsInDim S64x4096 (![] : Fin 0 → Fin S64x4096.rank)
  reducesTo_S64x4096_S_d0_1 : S64x4096.ReducesTo [0, 1] S_
  h_S_ : 0 < S_.numel

variable [Facts]

def fn {F : FTy → Type} [FloatOps F] (main_arg0 : FVec F S16400x64 .f32) (main_arg1 : FVec F S33x64 .f32) (main_arg2 : FVec F S64 .f32) (main_arg3 : FVec F S64x64 .f32) (main_arg4 : FVec F S64 .f32) (main_arg5 : FVec F S64x64 .f32) (main_arg6 : FVec F S64 .f32) (main_arg7 : FVec F S64x4096 .f32) (main_arg8 : FVec F S64 .f32) (main_arg9 : FVec F S2x2x1024 .f32) : IVec S_ 1 :=
  let main_v0 : FVec F S64x4096 .f32 := Host.absf main_arg7
  let main_cst : FVec F S_ .f32 := constant S_ .f32 0x7F800000#32
  let main_v1 : FVec F S64x4096 .f32 := broadcastInDim S64x4096 ![] bcast_S_S64x4096 main_cst
  let main_v2 : IVec S64x4096 1 := cmpf .olt main_v0 main_v1
  let main_c : IVec S_ 1 := constantI S_ 1 1#1
  let main_v3 : IVec S_ 1 := (fun x v => Host.reduce IntOp.andi x v reducesTo_S64x4096_S_d0_1 h_S_) main_v2 main_c
  main_v3
-- ==== Pre_na_main_real.lean ====
abbrev S16400x16384 : Shape := ⟨2, ![16400, 16384]⟩
abbrev S16x15x31 : Shape := ⟨3, ![16, 15, 31]⟩
abbrev S16x16 : Shape := ⟨2, ![16, 16]⟩
abbrev S16400x2048 : Shape := ⟨2, ![16400, 2048]⟩
abbrev S_ : Shape := ⟨0, ![]⟩

class Facts : Prop where
  slices_S16400x16384_S16400x2048_0_6144 : S16400x16384.Slices ![0, 6144] S16400x2048
  bcast_S_S16400x2048 : S_.BroadcastsInDim S16400x2048 (![] : Fin 0 → Fin S16400x2048.rank)
  reducesTo_S16400x2048_S_d0_1 : S16400x2048.ReducesTo [0, 1] S_
  h_S_ : 0 < S_.numel
  bcast_S_S16x15x31 : S_.BroadcastsInDim S16x15x31 (![] : Fin 0 → Fin S16x15x31.rank)
  reducesTo_S16x15x31_S_d0_1_2 : S16x15x31.ReducesTo [0, 1, 2] S_
  bcast_S_S16x16 : S_.BroadcastsInDim S16x16 (![] : Fin 0 → Fin S16x16.rank)
  reducesTo_S16x16_S_d0_1 : S16x16.ReducesTo [0, 1] S_

variable [Facts]

def fn {F : FTy → Type} [FloatOps F] (main_arg0 : FVec F S16400x16384 .f32) (main_arg1 : FVec F S16x15x31 .f32) (main_arg2 : FVec F S16x16 .f32) : IVec S_ 1 :=
  let main_v0 : FVec F S16400x2048 .f32 := (extractStridedSlice S16400x2048 ![0, 6144] · slices_S16400x16384_S16400x2048_0_6144) main_arg0
  let main_v1 : FVec F S16400x2048 .f32 := Host.absf main_v0
  let main_cst : FVec F S_ .f32 := constant S_ .f32 0x7F800000#32
  let main_v2 : FVec F S16400x2048 .f32 := broadcastInDim S16400x2048 ![] bcast_S_S16400x2048 main_cst
  let main_v3 : IVec S16400x2048 1 := cmpf .olt main_v1 main_v2
  let main_c : IVec S_ 1 := constantI S_ 1 1#1
  let main_v4 : IVec S_ 1 := (fun x v => Host.reduce IntOp.andi x v reducesTo_S16400x2048_S_d0_1 h_S_) main_v3 main_c
  let main_v5 : FVec F S16x15x31 .f32 := Host.absf main_arg1
  let main_cst_0 : FVec F S_ .f32 := constant S_ .f32 0x7F800000#32
  let main_v6 : FVec F S16x15x31 .f32 := broadcastInDim S16x15x31 ![] bcast_S_S16x15x31 main_cst_0
  let main_v7 : IVec S16x15x31 1 := cmpf .olt main_v5 main_v6
  let main_c_1 : IVec S_ 1 := constantI S_ 1 1#1
  let main_v8 : IVec S_ 1 := (fun x v => Host.reduce IntOp.andi x v reducesTo_S16x15x31_S_d0_1_2 h_S_) main_v7 main_c_1
  let main_v9 : IVec S_ 1 := andi main_v4 main_v8
  let main_v10 : FVec F S16x16 .f32 := Host.absf main_arg2
  let main_cst_2 : FVec F S_ .f32 := constant S_ .f32 0x7F800000#32
  let main_v11 : FVec F S16x16 .f32 := broadcastInDim S16x16 ![] bcast_S_S16x16 main_cst_2
  let main_v12 : IVec S16x16 1 := cmpf .olt main_v10 main_v11
  let main_c_3 : IVec S_ 1 := constantI S_ 1 1#1
  let main_v13 : IVec S_ 1 := (fun x v => Host.reduce IntOp.andi x v reducesTo_S16x16_S_d0_1 h_S_) main_v12 main_c_3
  let main_v14 : IVec S_ 1 := andi main_v9 main_v13
  main_v14
-- ==== Pre_na_meta_real.lean ====
abbrev S16400x16384 : Shape := ⟨2, ![16400, 16384]⟩
abbrev S16x16 : Shape := ⟨2, ![16, 16]⟩
abbrev S16x2048 : Shape := ⟨2, ![16, 2048]⟩
abbrev S_ : Shape := ⟨0, ![]⟩

class Facts : Prop where
  slices_S16400x16384_S16x2048_0_6144 : S16400x16384.Slices ![0, 6144] S16x2048
  bcast_S_S16x2048 : S_.BroadcastsInDim S16x2048 (![] : Fin 0 → Fin S16x2048.rank)
  reducesTo_S16x2048_S_d0_1 : S16x2048.ReducesTo [0, 1] S_
  h_S_ : 0 < S_.numel
  bcast_S_S16x16 : S_.BroadcastsInDim S16x16 (![] : Fin 0 → Fin S16x16.rank)
  reducesTo_S16x16_S_d0_1 : S16x16.ReducesTo [0, 1] S_

variable [Facts]

def fn {F : FTy → Type} [FloatOps F] (main_arg0 : FVec F S16400x16384 .f32) (main_arg1 : FVec F S16x16 .f32) : IVec S_ 1 :=
  let main_v0 : FVec F S16x2048 .f32 := (extractStridedSlice S16x2048 ![0, 6144] · slices_S16400x16384_S16x2048_0_6144) main_arg0
  let main_v1 : FVec F S16x2048 .f32 := Host.absf main_v0
  let main_cst : FVec F S_ .f32 := constant S_ .f32 0x7F800000#32
  let main_v2 : FVec F S16x2048 .f32 := broadcastInDim S16x2048 ![] bcast_S_S16x2048 main_cst
  let main_v3 : IVec S16x2048 1 := cmpf .olt main_v1 main_v2
  let main_c : IVec S_ 1 := constantI S_ 1 1#1
  let main_v4 : IVec S_ 1 := (fun x v => Host.reduce IntOp.andi x v reducesTo_S16x2048_S_d0_1 h_S_) main_v3 main_c
  let main_v5 : FVec F S16x16 .f32 := Host.absf main_arg1
  let main_cst_0 : FVec F S_ .f32 := constant S_ .f32 0x7F800000#32
  let main_v6 : FVec F S16x16 .f32 := broadcastInDim S16x16 ![] bcast_S_S16x16 main_cst_0
  let main_v7 : IVec S16x16 1 := cmpf .olt main_v5 main_v6
  let main_c_1 : IVec S_ 1 := constantI S_ 1 1#1
  let main_v8 : IVec S_ 1 := (fun x v => Host.reduce IntOp.andi x v reducesTo_S16x16_S_d0_1 h_S_) main_v7 main_c_1
  let main_v9 : IVec S_ 1 := andi main_v4 main_v8
  main_v9
-- ==== NaMain.lean ====
abbrev S16400x16384 : Shape := ⟨2, ![16400, 16384]⟩
abbrev S16x15x31 : Shape := ⟨3, ![16, 15, 31]⟩
abbrev S16x16 : Shape := ⟨2, ![16, 16]⟩
abbrev S8x8 : Shape := ⟨2, ![8, 8]⟩
abbrev S64x64 : Shape := ⟨2, ![64, 64]⟩
abbrev S1x1x1x64x64 : Shape := ⟨5, ![1, 1, 1, 64, 64]⟩
abbrev S_ : Shape := ⟨0, ![]⟩
abbrev S8x8x1 : Shape := ⟨3, ![8, 8, 1]⟩
abbrev S16x8x8x31 : Shape := ⟨4, ![16, 8, 8, 31]⟩
abbrev S64x64x1 : Shape := ⟨3, ![64, 64, 1]⟩
abbrev S16x8x8x64x64 : Shape := ⟨5, ![16, 8, 8, 64, 64]⟩
abbrev S8x2x8x8x64x64 : Shape := ⟨6, ![8, 2, 8, 8, 64, 64]⟩
abbrev S8x8x8x64x2x64 : Shape := ⟨6, ![8, 8, 8, 64, 2, 64]⟩
abbrev S8x8x512x128 : Shape := ⟨4, ![8, 8, 512, 128]⟩
abbrev S8x2x16 : Shape := ⟨3, ![8, 2, 16]⟩
abbrev S8x16x2 : Shape := ⟨3, ![8, 16, 2]⟩
abbrev S8x16x2x64 : Shape := ⟨4, ![8, 16, 2, 64]⟩
abbrev S8x16x128 : Shape := ⟨3, ![8, 16, 128]⟩
abbrev S16384x1024 : Shape := ⟨2, ![16384, 1024]⟩
abbrev S512x128 : Shape := ⟨2, ![512, 128]⟩
abbrev S1024x128 : Shape := ⟨2, ![1024, 128]⟩
abbrev S16x128 : Shape := ⟨2, ![16, 128]⟩
abbrev S1x8x512x128 : Shape := ⟨4, ![1, 8, 512, 128]⟩
abbrev S1x16x128 : Shape := ⟨3, ![1, 16, 128]⟩
abbrev S64x128 : Shape := ⟨2, ![64, 128]⟩
abbrev S128x128 : Shape := ⟨2, ![128, 128]⟩
abbrev S1x1x512x128 : Shape := ⟨4, ![1, 1, 512, 128]⟩
abbrev S128 : Shape := ⟨1, ![128]⟩
abbrev S1x128 : Shape := ⟨2, ![1, 128]⟩

abbrev nBuf : Space → Nat
  | .hbm => 34
  | .vmem => 18
  | .smem => 0
  | _ => 0

abbrev bufTy : (tb : Table) → Fin (tcTables nBuf tb) → BufTy
  | .hbm, ⟨0, _⟩ => ⟨S16400x16384, .f32⟩
  | .hbm, ⟨1, _⟩ => ⟨S16x15x31, .f32⟩
  | .hbm, ⟨2, _⟩ => ⟨S16x16, .f32⟩
  | .hbm, ⟨3, _⟩ => ⟨S8x8, .i32⟩
  | .hbm, ⟨4, _⟩ => ⟨S8x8, .i1⟩
  | .hbm, ⟨5, _⟩ => ⟨S64x64, .i32⟩
  | .hbm, ⟨6, _⟩ => ⟨S64x64, .i1⟩
  | .hbm, ⟨7, _⟩ => ⟨S64x64, .i1⟩
  | .hbm, ⟨8, _⟩ => ⟨S1x1x1x64x64, .i1⟩
  | .hbm, ⟨9, _⟩ => ⟨S_, .i32⟩
  | .hbm, ⟨10, _⟩ => ⟨S8x8, .i32⟩
  | .hbm, ⟨11, _⟩ => ⟨S8x8, .i32⟩
  | .hbm, ⟨12, _⟩ => ⟨S8x8, .i32⟩
  | .hbm, ⟨13, _⟩ => ⟨S8x8x1, .i32⟩
  | .hbm, ⟨14, _⟩ => ⟨S16x8x8x31, .f32⟩
  | .hbm, ⟨15, _⟩ => ⟨S_, .i32⟩
  | .hbm, ⟨16, _⟩ => ⟨S64x64, .i32⟩
  | .hbm, ⟨17, _⟩ => ⟨S64x64, .i32⟩
  | .hbm, ⟨18, _⟩ => ⟨S64x64, .i32⟩
  | .hbm, ⟨19, _⟩ => ⟨S64x64x1, .i32⟩
  | .hbm, ⟨20, _⟩ => ⟨S16x8x8x64x64, .f32⟩
  | .hbm, ⟨21, _⟩ => ⟨S_, .f32⟩
  | .hbm, ⟨22, _⟩ => ⟨S_, .f32⟩
  | .hbm, ⟨23, _⟩ => ⟨S16x8x8x64x64, .i1⟩
  | .hbm, ⟨24, _⟩ => ⟨S16x8x8x64x64, .f32⟩
  | .hbm, ⟨25, _⟩ => ⟨S16x8x8x64x64, .f32⟩
  | .hbm, ⟨26, _⟩ => ⟨S8x2x8x8x64x64, .f32⟩
  | .hbm, ⟨27, _⟩ => ⟨S8x8x8x64x2x64, .f32⟩
  | .hbm, ⟨28, _⟩ => ⟨S8x8x512x128, .f32⟩
  | .hbm, ⟨29, _⟩ => ⟨S8x2x16, .f32⟩
  | .hbm, ⟨30, _⟩ => ⟨S8x16x2, .f32⟩
  | .hbm, ⟨31, _⟩ => ⟨S8x16x2x64, .f32⟩
  | .hbm, ⟨32, _⟩ => ⟨S8x16x128, .f32⟩
  | .hbm, ⟨33, _⟩ => ⟨S16384x1024, .bf16⟩
  | .local _ .vmem, ⟨0, _⟩ => ⟨S512x128, .f32⟩
  | .local _ .vmem, ⟨1, _⟩ => ⟨S512x128, .f32⟩
  | .local _ .vmem, ⟨2, _⟩ => ⟨S1024x128, .f32⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S16x128, .f32⟩
  | .local _ .vmem, ⟨7, _⟩ => ⟨S16x128, .f32⟩
  | .local _ .vmem, ⟨8, _⟩ => ⟨S16x128, .f32⟩
  | .local _ .vmem, ⟨9, _⟩ => ⟨S16x128, .f32⟩
  | .local _ .vmem, ⟨10, _⟩ => ⟨S1x8x512x128, .f32⟩
  | .local _ .vmem, ⟨11, _⟩ => ⟨S1x8x512x128, .f32⟩
  | .local _ .vmem, ⟨12, _⟩ => ⟨S1x16x128, .f32⟩
  | .local _ .vmem, ⟨13, _⟩ => ⟨S1x16x128, .f32⟩
  | .local _ .vmem, ⟨14, _⟩ => ⟨S512x128, .f32⟩
  | .local _ .vmem, ⟨15, _⟩ => ⟨S512x128, .f32⟩
  | .local _ .vmem, ⟨16, _⟩ => ⟨S512x128, .bf16⟩
  | .local _ .vmem, ⟨17, _⟩ => ⟨S512x128, .bf16⟩
  | _, _ => ⟨S16400x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_c_1 : Ref sig .tc := ⟨.hbm, 5, rfl⟩
abbrev main_c_2 : Ref sig .tc := ⟨.hbm, 6, rfl⟩
abbrev main_c_3 : Ref sig .tc := ⟨.hbm, 7, rfl⟩
abbrev main_v0 : Ref sig .tc := ⟨.hbm, 8, rfl⟩
abbrev main_c_4 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_c_5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![8, 32], ![false, false]⟩

def k0_mult1 (i : grid0.Coords) : BitVec 32 :=
  let c16_i32 : BitVec 32 := 16#32
  let arg1 : BitVec 32 := BitVec.ofNat 32 (i 1).val
  let c512_i32 : BitVec 32 := 512#32
  let v0 : BitVec 32 := Scalar.muli arg1 c512_i32
  let v1 : BitVec 32 := Scalar.addi c16_i32 v0
  v1
def k0_mult2 (i : grid0.Coords) : BitVec 32 :=
  let c6144_i32 : BitVec 32 := 6144#32
  let arg0 : BitVec 32 := BitVec.ofNat 32 (i 0).val
  let c128_i32 : BitVec 32 := 128#32
  let v3 : BitVec 32 := Scalar.muli arg0 c128_i32
  let v4 : BitVec 32 := Scalar.addi c6144_i32 v3
  v4
def k0_mult3 (i : grid0.Coords) : BitVec 32 :=
  let c16_i32 : BitVec 32 := 16#32
  let c64_i32 : BitVec 32 := 64#32
  let c240_i32 : BitVec 32 := 240#32
  let c0_i32 : BitVec 32 := 0#32
  let arg1 : BitVec 32 := BitVec.ofNat 32 (i 1).val
  let c8_i32 : BitVec 32 := 8#32
  let v0 : BitVec 32 := Scalar.muli arg1 c8_i32
  let c4_i32 : BitVec 32 := 4#32
  let v1 : BitVec 32 := Scalar.subi v0 c4_i32
  let v2 : BitVec 32 := Scalar.maxsi c0_i32 v1
  let v3 : BitVec 32 := Scalar.minsi c240_i32 v2
  let v4 : BitVec 32 := Scalar.muli c64_i32 v3
  let v5 : BitVec 32 := Scalar.addi c16_i32 v4
  v5
def k0_mult4 (i : grid0.Coords) : BitVec 32 :=
  let c7168_i32 : BitVec 32 := 7168#32
  let arg0 : BitVec 32 := BitVec.ofNat 32 (i 0).val
  let c128_i32 : BitVec 32 := 128#32
  let v7 : BitVec 32 := Scalar.muli arg0 c128_i32
  let v8 : BitVec 32 := Scalar.addi c7168_i32 v7
  v8
def k0_mult5 (i : grid0.Coords) : BitVec 32 :=
  let c16_i32 : BitVec 32 := 16#32
  let c64_i32 : BitVec 32 := 64#32
  let c240_i32 : BitVec 32 := 240#32
  let c0_i32 : BitVec 32 := 0#32
  let arg1 : BitVec 32 := BitVec.ofNat 32 (i 1).val
  let c8_i32 : BitVec 32 := 8#32
  let v0 : BitVec 32 := Scalar.muli arg1 c8_i32
  let c4_i32 : BitVec 32 := 4#32
  let v1 : BitVec 32 := Scalar.subi v0 c4_i32
  let v2 : BitVec 32 := Scalar.maxsi c0_i32 v1
  let v3 : BitVec 32 := Scalar.minsi c240_i32 v2
  let v4 : BitVec 32 := Scalar.muli c64_i32 v3
  let v5 : BitVec 32 := Scalar.addi c16_i32 v4
  v5
def k0_mult6 (i : grid0.Coords) : BitVec 32 :=
  let c8192_i32 : BitVec 32 := 8192#32
  let arg0 : BitVec 32 := BitVec.ofNat 32 (i 0).val
  let c128_i32 : BitVec 32 := 128#32
  let v7 : BitVec 32 := Scalar.muli arg0 c128_i32
  let v8 : BitVec 32 := Scalar.addi c8192_i32 v7
  v8
def k0_mult7 (i : grid0.Coords) : BitVec 32 :=
  let c16_i32 : BitVec 32 := 16#32
  let arg1 : BitVec 32 := BitVec.ofNat 32 (i 1).val
  let c512_i32 : BitVec 32 := 512#32
  let v0 : BitVec 32 := Scalar.muli arg1 c512_i32
  let v1 : BitVec 32 := Scalar.addi c16_i32 v0
  v1
def k0_mult8 (i : grid0.Coords) : BitVec 32 :=
  let c9216_i32 : BitVec 32 := 9216#32
  let arg0 : BitVec 32 := BitVec.ofNat 32 (i 0).val
  let c128_i32 : BitVec 32 := 128#32
  let v3 : BitVec 32 := Scalar.muli arg0 c128_i32
  let v4 : BitVec 32 := Scalar.addi c9216_i32 v3
  v4
def k0_mult9 (i : grid0.Coords) : BitVec 32 :=
  let c248_i32 : BitVec 32 := 248#32
  let c0_i32_10 : BitVec 32 := 0#32
  let arg1 : BitVec 32 := BitVec.ofNat 32 (i 1).val
  let c8_i32_7 : BitVec 32 := 8#32
  let v19 : BitVec 32 := Scalar.muli arg1 c8_i32_7
  let c0_i32_8 : BitVec 32 := 0#32
  let v20 : BitVec 32 := Scalar.addi v19 c0_i32_8
  let c4_i32_9 : BitVec 32 := 4#32
  let v21 : BitVec 32 := Scalar.subi v20 c4_i32_9
  let v22 : BitVec 32 := Scalar.maxsi c0_i32_10 v21
  let v23 : BitVec 32 := Scalar.minsi c248_i32 v22
  let c240_i32 : BitVec 32 := 240#32
  let c0_i32 : BitVec 32 := 0#32
  let c8_i32 : BitVec 32 := 8#32
  let v0 : BitVec 32 := Scalar.muli arg1 c8_i32
  let c4_i32 : BitVec 32 := 4#32
  let v1 : BitVec 32 := Scalar.subi v0 c4_i32
  let v2 : BitVec 32 := Scalar.maxsi c0_i32 v1
  let v3 : BitVec 32 := Scalar.minsi c240_i32 v2
  let v24 : BitVec 32 := Scalar.subi v23 v3
  let c64_i32_11 : BitVec 32 := 64#32
  let v25 : BitVec 32 := Scalar.muli v24 c64_i32_11
  v25
def k0_off1 (i : grid0.Coords) (c0_i32_8 : BitVec 32) : Fin 2 → Nat :=
  let c248_i32 : BitVec 32 := 248#32
  let c0_i32_10 : BitVec 32 := 0#32
  let arg1 : BitVec 32 := BitVec.ofNat 32 (i 1).val
  let c8_i32_7 : BitVec 32 := 8#32
  let v19 : BitVec 32 := Scalar.muli arg1 c8_i32_7
  let v20 : BitVec 32 := Scalar.addi v19 c0_i32_8
  let c4_i32_9 : BitVec 32 := 4#32
  let v21 : BitVec 32 := Scalar.subi v20 c4_i32_9
  let v22 : BitVec 32 := Scalar.maxsi c0_i32_10 v21
  let v23 : BitVec 32 := Scalar.minsi c248_i32 v22
  let c240_i32 : BitVec 32 := 240#32
  let c0_i32 : BitVec 32 := 0#32
  let c8_i32 : BitVec 32 := 8#32
  let v0 : BitVec 32 := Scalar.muli arg1 c8_i32
  let c4_i32 : BitVec 32 := 4#32
  let v1 : BitVec 32 := Scalar.subi v0 c4_i32
  let v2 : BitVec 32 := Scalar.maxsi c0_i32 v1
  let v3 : BitVec 32 := Scalar.minsi c240_i32 v2
  let v24 : BitVec 32 := Scalar.subi v23 v3
  let c64_i32_11 : BitVec 32 := 64#32
  let v25 : BitVec 32 := Scalar.muli v24 c64_i32_11
  let v26 : BitVec 32 := v25
  let v34 : Index := Scalar.indexCast v26
  let c0_15 : Index := 0#32
  ![v34.toNat, 0]
def k0_off2 (i : grid0.Coords) (c0_i32_8 : BitVec 32) : Fin 4 → Nat :=
  let c0_19 : Index := 0#32
  let c248_i32 : BitVec 32 := 248#32
  let c0_i32_10 : BitVec 32 := 0#32
  let arg1 : BitVec 32 := BitVec.ofNat 32 (i 1).val
  let c8_i32_7 : BitVec 32 := 8#32
  let v19 : BitVec 32 := Scalar.muli arg1 c8_i32_7
  let v20 : BitVec 32 := Scalar.addi v19 c0_i32_8
  let c4_i32_9 : BitVec 32 := 4#32
  let v21 : BitVec 32 := Scalar.subi v20 c4_i32_9
  let v22 : BitVec 32 := Scalar.maxsi c0_i32_10 v21
  let v23 : BitVec 32 := Scalar.minsi c248_i32 v22
  let v27 : BitVec 32 := Scalar.subi v23 v20
  let c7_i32 : BitVec 32 := 7#32
  let v28 : BitVec 32 := Scalar.addi v27 c7_i32
  let v43 : Index := Scalar.indexCast v28
  let c0_20 : Index := 0#32
  let c0_21 : Index := 0#32
  ![0, v43.toNat, 0, 0]
def k0_mult10 (i : grid0.Coords) : BitVec 32 :=
  let c248_i32_39 : BitVec 32 := 248#32
  let c0_i32_38 : BitVec 32 := 0#32
  let arg1 : BitVec 32 := BitVec.ofNat 32 (i 1).val
  let c8_i32_36 : BitVec 32 := 8#32
  let v89 : BitVec 32 := Scalar.muli arg1 c8_i32_36
  let c1_i32 : BitVec 32 := 1#32
  let v90 : BitVec 32 := Scalar.addi v89 c1_i32
  let c4_i32_37 : BitVec 32 := 4#32
  let v91 : BitVec 32 := Scalar.subi v90 c4_i32_37
  let v92 : BitVec 32 := Scalar.maxsi c0_i32_38 v91
  let v93 : BitVec 32 := Scalar.minsi c248_i32_39 v92
  let c240_i32 : BitVec 32 := 240#32
  let c0_i32 : BitVec 32 := 0#32
  let c8_i32 : BitVec 32 := 8#32
  let v0 : BitVec 32 := Scalar.muli arg1 c8_i32
  let c4_i32 : BitVec 32 := 4#32
  let v1 : BitVec 32 := Scalar.subi v0 c4_i32
  let v2 : BitVec 32 := Scalar.maxsi c0_i32 v1
  let v3 : BitVec 32 := Scalar.minsi c240_i32 v2
  let v94 : BitVec 32 := Scalar.subi v93 v3
  let c64_i32_40 : BitVec 32 := 64#32
  let v95 : BitVec 32 := Scalar.muli v94 c64_i32_40
  v95
def k0_mult11 (i : grid0.Coords) : BitVec 32 :=
  let c248_i32_68 : BitVec 32 := 248#32
  let c0_i32_67 : BitVec 32 := 0#32
  let arg1 : BitVec 32 := BitVec.ofNat 32 (i 1).val
  let c8_i32_65 : BitVec 32 := 8#32
  let v159 : BitVec 32 := Scalar.muli arg1 c8_i32_65
  let c2_i32 : BitVec 32 := 2#32
  let v160 : BitVec 32 := Scalar.addi v159 c2_i32
  let c4_i32_66 : BitVec 32 := 4#32
  let v161 : BitVec 32 := Scalar.subi v160 c4_i32_66
  let v162 : BitVec 32 := Scalar.maxsi c0_i32_67 v161
  let v163 : BitVec 32 := Scalar.minsi c248_i32_68 v162
  let c240_i32 : BitVec 32 := 240#32
  let c0_i32 : BitVec 32 := 0#32
  let c8_i32 : BitVec 32 := 8#32
  let v0 : BitVec 32 := Scalar.muli arg1 c8_i32
  let c4_i32 : BitVec 32 := 4#32
  let v1 : BitVec 32 := Scalar.subi v0 c4_i32
  let v2 : BitVec 32 := Scalar.maxsi c0_i32 v1
  let v3 : BitVec 32 := Scalar.minsi c240_i32 v2
  let v164 : BitVec 32 := Scalar.subi v163 v3
  let c64_i32_69 : BitVec 32 := 64#32
  let v165 : BitVec 32 := Scalar.muli v164 c64_i32_69
  v165
def k0_mult12 (i : grid0.Coords) : BitVec 32 :=
  let c248_i32_97 : BitVec 32 := 248#32
  let c0_i32_96 : BitVec 32 := 0#32
  let arg1 : BitVec 32 := BitVec.ofNat 32 (i 1).val
  let c8_i32_94 : BitVec 32 := 8#32
  let v229 : BitVec 32 := Scalar.muli arg1 c8_i32_94
  let c3_i32 : BitVec 32 := 3#32
  let v230 : BitVec 32 := Scalar.addi v229 c3_i32
  let c4_i32_95 : BitVec 32 := 4#32
  let v231 : BitVec 32 := Scalar.subi v230 c4_i32_95
  let v232 : BitVec 32 := Scalar.maxsi c0_i32_96 v231
  let v233 : BitVec 32 := Scalar.minsi c248_i32_97 v232
  let c240_i32 : BitVec 32 := 240#32
  let c0_i32 : BitVec 32 := 0#32
  let c8_i32 : BitVec 32 := 8#32
  let v0 : BitVec 32 := Scalar.muli arg1 c8_i32
  let c4_i32 : BitVec 32 := 4#32
  let v1 : BitVec 32 := Scalar.subi v0 c4_i32
  let v2 : BitVec 32 := Scalar.maxsi c0_i32 v1
  let v3 : BitVec 32 := Scalar.minsi c240_i32 v2
  let v234 : BitVec 32 := Scalar.subi v233 v3
  let c64_i32_98 : BitVec 32 := 64#32
  let v235 : BitVec 32 := Scalar.muli v234 c64_i32_98
  v235
def k0_mult13 (i : grid0.Coords) : BitVec 32 :=
  let c248_i32_127 : BitVec 32 := 248#32
  let c0_i32_126 : BitVec 32 := 0#32
  let arg1 : BitVec 32 := BitVec.ofNat 32 (i 1).val
  let c8_i32_123 : BitVec 32 := 8#32
  let v299 : BitVec 32 := Scalar.muli arg1 c8_i32_123
  let c4_i32_124 : BitVec 32 := 4#32
  let v300 : BitVec 32 := Scalar.addi v299 c4_i32_124
  let c4_i32_125 : BitVec 32 := 4#32
  let v301 : BitVec 32 := Scalar.subi v300 c4_i32_125
  let v302 : BitVec 32 := Scalar.maxsi c0_i32_126 v301
  let v303 : BitVec 32 := Scalar.minsi c248_i32_127 v302
  let c240_i32 : BitVec 32 := 240#32
  let c0_i32 : BitVec 32 := 0#32
  let c8_i32 : BitVec 32 := 8#32
  let v0 : BitVec 32 := Scalar.muli arg1 c8_i32
  let c4_i32 : BitVec 32 := 4#32
  let v1 : BitVec 32 := Scalar.subi v0 c4_i32
  let v2 : BitVec 32 := Scalar.maxsi c0_i32 v1
  let v3 : BitVec 32 := Scalar.minsi c240_i32 v2
  let v304 : BitVec 32 := Scalar.subi v303 v3
  let c64_i32_128 : BitVec 32 := 64#32
  let v305 : BitVec 32 := Scalar.muli v304 c64_i32_128
  v305
def k0_mult14 (i : grid0.Coords) : BitVec 32 :=
  let c248_i32_156 : BitVec 32 := 248#32
  let c0_i32_155 : BitVec 32 := 0#32
  let arg1 : BitVec 32 := BitVec.ofNat 32 (i 1).val
  let c8_i32_153 : BitVec 32 := 8#32
  let v369 : BitVec 32 := Scalar.muli arg1 c8_i32_153
  let c5_i32 : BitVec 32 := 5#32
  let v370 : BitVec 32 := Scalar.addi v369 c5_i32
  let c4_i32_154 : BitVec 32 := 4#32
  let v371 : BitVec 32 := Scalar.subi v370 c4_i32_154
  let v372 : BitVec 32 := Scalar.maxsi c0_i32_155 v371
  let v373 : BitVec 32 := Scalar.minsi c248_i32_156 v372
  let c240_i32 : BitVec 32 := 240#32
  let c0_i32 : BitVec 32 := 0#32
  let c8_i32 : BitVec 32 := 8#32
  let v0 : BitVec 32 := Scalar.muli arg1 c8_i32
  let c4_i32 : BitVec 32 := 4#32
  let v1 : BitVec 32 := Scalar.subi v0 c4_i32
  let v2 : BitVec 32 := Scalar.maxsi c0_i32 v1
  let v3 : BitVec 32 := Scalar.minsi c240_i32 v2
  let v374 : BitVec 32 := Scalar.subi v373 v3
  let c64_i32_157 : BitVec 32 := 64#32
  let v375 : BitVec 32 := Scalar.muli v374 c64_i32_157
  v375
def k0_mult15 (i : grid0.Coords) : BitVec 32 :=
  let c248_i32_185 : BitVec 32 := 248#32
  let c0_i32_184 : BitVec 32 := 0#32
  let arg1 : BitVec 32 := BitVec.ofNat 32 (i 1).val
  let c8_i32_182 : BitVec 32 := 8#32
  let v439 : BitVec 32 := Scalar.muli arg1 c8_i32_182
  let c6_i32 : BitVec 32 := 6#32
  let v440 : BitVec 32 := Scalar.addi v439 c6_i32
  let c4_i32_183 : BitVec 32 := 4#32
  let v441 : BitVec 32 := Scalar.subi v440 c4_i32_183
  let v442 : BitVec 32 := Scalar.maxsi c0_i32_184 v441
  let v443 : BitVec 32 := Scalar.minsi c248_i32_185 v442
  let c240_i32 : BitVec 32 := 240#32
  let c0_i32 : BitVec 32 := 0#32
  let c8_i32 : BitVec 32 := 8#32
  let v0 : BitVec 32 := Scalar.muli arg1 c8_i32
  let c4_i32 : BitVec 32 := 4#32
  let v1 : BitVec 32 := Scalar.subi v0 c4_i32
  let v2 : BitVec 32 := Scalar.maxsi c0_i32 v1
  let v3 : BitVec 32 := Scalar.minsi c240_i32 v2
  let v444 : BitVec 32 := Scalar.subi v443 v3
  let c64_i32_186 : BitVec 32 := 64#32
  let v445 : BitVec 32 := Scalar.muli v444 c64_i32_186
  v445
def k0_mult16 (i : grid0.Coords) : BitVec 32 :=
  let c248_i32_215 : BitVec 32 := 248#32
  let c0_i32_214 : BitVec 32 := 0#32
  let arg1 : BitVec 32 := BitVec.ofNat 32 (i 1).val
  let c8_i32_211 : BitVec 32 := 8#32
  let v509 : BitVec 32 := Scalar.muli arg1 c8_i32_211
  let c7_i32_212 : BitVec 32 := 7#32
  let v510 : BitVec 32 := Scalar.addi v509 c7_i32_212
  let c4_i32_213 : BitVec 32 := 4#32
  let v511 : BitVec 32 := Scalar.subi v510 c4_i32_213
  let v512 : BitVec 32 := Scalar.maxsi c0_i32_214 v511
  let v513 : BitVec 32 := Scalar.minsi c248_i32_215 v512
  let c240_i32 : BitVec 32 := 240#32
  let c0_i32 : BitVec 32 := 0#32
  let c8_i32 : BitVec 32 := 8#32
  let v0 : BitVec 32 := Scalar.muli arg1 c8_i32
  let c4_i32 : BitVec 32 := 4#32
  let v1 : BitVec 32 := Scalar.subi v0 c4_i32
  let v2 : BitVec 32 := Scalar.maxsi c0_i32 v1
  let v3 : BitVec 32 := Scalar.minsi c240_i32 v2
  let v514 : BitVec 32 := Scalar.subi v513 v3
  let c64_i32_216 : BitVec 32 := 64#32
  let v515 : BitVec 32 := Scalar.muli v514 c64_i32_216
  v515
def cc0_transform_0 (i : grid0.Coords) : Fin 2 → Nat :=
  let arg0 : BitVec 32 := BitVec.ofNat 32 (i 0).val
  let arg1 : BitVec 32 := BitVec.ofNat 32 (i 1).val
  let c512_i32 : BitVec 32 := 512#32
  let v0 : BitVec 32 := Scalar.muli arg1 c512_i32
  let c16_i32 : BitVec 32 := 16#32
  let v1 : BitVec 32 := Scalar.addi c16_i32 v0
  let v2 : BitVec 32 := v1
  let c128_i32 : BitVec 32 := 128#32
  let v3 : BitVec 32 := Scalar.muli arg0 c128_i32
  let c6144_i32 : BitVec 32 := 6144#32
  let v4 : BitVec 32 := Scalar.addi c6144_i32 v3
  let v5 : BitVec 32 := v4
  let c0_i32 : BitVec 32 := 0#32
  ![v2.toNat, v5.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c4_i32 : BitVec 32 := 4#32
  let v1 : BitVec 32 := Scalar.subi v0 c4_i32
  let c0_i32 : BitVec 32 := 0#32
  let c240_i32 : BitVec 32 := 240#32
  let v2 : BitVec 32 := Scalar.maxsi c0_i32 v1
  let v3 : BitVec 32 := Scalar.minsi c240_i32 v2
  let c64_i32 : BitVec 32 := 64#32
  let v4 : BitVec 32 := Scalar.muli c64_i32 v3
  let c16_i32 : BitVec 32 := 16#32
  let v5 : BitVec 32 := Scalar.addi c16_i32 v4
  let v6 : BitVec 32 := v5
  let c128_i32 : BitVec 32 := 128#32
  let v7 : BitVec 32 := Scalar.muli arg0 c128_i32
  let c7168_i32 : BitVec 32 := 7168#32
  let v8 : BitVec 32 := Scalar.addi c7168_i32 v7
  let v9 : BitVec 32 := v8
  let c0_i32_0 : BitVec 32 := 0#32
  ![v6.toNat, v9.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c4_i32 : BitVec 32 := 4#32
  let v1 : BitVec 32 := Scalar.subi v0 c4_i32
  let c0_i32 : BitVec 32 := 0#32
  let c240_i32 : BitVec 32 := 240#32
  let v2 : BitVec 32 := Scalar.maxsi c0_i32 v1
  let v3 : BitVec 32 := Scalar.minsi c240_i32 v2
  let c64_i32 : BitVec 32 := 64#32
  let v4 : BitVec 32 := Scalar.muli c64_i32 v3
  let c16_i32 : BitVec 32 := 16#32
  let v5 : BitVec 32 := Scalar.addi c16_i32 v4
  let v6 : BitVec 32 := v5
  let c128_i32 : BitVec 32 := 128#32
  let v7 : BitVec 32 := Scalar.muli arg0 c128_i32
  let c8192_i32 : BitVec 32 := 8192#32
  let v8 : BitVec 32 := Scalar.addi c8192_i32 v7
  let v9 : BitVec 32 := v8
  let c0_i32_0 : BitVec 32 := 0#32
  ![v6.toNat, v9.toNat]

def cc0_transform_3 (i : grid0.Coords) : Fin 2 → Nat :=
  let arg0 : BitVec 32 := BitVec.ofNat 32 (i 0).val
  let arg1 : BitVec 32 := BitVec.ofNat 32 (i 1).val
  let c56_i32 : BitVec 32 := 56#32
  let v0 : BitVec 32 := Scalar.addi c56_i32 arg0
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.addi c64_i32 arg0
  let c0_i32 : BitVec 32 := 0#32
  let c0_i32_0 : BitVec 32 := 0#32
  ![c0_i32.toNat, v0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c512_i32 : BitVec 32 := 512#32
  let v0 : BitVec 32 := Scalar.muli arg1 c512_i32
  let c16_i32 : BitVec 32 := 16#32
  let v1 : BitVec 32 := Scalar.addi c16_i32 v0
  let v2 : BitVec 32 := v1
  let c128_i32 : BitVec 32 := 128#32
  let v3 : BitVec 32 := Scalar.muli arg0 c128_i32
  let c9216_i32 : BitVec 32 := 9216#32
  let v4 : BitVec 32 := Scalar.addi c9216_i32 v3
  let v5 : BitVec 32 := v4
  let c0_i32 : BitVec 32 := 0#32
  ![v2.toNat, v5.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S16x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S16x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x8x512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x16x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== NaMainRefIdeal.lean ====
abbrev S16400x16384 : Shape := ⟨2, ![16400, 16384]⟩
abbrev S16x15x31 : Shape := ⟨3, ![16, 15, 31]⟩
abbrev S16x16 : Shape := ⟨2, ![16, 16]⟩
abbrev S16400x1024 : Shape := ⟨2, ![16400, 1024]⟩
abbrev S16400x16x64 : Shape := ⟨3, ![16400, 16, 64]⟩
abbrev S16x16400x64 : Shape := ⟨3, ![16, 16400, 64]⟩
abbrev S16x16384x64 : Shape := ⟨3, ![16, 16384, 64]⟩
abbrev S16x256x64x64 : Shape := ⟨4, ![16, 256, 64, 64]⟩
abbrev S16x16x64 : Shape := ⟨3, ![16, 16, 64]⟩
abbrev S256 : Shape := ⟨1, ![256]⟩
abbrev S_ : Shape := ⟨0, ![]⟩
abbrev S64 : Shape := ⟨1, ![64]⟩
abbrev S256x1 : Shape := ⟨2, ![256, 1]⟩
abbrev S8 : Shape := ⟨1, ![8]⟩
abbrev S1x8 : Shape := ⟨2, ![1, 8]⟩
abbrev S256x8 : Shape := ⟨2, ![256, 8]⟩
abbrev S64x1 : Shape := ⟨2, ![64, 1]⟩
abbrev S16 : Shape := ⟨1, ![16]⟩
abbrev S1x16 : Shape := ⟨2, ![1, 16]⟩
abbrev S64x16 : Shape := ⟨2, ![64, 16]⟩
abbrev S256x8x1 : Shape := ⟨3, ![256, 8, 1]⟩
abbrev S16x256x8x64x64 : Shape := ⟨5, ![16, 256, 8, 64, 64]⟩
abbrev S64x16x1 : Shape := ⟨3, ![64, 16, 1]⟩
abbrev S16x256x8x64x16x64 : Shape := ⟨6, ![16, 256, 8, 64, 16, 64]⟩
abbrev S16x256x64x8x16 : Shape := ⟨5, ![16, 256, 64, 8, 16]⟩
abbrev S16x256x8x31 : Shape := ⟨4, ![16, 256, 8, 31]⟩
abbrev S16x256x8x64x16 : Shape := ⟨5, ![16, 256, 8, 64, 16]⟩
abbrev S16x256x64x16 : Shape := ⟨4, ![16, 256, 64, 16]⟩
abbrev S16x1x1x16 : Shape := ⟨4, ![16, 1, 1, 16]⟩
abbrev S16x256x64x128 : Shape := ⟨4, ![16, 256, 64, 128]⟩
abbrev S16x256x64x144 : Shape := ⟨4, ![16, 256, 64, 144]⟩
abbrev S16x256x64 : Shape := ⟨3, ![16, 256, 64]⟩
abbrev S16x256x64x1 : Shape := ⟨4, ![16, 256, 64, 1]⟩
abbrev S256x64x16x64 : Shape := ⟨4, ![256, 64, 16, 64]⟩
abbrev S16384x1024 : Shape := ⟨2, ![16384, 1024]⟩

abbrev nBuf : Space → Nat
  | .hbm => 174
  | .vmem => 0
  | .smem => 0
  | _ => 0

abbrev hbmTy0_0 (i : Nat) : BufTy := match i % 128 with
  | 0 => ⟨S16400x16384, .f32⟩
  | 1 => ⟨S16x15x31, .f32⟩
  | 2 => ⟨S16x16, .f32⟩
  | 3 => ⟨S16400x1024, .f32⟩
  | 4 => ⟨S16400x1024, .f32⟩
  | 5 => ⟨S16400x1024, .f32⟩
  | 6 => ⟨S16400x1024, .f32⟩
  | 7 => ⟨S16400x16x64, .f32⟩
  | 8 => ⟨S16x16400x64, .f32⟩
  | 9 => ⟨S16400x16x64, .f32⟩
  | 10 => ⟨S16x16400x64, .f32⟩
  | 11 => ⟨S16400x16x64, .f32⟩
  | 12 => ⟨S16x16400x64, .f32⟩
  | 13 => ⟨S16x16384x64, .f32⟩
  | 14 => ⟨S16x256x64x64, .f32⟩
  | 15 => ⟨S16x16384x64, .f32⟩
  | 16 => ⟨S16x256x64x64, .f32⟩
  | 17 => ⟨S16x16384x64, .f32⟩
  | 18 => ⟨S16x256x64x64, .f32⟩
  | 19 => ⟨S16x16x64, .f32⟩
  | 20 => ⟨S16x16x64, .f32⟩
  | 21 => ⟨S256, .i32⟩
  | 22 => ⟨S_, .i32⟩
  | 23 => ⟨S256, .i32⟩
  | 24 => ⟨S256, .i32⟩
  | 25 => ⟨S_, .i32⟩
  | 26 => ⟨S_, .i32⟩
  | 27 => ⟨S_, .i32⟩
  | 28 => ⟨S256, .i32⟩
  | 29 => ⟨S256, .i32⟩
  | 30 => ⟨S_, .i32⟩
  | 31 => ⟨S256, .i32⟩
  | 32 => ⟨S256, .i32⟩
  | 33 => ⟨S64, .i32⟩
  | 34 => ⟨S_, .i32⟩
  | 35 => ⟨S64, .i32⟩
  | 36 => ⟨S64, .i32⟩
  | 37 => ⟨S_, .i32⟩
  | 38 => ⟨S_, .i32⟩
  | 39 => ⟨S_, .i32⟩
  | 40 => ⟨S64, .i32⟩
  | 41 => ⟨S64, .i32⟩
  | 42 => ⟨S_, .i32⟩
  | 43 => ⟨S64, .i32⟩
  | 44 => ⟨S64, .i32⟩
  | 45 => ⟨S256x1, .i32⟩
  | 46 => ⟨S8, .i32⟩
  | 47 => ⟨S1x8, .i32⟩
  | 48 => ⟨S256x8, .i32⟩
  | 49 => ⟨S256x8, .i32⟩
  | 50 => ⟨S256x8, .i32⟩
  | 51 => ⟨S64x1, .i32⟩
  | 52 => ⟨S16, .i32⟩
  | 53 => ⟨S1x16, .i32⟩
  | 54 => ⟨S64x16, .i32⟩
  | 55 => ⟨S64x16, .i32⟩
  | 56 => ⟨S64x16, .i32⟩
  | 57 => ⟨S_, .i32⟩
  | 58 => ⟨S256x8, .i32⟩
  | 59 => ⟨S256x8, .i1⟩
  | 60 => ⟨S_, .i32⟩
  | 61 => ⟨S256x8, .i32⟩
  | 62 => ⟨S256x8, .i32⟩
  | 63 => ⟨S256x8, .i32⟩
  | 64 => ⟨S256x8x1, .i32⟩
  | 65 => ⟨S16x256x8x64x64, .f32⟩
  | 66 => ⟨S_, .i32⟩
  | 67 => ⟨S64x16, .i32⟩
  | 68 => ⟨S64x16, .i1⟩
  | 69 => ⟨S_, .i32⟩
  | 70 => ⟨S64x16, .i32⟩
  | 71 => ⟨S64x16, .i32⟩
  | 72 => ⟨S64x16, .i32⟩
  | 73 => ⟨S64x16x1, .i32⟩
  | 74 => ⟨S16x256x8x64x16x64, .f32⟩
  | 75 => ⟨S_, .i32⟩
  | 76 => ⟨S256x8, .i32⟩
  | 77 => ⟨S256x8, .i1⟩
  | 78 => ⟨S_, .i32⟩
  | 79 => ⟨S256x8, .i32⟩
  | 80 => ⟨S256x8, .i32⟩
  | 81 => ⟨S256x8, .i32⟩
  | 82 => ⟨S256x8x1, .i32⟩
  | 83 => ⟨S16x256x8x64x64, .f32⟩
  | 84 => ⟨S_, .i32⟩
  | 85 => ⟨S64x16, .i32⟩
  | 86 => ⟨S64x16, .i1⟩
  | 87 => ⟨S_, .i32⟩
  | 88 => ⟨S64x16, .i32⟩
  | 89 => ⟨S64x16, .i32⟩
  | 90 => ⟨S64x16, .i32⟩
  | 91 => ⟨S64x16x1, .i32⟩
  | 92 => ⟨S16x256x8x64x16x64, .f32⟩
  | 93 => ⟨S16x256x64x8x16, .f32⟩
  | 94 => ⟨S_, .f32⟩
  | 95 => ⟨S16x256x64x8x16, .f32⟩
  | 96 => ⟨S16x256x64x8x16, .f32⟩
  | 97 => ⟨S256, .i32⟩
  | 98 => ⟨S256x1, .i32⟩
  | 99 => ⟨S256x8, .i32⟩
  | 100 => ⟨S256x8, .i32⟩
  | 101 => ⟨S_, .i32⟩
  | 102 => ⟨S256x8, .i32⟩
  | 103 => ⟨S256x8, .i32⟩
  | 104 => ⟨S64, .i32⟩
  | 105 => ⟨S64x1, .i32⟩
  | 106 => ⟨S64x16, .i32⟩
  | 107 => ⟨S64x16, .i32⟩
  | 108 => ⟨S_, .i32⟩
  | 109 => ⟨S64x16, .i32⟩
  | 110 => ⟨S64x16, .i32⟩
  | 111 => ⟨S_, .i32⟩
  | 112 => ⟨S256x8, .i32⟩
  | 113 => ⟨S256x8, .i1⟩
  | 114 => ⟨S_, .i32⟩
  | 115 => ⟨S256x8, .i32⟩
  | 116 => ⟨S256x8, .i32⟩
  | 117 => ⟨S256x8, .i32⟩
  | 118 => ⟨S256x8x1, .i32⟩
  | 119 => ⟨S16x256x8x31, .f32⟩
  | 120 => ⟨S_, .i32⟩
  | 121 => ⟨S64x16, .i32⟩
  | 122 => ⟨S64x16, .i1⟩
  | 123 => ⟨S_, .i32⟩
  | 124 => ⟨S64x16, .i32⟩
  | 125 => ⟨S64x16, .i32⟩
  | 126 => ⟨S64x16, .i32⟩
  | 127 => ⟨S64x16x1, .i32⟩
  | _ => ⟨S16400x16384, .f32⟩

abbrev hbmTy0_1 (i : Nat) : BufTy := match i % 128 with
  | 0 => ⟨S16x256x8x64x16, .f32⟩
  | 1 => ⟨S16x256x64x8x16, .f32⟩
  | 2 => ⟨S16x256x64x8x16, .f32⟩
  | 3 => ⟨S16x256x64x16, .f32⟩
  | 4 => ⟨S_, .f32⟩
  | 5 => ⟨S16x256x64x16, .f32⟩
  | 6 => ⟨S16x256x64x16, .f32⟩
  | 7 => ⟨S16x1x1x16, .f32⟩
  | 8 => ⟨S16x256x64x16, .f32⟩
  | 9 => ⟨S16x256x64x16, .f32⟩
  | 10 => ⟨S16x256x64x128, .f32⟩
  | 11 => ⟨S16x256x64x144, .f32⟩
  | 12 => ⟨S_, .f32⟩
  | 13 => ⟨S16x256x64, .f32⟩
  | 14 => ⟨S_, .f32⟩
  | 15 => ⟨S16x256x64, .f32⟩
  | 16 => ⟨S16x256x64, .f32⟩
  | 17 => ⟨S16x256x64x1, .f32⟩
  | 18 => ⟨S16x256x64x144, .f32⟩
  | 19 => ⟨S16x256x64x144, .f32⟩
  | 20 => ⟨S16x256x64x144, .f32⟩
  | 21 => ⟨S_, .f32⟩
  | 22 => ⟨S16x256x64, .f32⟩
  | 23 => ⟨S16x256x64x1, .f32⟩
  | 24 => ⟨S16x256x64x144, .f32⟩
  | 25 => ⟨S16x256x64x144, .f32⟩
  | 26 => ⟨S16x256x64x128, .f32⟩
  | 27 => ⟨S16x256x64x8x16, .f32⟩
  | 28 => ⟨S16x256x64x64, .f32⟩
  | 29 => ⟨S16x256x64x16, .f32⟩
  | 30 => ⟨S16x256x64x64, .f32⟩
  | 31 => ⟨S16x256x64x64, .f32⟩
  | 32 => ⟨S256x64x16x64, .f32⟩
  | 33 => ⟨S16384x1024, .f32⟩
  | 34 => ⟨S16384x1024, .f32⟩
  | 35 => ⟨S16384x1024, .f32⟩
  | 36 => ⟨S16384x1024, .f32⟩
  | 37 => ⟨S_, .f32⟩
  | 38 => ⟨S16384x1024, .f32⟩
  | 39 => ⟨S16384x1024, .f32⟩
  | 40 => ⟨S_, .f32⟩
  | 41 => ⟨S16384x1024, .f32⟩
  | 42 => ⟨S16384x1024, .f32⟩
  | 43 => ⟨S16384x1024, .f32⟩
  | 44 => ⟨S16384x1024, .f32⟩
  | 45 => ⟨S16384x1024, .bf16⟩
  | _ => ⟨S16400x16384, .f32⟩

abbrev hbmTy (i : Nat) : BufTy := match i / 128 with
  | 0 => hbmTy0_0 i
  | 1 => hbmTy0_1 i
  | _ => ⟨S16400x16384, .f32⟩

abbrev bufTy : (tb : Table) → Fin (tcTables nBuf tb) → BufTy
  | .hbm, ⟨i, _⟩ => hbmTy i
  | _, _ => ⟨S16400x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_c : Ref sig .tc := ⟨.hbm, 22, rfl⟩
abbrev main_v19 : Ref sig .tc := ⟨.hbm, 23, rfl⟩
abbrev main_v20 : Ref sig .tc := ⟨.hbm, 24, rfl⟩
abbrev main_c_0 : Ref sig .tc := ⟨.hbm, 25, rfl⟩
abbrev main_c_1 : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_v21 : Ref sig .tc := ⟨.hbm, 32, rfl⟩
abbrev main_v22 : Ref sig .tc := ⟨.hbm, 33, rfl⟩
abbrev main_c_2 : Ref sig .tc := ⟨.hbm, 34, rfl⟩
abbrev main_v23 : Ref sig .tc := ⟨.hbm, 35, rfl⟩
abbrev main_v24 : Ref sig .tc := ⟨.hbm, 36, rfl⟩
abbrev main_c_3 : Ref sig .tc := ⟨.hbm, 37, rfl⟩
abbrev main_c_4 : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_call1_v3 : Ref sig .tc := ⟨.hbm, 42, rfl⟩
abbrev main_call1_v4 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_c_5 : Ref sig .tc := ⟨.hbm, 57, rfl⟩
abbrev main_v38 : Ref sig .tc := ⟨.hbm, 58, rfl⟩
abbrev main_v39 : Ref sig .tc := ⟨.hbm, 59, rfl⟩
abbrev main_c_6 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_c_7 : Ref sig .tc := ⟨.hbm, 66, rfl⟩
abbrev main_v45 : Ref sig .tc := ⟨.hbm, 67, rfl⟩
abbrev main_v46 : Ref sig .tc := ⟨.hbm, 68, rfl⟩
abbrev main_c_8 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_c_9 : Ref sig .tc := ⟨.hbm, 75, rfl⟩
abbrev main_v52 : Ref sig .tc := ⟨.hbm, 76, rfl⟩
abbrev main_v53 : Ref sig .tc := ⟨.hbm, 77, rfl⟩
abbrev main_c_10 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_c_11 : Ref sig .tc := ⟨.hbm, 84, rfl⟩
abbrev main_v59 : Ref sig .tc := ⟨.hbm, 85, rfl⟩
abbrev main_v60 : Ref sig .tc := ⟨.hbm, 86, rfl⟩
abbrev main_c_12 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_cst : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_c_13 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_c_14 : Ref sig .tc := ⟨.hbm, 108, rfl⟩
abbrev main_v79 : Ref sig .tc := ⟨.hbm, 109, rfl⟩
abbrev main_v80 : Ref sig .tc := ⟨.hbm, 110, rfl⟩
abbrev main_c_15 : Ref sig .tc := ⟨.hbm, 111, rfl⟩
abbrev main_v81 : Ref sig .tc := ⟨.hbm, 112, rfl⟩
abbrev main_v82 : Ref sig .tc := ⟨.hbm, 113, rfl⟩
abbrev main_c_16 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_c_17 : Ref sig .tc := ⟨.hbm, 120, rfl⟩
abbrev main_v88 : Ref sig .tc := ⟨.hbm, 121, rfl⟩
abbrev main_v89 : Ref sig .tc := ⟨.hbm, 122, rfl⟩
abbrev main_c_18 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_cst_19 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_cst_20 : Ref sig .tc := ⟨.hbm, 140, rfl⟩
abbrev main_v105 : Ref sig .tc := ⟨.hbm, 141, rfl⟩
abbrev main_cst_21 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_cst_22 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_v123 : Ref sig .tc := ⟨.hbm, 161, rfl⟩
abbrev main_v124 : Ref sig .tc := ⟨.hbm, 162, rfl⟩
abbrev main_call2_v0 : Ref sig .tc := ⟨.hbm, 163, rfl⟩
abbrev main_call2_v1 : Ref sig .tc := ⟨.hbm, 164, rfl⟩
abbrev main_call2_cst : Ref sig .tc := ⟨.hbm, 165, rfl⟩
abbrev main_call2_v2 : Ref sig .tc := ⟨.hbm, 166, rfl⟩
abbrev main_call2_v3 : Ref sig .tc := ⟨.hbm, 167, rfl⟩
abbrev main_call2_cst_0 : Ref sig .tc := ⟨.hbm, 168, rfl⟩
abbrev main_call2_v4 : Ref sig .tc := ⟨.hbm, 169, rfl⟩
abbrev main_call2_v5 : Ref sig .tc := ⟨.hbm, 170, rfl⟩
abbrev main_v125 : Ref sig .tc := ⟨.hbm, 171, rfl⟩
abbrev main_v126 : Ref sig .tc := ⟨.hbm, 172, rfl⟩
abbrev main_v127 : Ref sig .tc := ⟨.hbm, 173, rfl⟩

abbrev nD : Nat := 1
abbrev τ : Topo := Topo.v7x

variable {F : FTy → Type} [FloatOps F]
-- ==== NaMeta.lean ====
abbrev S16400x16384 : Shape := ⟨2, ![16400, 16384]⟩
abbrev S16x16 : Shape := ⟨2, ![16, 16]⟩
abbrev S8x2x1x16 : Shape := ⟨4, ![8, 2, 1, 16]⟩
abbrev S8x2x8x16 : Shape := ⟨4, ![8, 2, 8, 16]⟩
abbrev S16x1024 : Shape := ⟨2, ![16, 1024]⟩
abbrev S16x128 : Shape := ⟨2, ![16, 128]⟩
abbrev S1x2x8x16 : Shape := ⟨4, ![1, 2, 8, 16]⟩
abbrev S1x1x1x16 : Shape := ⟨4, ![1, 1, 1, 16]⟩
abbrev S1x16 : Shape := ⟨2, ![1, 16]⟩
abbrev S16 : Shape := ⟨1, ![16]⟩
abbrev S16x1 : Shape := ⟨2, ![16, 1]⟩

abbrev nBuf : Space → Nat
  | .hbm => 5
  | .vmem => 12
  | .smem => 0
  | _ => 0

abbrev bufTy : (tb : Table) → Fin (tcTables nBuf tb) → BufTy
  | .hbm, ⟨0, _⟩ => ⟨S16400x16384, .f32⟩
  | .hbm, ⟨1, _⟩ => ⟨S16x16, .f32⟩
  | .hbm, ⟨2, _⟩ => ⟨S8x2x1x16, .f32⟩
  | .hbm, ⟨3, _⟩ => ⟨S8x2x8x16, .f32⟩
  | .hbm, ⟨4, _⟩ => ⟨S16x1024, .bf16⟩
  | .local _ .vmem, ⟨0, _⟩ => ⟨S16x128, .f32⟩
  | .local _ .vmem, ⟨1, _⟩ => ⟨S16x128, .f32⟩
  | .local _ .vmem, ⟨2, _⟩ => ⟨S16x128, .f32⟩
  | .local _ .vmem, ⟨3, _⟩ => ⟨S16x128, .f32⟩
  | .local _ .vmem, ⟨4, _⟩ => ⟨S16x128, .f32⟩
  | .local _ .vmem, ⟨5, _⟩ => ⟨S16x128, .f32⟩
  | .local _ .vmem, ⟨6, _⟩ => ⟨S1x2x8x16, .f32⟩
  | .local _ .vmem, ⟨7, _⟩ => ⟨S1x2x8x16, .f32⟩
  | .local _ .vmem, ⟨8, _⟩ => ⟨S16x128, .f32⟩
  | .local _ .vmem, ⟨9, _⟩ => ⟨S16x128, .f32⟩
  | .local _ .vmem, ⟨10, _⟩ => ⟨S16x128, .bf16⟩
  | .local _ .vmem, ⟨11, _⟩ => ⟨S16x128, .bf16⟩
  | _, _ => ⟨S16400x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c48_i32 : BitVec 32 := 48#32
  let v0 : BitVec 32 := Scalar.addi c48_i32 arg0
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c56_i32 : BitVec 32 := 56#32
  let v0 : BitVec 32 := Scalar.addi c56_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c64_i32 : BitVec 32 := 64#32
  let v0 : BitVec 32 := Scalar.addi c64_i32 arg0
  let c0_i32 : BitVec 32 := 0#32
  let c0_i32_0 : BitVec 32 := 0#32
  ![c0_i32.toNat, v0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 2 → Nat :=
  let arg0 : BitVec 32 := BitVec.ofNat 32 (i 0).val
  let c72_i32 : BitVec 32 := 72#32
  let v0 : BitVec 32 := Scalar.addi c72_i32 arg0
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S16x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2x8x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== NaMetaRefIdeal.lean ====
abbrev S16400x16384 : Shape := ⟨2, ![16400, 16384]⟩
abbrev S16x16 : Shape := ⟨2, ![16, 16]⟩
abbrev S16x1024 : Shape := ⟨2, ![16, 1024]⟩
abbrev S16x16x64 : Shape := ⟨3, ![16, 16, 64]⟩
abbrev S16x16x16 : Shape := ⟨3, ![16, 16, 16]⟩
abbrev S_ : Shape := ⟨0, ![]⟩
abbrev S16x1x16 : Shape := ⟨3, ![16, 1, 16]⟩
abbrev S16x16x1 : Shape := ⟨3, ![16, 16, 1]⟩

abbrev nBuf : Space → Nat
  | .hbm => 47
  | .vmem => 0
  | .smem => 0
  | _ => 0

abbrev bufTy : (tb : Table) → Fin (tcTables nBuf tb) → BufTy
  | .hbm, ⟨0, _⟩ => ⟨S16400x16384, .f32⟩
  | .hbm, ⟨1, _⟩ => ⟨S16x16, .f32⟩
  | .hbm, ⟨2, _⟩ => ⟨S16x1024, .f32⟩
  | .hbm, ⟨3, _⟩ => ⟨S16x1024, .f32⟩
  | .hbm, ⟨4, _⟩ => ⟨S16x1024, .f32⟩
  | .hbm, ⟨5, _⟩ => ⟨S16x1024, .f32⟩
  | .hbm, ⟨6, _⟩ => ⟨S16x16x64, .f32⟩
  | .hbm, ⟨7, _⟩ => ⟨S16x16x64, .f32⟩
  | .hbm, ⟨8, _⟩ => ⟨S16x16x64, .f32⟩
  | .hbm, ⟨9, _⟩ => ⟨S16x16x64, .f32⟩
  | .hbm, ⟨10, _⟩ => ⟨S16x16x64, .f32⟩
  | .hbm, ⟨11, _⟩ => ⟨S16x16x64, .f32⟩
  | .hbm, ⟨12, _⟩ => ⟨S16x16x16, .f32⟩
  | .hbm, ⟨13, _⟩ => ⟨S_, .f32⟩
  | .hbm, ⟨14, _⟩ => ⟨S16x16x16, .f32⟩
  | .hbm, ⟨15, _⟩ => ⟨S16x16x16, .f32⟩
  | .hbm, ⟨16, _⟩ => ⟨S16x1x16, .f32⟩
  | .hbm, ⟨17, _⟩ => ⟨S16x16x16, .f32⟩
  | .hbm, ⟨18, _⟩ => ⟨S16x16x16, .f32⟩
  | .hbm, ⟨19, _⟩ => ⟨S_, .f32⟩
  | .hbm, ⟨20, _⟩ => ⟨S16x16, .f32⟩
  | .hbm, ⟨21, _⟩ => ⟨S_, .f32⟩
  | .hbm, ⟨22, _⟩ => ⟨S16x16, .f32⟩
  | .hbm, ⟨23, _⟩ => ⟨S16x16, .f32⟩
  | .hbm, ⟨24, _⟩ => ⟨S16x16x1, .f32⟩
  | .hbm, ⟨25, _⟩ => ⟨S16x16x16, .f32⟩
  | .hbm, ⟨26, _⟩ => ⟨S16x16x16, .f32⟩
  | .hbm, ⟨27, _⟩ => ⟨S16x16x16, .f32⟩
  | .hbm, ⟨28, _⟩ => ⟨S_, .f32⟩
  | .hbm, ⟨29, _⟩ => ⟨S16x16, .f32⟩
  | .hbm, ⟨30, _⟩ => ⟨S16x16x1, .f32⟩
  | .hbm, ⟨31, _⟩ => ⟨S16x16x16, .f32⟩
  | .hbm, ⟨32, _⟩ => ⟨S16x16x16, .f32⟩
  | .hbm, ⟨33, _⟩ => ⟨S16x16x64, .f32⟩
  | .hbm, ⟨34, _⟩ => ⟨S16x16x64, .f32⟩
  | .hbm, ⟨35, _⟩ => ⟨S16x1024, .f32⟩
  | .hbm, ⟨36, _⟩ => ⟨S16x1024, .f32⟩
  | .hbm, ⟨37, _⟩ => ⟨S16x1024, .f32⟩
  | .hbm, ⟨38, _⟩ => ⟨S_, .f32⟩
  | .hbm, ⟨39, _⟩ => ⟨S16x1024, .f32⟩
  | .hbm, ⟨40, _⟩ => ⟨S16x1024, .f32⟩
  | .hbm, ⟨41, _⟩ => ⟨S_, .f32⟩
  | .hbm, ⟨42, _⟩ => ⟨S16x1024, .f32⟩
  | .hbm, ⟨43, _⟩ => ⟨S16x1024, .f32⟩
  | .hbm, ⟨44, _⟩ => ⟨S16x1024, .f32⟩
  | .hbm, ⟨45, _⟩ => ⟨S16x1024, .f32⟩
  | .hbm, ⟨46, _⟩ => ⟨S16x1024, .bf16⟩
  | _, _ => ⟨S16400x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_cst : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_cst_0 : Ref sig .tc := ⟨.hbm, 19, rfl⟩
abbrev main_v16 : Ref sig .tc := ⟨.hbm, 20, rfl⟩
abbrev main_cst_1 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_cst_2 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_call0_v0 : Ref sig .tc := ⟨.hbm, 36, rfl⟩
abbrev main_call0_v1 : Ref sig .tc := ⟨.hbm, 37, rfl⟩
abbrev main_call0_cst : Ref sig .tc := ⟨.hbm, 38, rfl⟩
abbrev main_call0_v2 : Ref sig .tc := ⟨.hbm, 39, rfl⟩
abbrev main_call0_v3 : Ref sig .tc := ⟨.hbm, 40, rfl⟩
abbrev main_call0_cst_0 : Ref sig .tc := ⟨.hbm, 41, rfl⟩
abbrev main_call0_v4 : Ref sig .tc := ⟨.hbm, 42, rfl⟩
abbrev main_call0_v5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩

abbrev nD : Nat := 1
abbrev τ : Topo := Topo.v7x

variable {F : FTy → Type} [FloatOps F]
-- ==== InProj.lean ====
abbrev S16400x2048 : Shape := ⟨2, ![16400, 2048]⟩
abbrev S2048 : Shape := ⟨1, ![2048]⟩
abbrev S2048x16384 : Shape := ⟨2, ![2048, 16384]⟩
abbrev S1x2048 : Shape := ⟨2, ![1, 2048]⟩
abbrev S16400x16384 : Shape := ⟨2, ![16400, 16384]⟩
abbrev S656x2048 : Shape := ⟨2, ![656, 2048]⟩
abbrev S2048x1024 : Shape := ⟨2, ![2048, 1024]⟩
abbrev S656x1024 : Shape := ⟨2, ![656, 1024]⟩
abbrev S656 : Shape := ⟨1, ![656]⟩
abbrev S656x1 : Shape := ⟨2, ![656, 1]⟩

abbrev nBuf : Space → Nat
  | .hbm => 6
  | .vmem => 8
  | .smem => 0
  | _ => 0

abbrev bufTy : (tb : Table) → Fin (tcTables nBuf tb) → BufTy
  | .hbm, ⟨0, _⟩ => ⟨S16400x2048, .f32⟩
  | .hbm, ⟨1, _⟩ => ⟨S2048, .f32⟩
  | .hbm, ⟨2, _⟩ => ⟨S2048x16384, .f32⟩
  | .hbm, ⟨3, _⟩ => ⟨S2048x16384, .bf16⟩
  | .hbm, ⟨4, _⟩ => ⟨S1x2048, .f32⟩
  | .hbm, ⟨5, _⟩ => ⟨S16400x16384, .f32⟩
  | .local _ .vmem, ⟨0, _⟩ => ⟨S656x2048, .f32⟩
  | .local _ .vmem, ⟨1, _⟩ => ⟨S656x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S656x1024, .f32⟩
  | .local _ .vmem, ⟨6, _⟩ => ⟨S656x1024, .f32⟩
  | .local _ .vmem, ⟨7, _⟩ => ⟨S656x2048, .bf16⟩
  | _, _ => ⟨S16400x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![25, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S656x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S656x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== InProjRefIdeal.lean ====
abbrev S16400x2048 : Shape := ⟨2, ![16400, 2048]⟩
abbrev S2048 : Shape := ⟨1, ![2048]⟩
abbrev S2048x16384 : Shape := ⟨2, ![2048, 16384]⟩
abbrev S_ : Shape := ⟨0, ![]⟩
abbrev S16400 : Shape := ⟨1, ![16400]⟩
abbrev S16400x1 : Shape := ⟨2, ![16400, 1]⟩
abbrev S1x2048 : Shape := ⟨2, ![1, 2048]⟩
abbrev S16400x16384 : Shape := ⟨2, ![16400, 16384]⟩

abbrev nBuf : Space → Nat
  | .hbm => 20
  | .vmem => 0
  | .smem => 0
  | _ => 0

abbrev bufTy : (tb : Table) → Fin (tcTables nBuf tb) → BufTy
  | .hbm, ⟨0, _⟩ => ⟨S16400x2048, .f32⟩
  | .hbm, ⟨1, _⟩ => ⟨S2048, .f32⟩
  | .hbm, ⟨2, _⟩ => ⟨S2048x16384, .f32⟩
  | .hbm, ⟨3, _⟩ => ⟨S16400x2048, .f32⟩
  | .hbm, ⟨4, _⟩ => ⟨S_, .f32⟩
  | .hbm, ⟨5, _⟩ => ⟨S16400, .f32⟩
  | .hbm, ⟨6, _⟩ => ⟨S16400x1, .f32⟩
  | .hbm, ⟨7, _⟩ => ⟨S_, .f32⟩
  | .hbm, ⟨8, _⟩ => ⟨S16400x1, .f32⟩
  | .hbm, ⟨9, _⟩ => ⟨S16400x1, .f32⟩
  | .hbm, ⟨10, _⟩ => ⟨S_, .f32⟩
  | .hbm, ⟨11, _⟩ => ⟨S16400x1, .f32⟩
  | .hbm, ⟨12, _⟩ => ⟨S16400x1, .f32⟩
  | .hbm, ⟨13, _⟩ => ⟨S16400x1, .f32⟩
  | .hbm, ⟨14, _⟩ => ⟨S16400x2048, .f32⟩
  | .hbm, ⟨15, _⟩ => ⟨S16400x2048, .f32⟩
  | .hbm, ⟨16, _⟩ => ⟨S1x2048, .f32⟩
  | .hbm, ⟨17, _⟩ => ⟨S16400x2048, .f32⟩
  | .hbm, ⟨18, _⟩ => ⟨S16400x2048, .f32⟩
  | .hbm, ⟨19, _⟩ => ⟨S16400x16384, .f32⟩
  | _, _ => ⟨S16400x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Merge.lean ====
abbrev S16400x1024 : Shape := ⟨2, ![16400, 1024]⟩
abbrev S1024x2048 : Shape := ⟨2, ![1024, 2048]⟩
abbrev S16400x16384 : Shape := ⟨2, ![16400, 16384]⟩
abbrev S16400x2048 : Shape := ⟨2, ![16400, 2048]⟩
abbrev S656x1024 : Shape := ⟨2, ![656, 1024]⟩
abbrev S1024x512 : Shape := ⟨2, ![1024, 512]⟩
abbrev S656x512 : Shape := ⟨2, ![656, 512]⟩

abbrev nBuf : Space → Nat
  | .hbm => 11
  | .vmem => 24
  | .smem => 0
  | _ => 0

abbrev bufTy : (tb : Table) → Fin (tcTables nBuf tb) → BufTy
  | .hbm, ⟨0, _⟩ => ⟨S16400x1024, .f32⟩
  | .hbm, ⟨1, _⟩ => ⟨S16400x1024, .f32⟩
  | .hbm, ⟨2, _⟩ => ⟨S16400x1024, .bf16⟩
  | .hbm, ⟨3, _⟩ => ⟨S1024x2048, .f32⟩
  | .hbm, ⟨4, _⟩ => ⟨S1024x2048, .f32⟩
  | .hbm, ⟨5, _⟩ => ⟨S1024x2048, .f32⟩
  | .hbm, ⟨6, _⟩ => ⟨S16400x16384, .f32⟩
  | .hbm, ⟨7, _⟩ => ⟨S1024x2048, .bf16⟩
  | .hbm, ⟨8, _⟩ => ⟨S1024x2048, .bf16⟩
  | .hbm, ⟨9, _⟩ => ⟨S1024x2048, .bf16⟩
  | .hbm, ⟨10, _⟩ => ⟨S16400x2048, .bf16⟩
  | .local _ .vmem, ⟨0, _⟩ => ⟨S656x1024, .f32⟩
  | .local _ .vmem, ⟨1, _⟩ => ⟨S656x1024, .f32⟩
  | .local _ .vmem, ⟨2, _⟩ => ⟨S656x1024, .f32⟩
  | .local _ .vmem, ⟨3, _⟩ => ⟨S656x1024, .f32⟩
  | .local _ .vmem, ⟨4, _⟩ => ⟨S656x1024, .bf16⟩
  | .local _ .vmem, ⟨5, _⟩ => ⟨S656x1024, .bf16⟩
  | .local _ .vmem, ⟨6, _⟩ => ⟨S656x1024, .f32⟩
  | .local _ .vmem, ⟨7, _⟩ => ⟨S656x1024, .f32⟩
  | .local _ .vmem, ⟨8, _⟩ => ⟨S656x1024, .f32⟩
  | .local _ .vmem, ⟨9, _⟩ => ⟨S656x1024, .f32⟩
  | .local _ .vmem, ⟨10, _⟩ => ⟨S1024x512, .bf16⟩
  | .local _ .vmem, ⟨11, _⟩ => ⟨S1024x512, .bf16⟩
  | .local _ .vmem, ⟨12, _⟩ => ⟨S1024x512, .bf16⟩
  | .local _ .vmem, ⟨13, _⟩ => ⟨S1024x512, .bf16⟩
  | .local _ .vmem, ⟨14, _⟩ => ⟨S1024x512, .bf16⟩
  | .local _ .vmem, ⟨15, _⟩ => ⟨S1024x512, .bf16⟩
  | .local _ .vmem, ⟨16, _⟩ => ⟨S656x512, .f32⟩
  | .local _ .vmem, ⟨17, _⟩ => ⟨S656x512, .f32⟩
  | .local _ .vmem, ⟨18, _⟩ => ⟨S656x512, .f32⟩
  | .local _ .vmem, ⟨19, _⟩ => ⟨S656x512, .f32⟩
  | .local _ .vmem, ⟨20, _⟩ => ⟨S656x512, .f32⟩
  | .local _ .vmem, ⟨21, _⟩ => ⟨S656x512, .f32⟩
  | .local _ .vmem, ⟨22, _⟩ => ⟨S656x512, .bf16⟩
  | .local _ .vmem, ⟨23, _⟩ => ⟨S656x512, .bf16⟩
  | _, _ => ⟨S16400x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![25, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, c3_i32.toNat]

def cc0_transform_4 (i : grid0.Coords) : Fin 2 → Nat :=
  let arg0 : BitVec 32 := BitVec.ofNat 32 (i 0).val
  let arg1 : BitVec 32 := BitVec.ofNat 32 (i 1).val
  let c5_i32 : BitVec 32 := 5#32
  let c0_i32 : BitVec 32 := 0#32
  ![arg0.toNat, c5_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.addi c20_i32 arg1
  let c0_i32 : BitVec 32 := 0#32
  ![arg0.toNat, v0.toNat]

def cc0_transform_9 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg1
  let c0_i32 : BitVec 32 := 0#32
  ![arg0.toNat, v0.toNat]

def cc0_transform_10 (i : grid0.Coords) : Fin 2 → Nat :=
  let arg0 : BitVec 32 := BitVec.ofNat 32 (i 0).val
  let arg1 : BitVec 32 := BitVec.ofNat 32 (i 1).val
  let c28_i32 : BitVec 32 := 28#32
  let v0 : BitVec 32 := Scalar.addi c28_i32 arg1
  let c0_i32 : BitVec 32 := 0#32
  ![arg0.toNat, v0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S656x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S656x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S656x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S656x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S656x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S656x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S656x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S656x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S656x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== MergeRefIdeal.lean ====
abbrev S16400x1024 : Shape := ⟨2, ![16400, 1024]⟩
abbrev S1024x2048 : Shape := ⟨2, ![1024, 2048]⟩
abbrev S16400x16384 : Shape := ⟨2, ![16400, 16384]⟩
abbrev S_ : Shape := ⟨0, ![]⟩
abbrev S16400x6144 : Shape := ⟨2, ![16400, 6144]⟩
abbrev S16400x2048 : Shape := ⟨2, ![16400, 2048]⟩

abbrev nBuf : Space → Nat
  | .hbm => 51
  | .vmem => 0
  | .smem => 0
  | _ => 0

abbrev bufTy : (tb : Table) → Fin (tcTables nBuf tb) → BufTy
  | .hbm, ⟨0, _⟩ => ⟨S16400x1024, .f32⟩
  | .hbm, ⟨1, _⟩ => ⟨S16400x1024, .f32⟩
  | .hbm, ⟨2, _⟩ => ⟨S16400x1024, .bf16⟩
  | .hbm, ⟨3, _⟩ => ⟨S1024x2048, .f32⟩
  | .hbm, ⟨4, _⟩ => ⟨S1024x2048, .f32⟩
  | .hbm, ⟨5, _⟩ => ⟨S1024x2048, .f32⟩
  | .hbm, ⟨6, _⟩ => ⟨S16400x16384, .f32⟩
  | .hbm, ⟨7, _⟩ => ⟨S16400x1024, .f32⟩
  | .hbm, ⟨8, _⟩ => ⟨S16400x1024, .f32⟩
  | .hbm, ⟨9, _⟩ => ⟨S16400x1024, .f32⟩
  | .hbm, ⟨10, _⟩ => ⟨S_, .f32⟩
  | .hbm, ⟨11, _⟩ => ⟨S16400x1024, .f32⟩
  | .hbm, ⟨12, _⟩ => ⟨S16400x1024, .f32⟩
  | .hbm, ⟨13, _⟩ => ⟨S_, .f32⟩
  | .hbm, ⟨14, _⟩ => ⟨S16400x1024, .f32⟩
  | .hbm, ⟨15, _⟩ => ⟨S16400x1024, .f32⟩
  | .hbm, ⟨16, _⟩ => ⟨S16400x1024, .f32⟩
  | .hbm, ⟨17, _⟩ => ⟨S16400x1024, .f32⟩
  | .hbm, ⟨18, _⟩ => ⟨S16400x1024, .f32⟩
  | .hbm, ⟨19, _⟩ => ⟨S16400x1024, .f32⟩
  | .hbm, ⟨20, _⟩ => ⟨S16400x1024, .f32⟩
  | .hbm, ⟨21, _⟩ => ⟨S_, .f32⟩
  | .hbm, ⟨22, _⟩ => ⟨S16400x1024, .f32⟩
  | .hbm, ⟨23, _⟩ => ⟨S16400x1024, .f32⟩
  | .hbm, ⟨24, _⟩ => ⟨S_, .f32⟩
  | .hbm, ⟨25, _⟩ => ⟨S16400x1024, .f32⟩
  | .hbm, ⟨26, _⟩ => ⟨S16400x1024, .f32⟩
  | .hbm, ⟨27, _⟩ => ⟨S16400x1024, .f32⟩
  | .hbm, ⟨28, _⟩ => ⟨S16400x1024, .f32⟩
  | .hbm, ⟨29, _⟩ => ⟨S16400x6144, .f32⟩
  | .hbm, ⟨30, _⟩ => ⟨S16400x6144, .f32⟩
  | .hbm, ⟨31, _⟩ => ⟨S16400x6144, .f32⟩
  | .hbm, ⟨32, _⟩ => ⟨S_, .f32⟩
  | .hbm, ⟨33, _⟩ => ⟨S16400x6144, .f32⟩
  | .hbm, ⟨34, _⟩ => ⟨S16400x6144, .f32⟩
  | .hbm, ⟨35, _⟩ => ⟨S_, .f32⟩
  | .hbm, ⟨36, _⟩ => ⟨S16400x6144, .f32⟩
  | .hbm, ⟨37, _⟩ => ⟨S16400x6144, .f32⟩
  | .hbm, ⟨38, _⟩ => ⟨S16400x2048, .f32⟩
  | .hbm, ⟨39, _⟩ => ⟨S16400x2048, .f32⟩
  | .hbm, ⟨40, _⟩ => ⟨S16400x2048, .f32⟩
  | .hbm, ⟨41, _⟩ => ⟨S16400x2048, .f32⟩
  | .hbm, ⟨42, _⟩ => ⟨S16400x2048, .f32⟩
  | .hbm, ⟨43, _⟩ => ⟨S16400x2048, .f32⟩
  | .hbm, ⟨44, _⟩ => ⟨S16400x2048, .f32⟩
  | .hbm, ⟨45, _⟩ => ⟨S16400x2048, .f32⟩
  | .hbm, ⟨46, _⟩ => ⟨S16400x1024, .f32⟩
  | .hbm, ⟨47, _⟩ => ⟨S16400x2048, .f32⟩
  | .hbm, ⟨48, _⟩ => ⟨S16400x2048, .f32⟩
  | .hbm, ⟨49, _⟩ => ⟨S16400x2048, .f32⟩
  | .hbm, ⟨50, _⟩ => ⟨S16400x2048, .bf16⟩
  | _, _ => ⟨S16400x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_call1_v0 : Ref sig .tc := ⟨.hbm, 19, rfl⟩
abbrev main_call1_v1 : Ref sig .tc := ⟨.hbm, 20, rfl⟩
abbrev main_call1_cst : Ref sig .tc := ⟨.hbm, 21, rfl⟩
abbrev main_call1_v2 : Ref sig .tc := ⟨.hbm, 22, rfl⟩
abbrev main_call1_v3 : Ref sig .tc := ⟨.hbm, 23, rfl⟩
abbrev main_call1_cst_0 : Ref sig .tc := ⟨.hbm, 24, rfl⟩
abbrev main_call1_v4 : Ref sig .tc := ⟨.hbm, 25, rfl⟩
abbrev main_call1_v5 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_cst : Ref sig .tc := ⟨.hbm, 32, rfl⟩
abbrev main_v9 : Ref sig .tc := ⟨.hbm, 33, rfl⟩
abbrev main_v10 : Ref sig .tc := ⟨.hbm, 34, rfl⟩
abbrev main_cst_0 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩

abbrev nD : Nat := 1
abbrev τ : Topo := Topo.v7x

variable {F : FTy → Type} [FloatOps F]
-- ==== OutProj.lean ====
abbrev S16400x2048 : Shape := ⟨2, ![16400, 2048]⟩
abbrev S2048x2048 : Shape := ⟨2, ![2048, 2048]⟩
abbrev S656x1024 : Shape := ⟨2, ![656, 1024]⟩
abbrev S656x2048 : Shape := ⟨2, ![656, 2048]⟩
abbrev S2048x1024 : Shape := ⟨2, ![2048, 1024]⟩

abbrev nBuf : Space → Nat
  | .hbm => 5
  | .vmem => 8
  | .smem => 0
  | _ => 0

abbrev bufTy : (tb : Table) → Fin (tcTables nBuf tb) → BufTy
  | .hbm, ⟨0, _⟩ => ⟨S16400x2048, .f32⟩
  | .hbm, ⟨1, _⟩ => ⟨S16400x2048, .bf16⟩
  | .hbm, ⟨2, _⟩ => ⟨S2048x2048, .f32⟩
  | .hbm, ⟨3, _⟩ => ⟨S2048x2048, .bf16⟩
  | .hbm, ⟨4, _⟩ => ⟨S16400x2048, .f32⟩
  | .local _ .vmem, ⟨0, _⟩ => ⟨S656x1024, .f32⟩
  | .local _ .vmem, ⟨1, _⟩ => ⟨S656x1024, .f32⟩
  | .local _ .vmem, ⟨2, _⟩ => ⟨S656x2048, .bf16⟩
  | .local _ .vmem, ⟨3, _⟩ => ⟨S656x2048, .bf16⟩
  | .local _ .vmem, ⟨4, _⟩ => ⟨S2048x1024, .bf16⟩
  | .local _ .vmem, ⟨5, _⟩ => ⟨S2048x1024, .bf16⟩
  | .local _ .vmem, ⟨6, _⟩ => ⟨S656x1024, .f32⟩
  | .local _ .vmem, ⟨7, _⟩ => ⟨S656x1024, .f32⟩
  | _, _ => ⟨S16400x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![25, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S656x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S656x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S656x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== OutProjRefIdeal.lean ====
abbrev S16400x2048 : Shape := ⟨2, ![16400, 2048]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S16400x2048, .f32⟩
  | .hbm, ⟨1, _⟩ => ⟨S16400x2048, .bf16⟩
  | .hbm, ⟨2, _⟩ => ⟨S2048x2048, .f32⟩
  | .hbm, ⟨3, _⟩ => ⟨S16400x2048, .f32⟩
  | .hbm, ⟨4, _⟩ => ⟨S16400x2048, .f32⟩
  | .hbm, ⟨5, _⟩ => ⟨S16400x2048, .f32⟩
  | _, _ => ⟨S16400x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== FinalNorm.lean ====
abbrev S16400x2048 : Shape := ⟨2, ![16400, 2048]⟩
abbrev S2048 : Shape := ⟨1, ![2048]⟩
abbrev S1x2048 : Shape := ⟨2, ![1, 2048]⟩
abbrev S16384x2048 : Shape := ⟨2, ![16384, 2048]⟩
abbrev S512x2048 : Shape := ⟨2, ![512, 2048]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S16400x2048, .f32⟩
  | .hbm, ⟨1, _⟩ => ⟨S2048, .f32⟩
  | .hbm, ⟨2, _⟩ => ⟨S1x2048, .f32⟩
  | .hbm, ⟨3, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .f32⟩
  | .local _ .vmem, ⟨4, _⟩ => ⟨S512x2048, .f32⟩
  | _, _ => ⟨S16400x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def k0_mult1 (i : grid0.Coords) : BitVec 32 :=
  let c16_i32 : BitVec 32 := 16#32
  let arg0 : BitVec 32 := BitVec.ofNat 32 (i 0).val
  let c512_i32 : BitVec 32 := 512#32
  let v0 : BitVec 32 := Scalar.muli arg0 c512_i32
  let v1 : BitVec 32 := Scalar.addi c16_i32 v0
  v1
def cc0_transform_0 (i : grid0.Coords) : Fin 2 → Nat :=
  let arg0 : BitVec 32 := BitVec.ofNat 32 (i 0).val
  let c512_i32 : BitVec 32 := 512#32
  let v0 : BitVec 32 := Scalar.muli arg0 c512_i32
  let c16_i32 : BitVec 32 := 16#32
  let v1 : BitVec 32 := Scalar.addi c16_i32 v0
  let v2 : BitVec 32 := v1
  let c0_i32 : BitVec 32 := 0#32
  let c0_i32_0 : BitVec 32 := 0#32
  ![v2.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== FinalNormRefIdeal.lean ====
abbrev S16400x2048 : Shape := ⟨2, ![16400, 2048]⟩
abbrev S2048 : Shape := ⟨1, ![2048]⟩
abbrev S_ : Shape := ⟨0, ![]⟩
abbrev S16400 : Shape := ⟨1, ![16400]⟩
abbrev S16400x1 : Shape := ⟨2, ![16400, 1]⟩
abbrev S1x2048 : Shape := ⟨2, ![1, 2048]⟩
abbrev S16384x2048 : Shape := ⟨2, ![16384, 2048]⟩

abbrev nBuf : Space → Nat
  | .hbm => 19
  | .vmem => 0
  | .smem => 0
  | _ => 0

abbrev bufTy : (tb : Table) → Fin (tcTables nBuf tb) → BufTy
  | .hbm, ⟨0, _⟩ => ⟨S16400x2048, .f32⟩
  | .hbm, ⟨1, _⟩ => ⟨S2048, .f32⟩
  | .hbm, ⟨2, _⟩ => ⟨S16400x2048, .f32⟩
  | .hbm, ⟨3, _⟩ => ⟨S_, .f32⟩
  | .hbm, ⟨4, _⟩ => ⟨S16400, .f32⟩
  | .hbm, ⟨5, _⟩ => ⟨S16400x1, .f32⟩
  | .hbm, ⟨6, _⟩ => ⟨S_, .f32⟩
  | .hbm, ⟨7, _⟩ => ⟨S16400x1, .f32⟩
  | .hbm, ⟨8, _⟩ => ⟨S16400x1, .f32⟩
  | .hbm, ⟨9, _⟩ => ⟨S_, .f32⟩
  | .hbm, ⟨10, _⟩ => ⟨S16400x1, .f32⟩
  | .hbm, ⟨11, _⟩ => ⟨S16400x1, .f32⟩
  | .hbm, ⟨12, _⟩ => ⟨S16400x1, .f32⟩
  | .hbm, ⟨13, _⟩ => ⟨S16400x2048, .f32⟩
  | .hbm, ⟨14, _⟩ => ⟨S16400x2048, .f32⟩
  | .hbm, ⟨15, _⟩ => ⟨S1x2048, .f32⟩
  | .hbm, ⟨16, _⟩ => ⟨S16400x2048, .f32⟩
  | .hbm, ⟨17, _⟩ => ⟨S16400x2048, .f32⟩
  | .hbm, ⟨18, _⟩ => ⟨S16384x2048, .f32⟩
  | _, _ => ⟨S16400x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== ShortConv.lean ====
abbrev S16400x16384 : Shape := ⟨2, ![16400, 16384]⟩
abbrev S3x3072 : Shape := ⟨2, ![3, 3072]⟩
abbrev S3072 : Shape := ⟨1, ![3072]⟩
abbrev S1x3072 : Shape := ⟨2, ![1, 3072]⟩
abbrev S16400x3072 : Shape := ⟨2, ![16400, 3072]⟩
abbrev S8x1024 : Shape := ⟨2, ![8, 1024]⟩
abbrev S656x1024 : Shape := ⟨2, ![656, 1024]⟩
abbrev S3x1024 : Shape := ⟨2, ![3, 1024]⟩
abbrev S1x1024 : Shape := ⟨2, ![1, 1024]⟩

abbrev nBuf : Space → Nat
  | .hbm => 5
  | .vmem => 12
  | .smem => 0
  | _ => 0

abbrev bufTy : (tb : Table) → Fin (tcTables nBuf tb) → BufTy
  | .hbm, ⟨0, _⟩ => ⟨S16400x16384, .f32⟩
  | .hbm, ⟨1, _⟩ => ⟨S3x3072, .f32⟩
  | .hbm, ⟨2, _⟩ => ⟨S3072, .f32⟩
  | .hbm, ⟨3, _⟩ => ⟨S1x3072, .f32⟩
  | .hbm, ⟨4, _⟩ => ⟨S16400x3072, .f32⟩
  | .local _ .vmem, ⟨0, _⟩ => ⟨S8x1024, .f32⟩
  | .local _ .vmem, ⟨1, _⟩ => ⟨S8x1024, .f32⟩
  | .local _ .vmem, ⟨2, _⟩ => ⟨S656x1024, .f32⟩
  | .local _ .vmem, ⟨3, _⟩ => ⟨S656x1024, .f32⟩
  | .local _ .vmem, ⟨4, _⟩ => ⟨S8x1024, .f32⟩
  | .local _ .vmem, ⟨5, _⟩ => ⟨S8x1024, .f32⟩
  | .local _ .vmem, ⟨6, _⟩ => ⟨S3x1024, .f32⟩
  | .local _ .vmem, ⟨7, _⟩ => ⟨S3x1024, .f32⟩
  | .local _ .vmem, ⟨8, _⟩ => ⟨S1x1024, .f32⟩
  | .local _ .vmem, ⟨9, _⟩ => ⟨S1x1024, .f32⟩
  | .local _ .vmem, ⟨10, _⟩ => ⟨S656x1024, .f32⟩
  | .local _ .vmem, ⟨11, _⟩ => ⟨S656x1024, .f32⟩
  | _, _ => ⟨S16400x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![25, 3], ![false, false]⟩

def cc0_transform_0 (i : grid0.Coords) : Fin 2 → Nat :=
  let arg0 : BitVec 32 := BitVec.ofNat 32 (i 0).val
  let arg1 : BitVec 32 := BitVec.ofNat 32 (i 1).val
  let c82_i32 : BitVec 32 := 82#32
  let v0 : BitVec 32 := Scalar.muli arg0 c82_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c82_i32 : BitVec 32 := 82#32
  let v1 : BitVec 32 := Scalar.muli v0 c82_i32
  let c2049_i32 : BitVec 32 := 2049#32
  let v2 : BitVec 32 := Scalar.minsi v1 c2049_i32
  let c0_i32 : BitVec 32 := 0#32
  ![v2.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S656x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S3x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S656x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ShortConvRefIdeal.lean ====
abbrev S16400x16384 : Shape := ⟨2, ![16400, 16384]⟩
abbrev S3x3072 : Shape := ⟨2, ![3, 3072]⟩
abbrev S3072 : Shape := ⟨1, ![3072]⟩
abbrev S16400x3072 : Shape := ⟨2, ![16400, 3072]⟩
abbrev S_ : Shape := ⟨0, ![]⟩
abbrev S16402x3072 : Shape := ⟨2, ![16402, 3072]⟩
abbrev S1x3072 : Shape := ⟨2, ![1, 3072]⟩

abbrev nBuf : Space → Nat
  | .hbm => 30
  | .vmem => 0
  | .smem => 0
  | _ => 0

abbrev bufTy : (tb : Table) → Fin (tcTables nBuf tb) → BufTy
  | .hbm, ⟨0, _⟩ => ⟨S16400x16384, .f32⟩
  | .hbm, ⟨1, _⟩ => ⟨S3x3072, .f32⟩
  | .hbm, ⟨2, _⟩ => ⟨S3072, .f32⟩
  | .hbm, ⟨3, _⟩ => ⟨S16400x3072, .f32⟩
  | .hbm, ⟨4, _⟩ => ⟨S_, .i32⟩
  | .hbm, ⟨5, _⟩ => ⟨S_, .f32⟩
  | .hbm, ⟨6, _⟩ => ⟨S16402x3072, .f32⟩
  | .hbm, ⟨7, _⟩ => ⟨S16400x3072, .f32⟩
  | .hbm, ⟨8, _⟩ => ⟨S1x3072, .f32⟩
  | .hbm, ⟨9, _⟩ => ⟨S3072, .f32⟩
  | .hbm, ⟨10, _⟩ => ⟨S1x3072, .f32⟩
  | .hbm, ⟨11, _⟩ => ⟨S16400x3072, .f32⟩
  | .hbm, ⟨12, _⟩ => ⟨S16400x3072, .f32⟩
  | .hbm, ⟨13, _⟩ => ⟨S16400x3072, .f32⟩
  | .hbm, ⟨14, _⟩ => ⟨S1x3072, .f32⟩
  | .hbm, ⟨15, _⟩ => ⟨S3072, .f32⟩
  | .hbm, ⟨16, _⟩ => ⟨S1x3072, .f32⟩
  | .hbm, ⟨17, _⟩ => ⟨S16400x3072, .f32⟩
  | .hbm, ⟨18, _⟩ => ⟨S16400x3072, .f32⟩
  | .hbm, ⟨19, _⟩ => ⟨S16400x3072, .f32⟩
  | .hbm, ⟨20, _⟩ => ⟨S16400x3072, .f32⟩
  | .hbm, ⟨21, _⟩ => ⟨S1x3072, .f32⟩
  | .hbm, ⟨22, _⟩ => ⟨S3072, .f32⟩
  | .hbm, ⟨23, _⟩ => ⟨S1x3072, .f32⟩
  | .hbm, ⟨24, _⟩ => ⟨S16400x3072, .f32⟩
  | .hbm, ⟨25, _⟩ => ⟨S16400x3072, .f32⟩
  | .hbm, ⟨26, _⟩ => ⟨S16400x3072, .f32⟩
  | .hbm, ⟨27, _⟩ => ⟨S1x3072, .f32⟩
  | .hbm, ⟨28, _⟩ => ⟨S16400x3072, .f32⟩
  | .hbm, ⟨29, _⟩ => ⟨S16400x3072, .f32⟩
  | _, _ => ⟨S16400x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩

abbrev nD : Nat := 1
abbrev τ : Topo := Topo.v7x

variable {F : FTy → Type} [FloatOps F]
-- ==== Filter.lean ====
abbrev S16400x64 : Shape := ⟨2, ![16400, 64]⟩
abbrev S33x64 : Shape := ⟨2, ![33, 64]⟩
abbrev S64 : Shape := ⟨1, ![64]⟩
abbrev S64x64 : Shape := ⟨2, ![64, 64]⟩
abbrev S64x4096 : Shape := ⟨2, ![64, 4096]⟩
abbrev S2x2x1024 : Shape := ⟨3, ![2, 2, 1024]⟩
abbrev S_ : Shape := ⟨0, ![]⟩
abbrev S1 : Shape := ⟨1, ![1]⟩
abbrev S1x64 : Shape := ⟨2, ![1, 64]⟩
abbrev S1x64x1x64 : Shape := ⟨4, ![1, 64, 1, 64]⟩
abbrev S1x64x3x64 : Shape := ⟨4, ![1, 64, 3, 64]⟩
abbrev S64x192 : Shape := ⟨2, ![64, 192]⟩
abbrev S1x1x1x64 : Shape := ⟨4, ![1, 1, 1, 64]⟩
abbrev S1x1x3x64 : Shape := ⟨4, ![1, 1, 3, 64]⟩
abbrev S1x192 : Shape := ⟨2, ![1, 192]⟩
abbrev S1x4096 : Shape := ⟨2, ![1, 4096]⟩
abbrev S16400x4096 : Shape := ⟨2, ![16400, 4096]⟩
abbrev S656x64 : Shape := ⟨2, ![656, 64]⟩
abbrev S64x1024 : Shape := ⟨2, ![64, 1024]⟩
abbrev S1x1024 : Shape := ⟨2, ![1, 1024]⟩
abbrev S656x1024 : Shape := ⟨2, ![656, 1024]⟩
abbrev S656x192 : Shape := ⟨2, ![656, 192]⟩
abbrev S656x1 : Shape := ⟨2, ![656, 1]⟩
abbrev S192x1024 : Shape := ⟨2, ![192, 1024]⟩

abbrev nBuf : Space → Nat
  | .hbm => 31
  | .vmem => 17
  | .smem => 0
  | _ => 0

abbrev bufTy : (tb : Table) → Fin (tcTables nBuf tb) → BufTy
  | .hbm, ⟨0, _⟩ => ⟨S16400x64, .f32⟩
  | .hbm, ⟨1, _⟩ => ⟨S33x64, .f32⟩
  | .hbm, ⟨2, _⟩ => ⟨S64, .f32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x4096, .f32⟩
  | .hbm, ⟨8, _⟩ => ⟨S64, .f32⟩
  | .hbm, ⟨9, _⟩ => ⟨S2x2x1024, .f32⟩
  | .hbm, ⟨10, _⟩ => ⟨S_, .f32⟩
  | .hbm, ⟨11, _⟩ => ⟨S64x64, .f32⟩
  | .hbm, ⟨12, _⟩ => ⟨S_, .i32⟩
  | .hbm, ⟨13, _⟩ => ⟨S1, .i32⟩
  | .hbm, ⟨14, _⟩ => ⟨S64x64, .f32⟩
  | .hbm, ⟨15, _⟩ => ⟨S1x64, .f32⟩
  | .hbm, ⟨16, _⟩ => ⟨S1x64, .f32⟩
  | .hbm, ⟨17, _⟩ => ⟨S1x64x1x64, .f32⟩
  | .hbm, ⟨18, _⟩ => ⟨S1x64x3x64, .f32⟩
  | .hbm, ⟨19, _⟩ => ⟨S64x192, .f32⟩
  | .hbm, ⟨20, _⟩ => ⟨S1x64, .f32⟩
  | .hbm, ⟨21, _⟩ => ⟨S1x1x1x64, .f32⟩
  | .hbm, ⟨22, _⟩ => ⟨S1x1x3x64, .f32⟩
  | .hbm, ⟨23, _⟩ => ⟨S1x192, .f32⟩
  | .hbm, ⟨24, _⟩ => ⟨S1x64, .f32⟩
  | .hbm, ⟨25, _⟩ => ⟨S1x64, .f32⟩
  | .hbm, ⟨26, _⟩ => ⟨S1x1x1x64, .f32⟩
  | .hbm, ⟨27, _⟩ => ⟨S1x1x3x64, .f32⟩
  | .hbm, ⟨28, _⟩ => ⟨S1x192, .f32⟩
  | .hbm, ⟨29, _⟩ => ⟨S1x4096, .f32⟩
  | .hbm, ⟨30, _⟩ => ⟨S16400x4096, .f32⟩
  | .local _ .vmem, ⟨0, _⟩ => ⟨S656x64, .f32⟩
  | .local _ .vmem, ⟨1, _⟩ => ⟨S656x64, .f32⟩
  | .local _ .vmem, ⟨2, _⟩ => ⟨S64x64, .f32⟩
  | .local _ .vmem, ⟨3, _⟩ => ⟨S1x64, .f32⟩
  | .local _ .vmem, ⟨4, _⟩ => ⟨S64x64, .f32⟩
  | .local _ .vmem, ⟨5, _⟩ => ⟨S1x64, .f32⟩
  | .local _ .vmem, ⟨6, _⟩ => ⟨S64x192, .f32⟩
  | .local _ .vmem, ⟨7, _⟩ => ⟨S1x192, .f32⟩
  | .local _ .vmem, ⟨8, _⟩ => ⟨S1x64, .f32⟩
  | .local _ .vmem, ⟨9, _⟩ => ⟨S1x192, .f32⟩
  | .local _ .vmem, ⟨10, _⟩ => ⟨S64x1024, .f32⟩
  | .local _ .vmem, ⟨11, _⟩ => ⟨S64x1024, .f32⟩
  | .local _ .vmem, ⟨12, _⟩ => ⟨S1x1024, .f32⟩
  | .local _ .vmem, ⟨13, _⟩ => ⟨S1x1024, .f32⟩
  | .local _ .vmem, ⟨14, _⟩ => ⟨S656x1024, .f32⟩
  | .local _ .vmem, ⟨15, _⟩ => ⟨S656x1024, .f32⟩
  | .local _ .vmem, ⟨16, _⟩ => ⟨S656x192, .bf16⟩
  | _, _ => ⟨S16400x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_c : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13
abbrev cc0_sem11_0 : DmaSem sig := 14
abbrev cc0_sem11_1 : DmaSem sig := 15

abbrev nD : Nat := 1
abbrev τ : Topo := Topo.v7x

variable {F : FTy → Type} [FloatOps F]

abbrev grid0 : Pipeline.Grid := ⟨2, ![25, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S656x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S64x192 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x192 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x192 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S64x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S1x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S656x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== FilterRefIdeal.lean ====
abbrev S16400x64 : Shape := ⟨2, ![16400, 64]⟩
abbrev S33x64 : Shape := ⟨2, ![33, 64]⟩
abbrev S64 : Shape := ⟨1, ![64]⟩
abbrev S64x64 : Shape := ⟨2, ![64, 64]⟩
abbrev S64x4096 : Shape := ⟨2, ![64, 4096]⟩
abbrev S2x2x1024 : Shape := ⟨3, ![2, 2, 1024]⟩
abbrev S16400x33 : Shape := ⟨2, ![16400, 33]⟩
abbrev S1x64 : Shape := ⟨2, ![1, 64]⟩
abbrev S16400x4096 : Shape := ⟨2, ![16400, 4096]⟩
abbrev S16400x2x2x1024 : Shape := ⟨4, ![16400, 2, 2, 1024]⟩
abbrev S16400x1 : Shape := ⟨2, ![16400, 1]⟩
abbrev S16400x1x1x1 : Shape := ⟨4, ![16400, 1, 1, 1]⟩
abbrev S1x2x2x1024 : Shape := ⟨4, ![1, 2, 2, 1024]⟩
abbrev S16400x2x1x1024 : Shape := ⟨4, ![16400, 2, 1, 1024]⟩
abbrev S16400x2x1024 : Shape := ⟨3, ![16400, 2, 1024]⟩
abbrev S_ : Shape := ⟨0, ![]⟩
abbrev S1x2x1024 : Shape := ⟨3, ![1, 2, 1024]⟩
abbrev S16399x2x1024 : Shape := ⟨3, ![16399, 2, 1024]⟩

abbrev nBuf : Space → Nat
  | .hbm => 59
  | .vmem => 0
  | .smem => 0
  | _ => 0

abbrev bufTy : (tb : Table) → Fin (tcTables nBuf tb) → BufTy
  | .hbm, ⟨0, _⟩ => ⟨S16400x64, .f32⟩
  | .hbm, ⟨1, _⟩ => ⟨S33x64, .f32⟩
  | .hbm, ⟨2, _⟩ => ⟨S64, .f32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x4096, .f32⟩
  | .hbm, ⟨8, _⟩ => ⟨S64, .f32⟩
  | .hbm, ⟨9, _⟩ => ⟨S2x2x1024, .f32⟩
  | .hbm, ⟨10, _⟩ => ⟨S16400x33, .f32⟩
  | .hbm, ⟨11, _⟩ => ⟨S16400x64, .f32⟩
  | .hbm, ⟨12, _⟩ => ⟨S1x64, .f32⟩
  | .hbm, ⟨13, _⟩ => ⟨S16400x64, .f32⟩
  | .hbm, ⟨14, _⟩ => ⟨S16400x64, .f32⟩
  | .hbm, ⟨15, _⟩ => ⟨S1x64, .f32⟩
  | .hbm, ⟨16, _⟩ => ⟨S16400x64, .f32⟩
  | .hbm, ⟨17, _⟩ => ⟨S16400x64, .f32⟩
  | .hbm, ⟨18, _⟩ => ⟨S16400x64, .f32⟩
  | .hbm, ⟨19, _⟩ => ⟨S16400x64, .f32⟩
  | .hbm, ⟨20, _⟩ => ⟨S1x64, .f32⟩
  | .hbm, ⟨21, _⟩ => ⟨S16400x64, .f32⟩
  | .hbm, ⟨22, _⟩ => ⟨S16400x64, .f32⟩
  | .hbm, ⟨23, _⟩ => ⟨S1x64, .f32⟩
  | .hbm, ⟨24, _⟩ => ⟨S16400x64, .f32⟩
  | .hbm, ⟨25, _⟩ => ⟨S16400x64, .f32⟩
  | .hbm, ⟨26, _⟩ => ⟨S16400x64, .f32⟩
  | .hbm, ⟨27, _⟩ => ⟨S16400x64, .f32⟩
  | .hbm, ⟨28, _⟩ => ⟨S1x64, .f32⟩
  | .hbm, ⟨29, _⟩ => ⟨S16400x64, .f32⟩
  | .hbm, ⟨30, _⟩ => ⟨S16400x64, .f32⟩
  | .hbm, ⟨31, _⟩ => ⟨S1x64, .f32⟩
  | .hbm, ⟨32, _⟩ => ⟨S16400x64, .f32⟩
  | .hbm, ⟨33, _⟩ => ⟨S16400x64, .f32⟩
  | .hbm, ⟨34, _⟩ => ⟨S16400x64, .f32⟩
  | .hbm, ⟨35, _⟩ => ⟨S16400x4096, .f32⟩
  | .hbm, ⟨36, _⟩ => ⟨S16400x2x2x1024, .f32⟩
  | .hbm, ⟨37, _⟩ => ⟨S16400x1, .f32⟩
  | .hbm, ⟨38, _⟩ => ⟨S16400x1x1x1, .f32⟩
  | .hbm, ⟨39, _⟩ => ⟨S16400x1x1x1, .f32⟩
  | .hbm, ⟨40, _⟩ => ⟨S2x2x1024, .f32⟩
  | .hbm, ⟨41, _⟩ => ⟨S1x2x2x1024, .f32⟩
  | .hbm, ⟨42, _⟩ => ⟨S16400x2x2x1024, .f32⟩
  | .hbm, ⟨43, _⟩ => ⟨S16400x2x2x1024, .f32⟩
  | .hbm, ⟨44, _⟩ => ⟨S16400x2x2x1024, .f32⟩
  | .hbm, ⟨45, _⟩ => ⟨S16400x2x2x1024, .f32⟩
  | .hbm, ⟨46, _⟩ => ⟨S16400x2x2x1024, .f32⟩
  | .hbm, ⟨47, _⟩ => ⟨S16400x2x1x1024, .f32⟩
  | .hbm, ⟨48, _⟩ => ⟨S16400x2x1024, .f32⟩
  | .hbm, ⟨49, _⟩ => ⟨S16400x2x1x1024, .f32⟩
  | .hbm, ⟨50, _⟩ => ⟨S16400x2x1024, .f32⟩
  | .hbm, ⟨51, _⟩ => ⟨S_, .f32⟩
  | .hbm, ⟨52, _⟩ => ⟨S1x2x1024, .f32⟩
  | .hbm, ⟨53, _⟩ => ⟨S16399x2x1024, .f32⟩
  | .hbm, ⟨54, _⟩ => ⟨S16400x2x1024, .f32⟩
  | .hbm, ⟨55, _⟩ => ⟨S16400x2x1x1024, .f32⟩
  | .hbm, ⟨56, _⟩ => ⟨S16400x2x1x1024, .f32⟩
  | .hbm, ⟨57, _⟩ => ⟨S16400x2x2x1024, .f32⟩
  | .hbm, ⟨58, _⟩ => ⟨S16400x4096, .f32⟩
  | _, _ => ⟨S16400x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_cst : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩

abbrev nD : Nat := 1
abbrev τ : Topo := Topo.v7x

variable {F : FTy → Type} [FloatOps F]
-- ==== Proof.Attend.lean ====
/-
  The mathematics the two attention programs share: the row maximum, softmax weights, the quantities that make the
  division by the softmax's sum harmless, and a 128-lane sum of which one head owns half.
-/
module

public import Idealize.ShloMosaic.PureOps.Ideal
public import Idealize.ShloMosaic.Lib.Pointwise

@[expose] public section

noncomputable section

open Idealize.ShloMosaic

namespace Cert.Attend

/-- An extended real that is a real number. -/
def Fi (x : EReal) : Prop := x ≠ ⊥ ∧ x ≠ ⊤

/-- Sums of two reals are real, -/
theorem Fi.add {x y : EReal} (hx : Fi x) (hy : Fi y) : Fi (x + y) := by
  obtain ⟨a, b⟩ := hx
  obtain ⟨c, d⟩ := hy
  lift x to ℝ using ⟨b, a⟩
  lift y to ℝ using ⟨d, c⟩
  rw [← EReal.coe_add]
  exact ⟨EReal.coe_ne_bot _, EReal.coe_ne_top _⟩

/-- products are, -/
theorem Fi.mul {x y : EReal} (hx : Fi x) (hy : Fi y) : Fi (x * y) := by
  obtain ⟨a, b⟩ := hx
  obtain ⟨c, d⟩ := hy
  lift x to ℝ using ⟨b, a⟩
  lift y to ℝ using ⟨d, c⟩
  rw [← EReal.coe_mul]
  exact ⟨EReal.coe_ne_bot _, EReal.coe_ne_top _⟩

/-- and finite sums are. -/
theorem Fi.sum {ι : Type} [Fintype ι] {f : ι → EReal} (h : ∀ i, Fi (f i)) : Fi (∑ i, f i) :=
  Finset.sum_induction f Fi (fun _ _ => Fi.add) ⟨EReal.zero_ne_bot, EReal.zero_ne_top⟩ fun i _ => h i

/-- The value of the pattern of 1/8 is real. -/
theorem fi_eighth : Fi (Ideal.ofBits FTy.f32 0x3E000000#32) := by
  have : Ideal.ofBits FTy.f32 0x3E000000#32 = ((1 / 8 : ℝ) : EReal) := by
    simp [Ideal.ofBits, Ideal.ieee, -EReal.coe_mul]
    norm_num
  rw [this]
  exact ⟨EReal.coe_ne_bot _, EReal.coe_ne_top _⟩

/-- A score of real queries, keys and bias is real. -/
theorem Fi.score {a b : Fin 64 → EReal} {d : EReal} (ha : ∀ k, Fi (a k)) (hb : ∀ k, Fi (b k)) (hd : Fi d) :
    Fi ((∑ k, a k * b k) * Ideal.ofBits FTy.f32 0x3E000000#32 + d) :=
  ((Fi.sum fun k => (ha k).mul (hb k)).mul fi_eighth).add hd

/-- The pattern of minus infinity is `⊥`. -/
theorem ninf : Ideal.ofBits FTy.f32 0xFF800000#32 = ⊥ := by
  simp [Ideal.ofBits, Ideal.ieee]

/-- A number whose absolute value is below infinity is real. -/
theorem fi_of_abs (x : EReal)
    (h : BitVec.ofBool (decide ((FloatOps.absf (F := Ideal) (φ := .f32) x : EReal) < Ideal.ofBits FTy.f32 0x7F800000#32)) = 1#1) : Fi x := by
  have htop : Ideal.ofBits .f32 0x7F800000#32 = ⊤ := by simp [Ideal.ofBits, Ideal.ieee]
  have e : (FloatOps.absf (F := Ideal) (φ := .f32) x : EReal) = max x (-x) := rfl
  rw [htop, e] at h
  have hl : max x (-x) < ⊤ := by
    by_contra hn
    simp [hn] at h
  constructor
  · rintro rfl
    simp at hl
  · rintro rfl
    simp at hl

/-- `⊥` is no news to a maximum. -/
theorem bot_max (x : EReal) : max ⊥ x = x := max_eq_right bot_le

/-- A choice by the bit of a condition. -/
theorem select_bit {α : Type} (p : Prop) [Decidable p] (a b : α) :
    Scalar.select (if p then 1#1 else 0#1) a b = if p then a else b := by
  split <;> rfl

/-- The exponential is nowhere negative, -/
theorem exp_nonneg (x : EReal) : 0 ≤ Ideal.exp x := by
  induction x with
  | bot => exact le_refl _
  | top => exact le_top
  | coe r => exact EReal.coe_nonneg.mpr (Real.exp_pos r).le

/-- and vanishes only at `⊥`. -/
theorem exp_ne_zero {x : EReal} (h : x ≠ ⊥) : Ideal.exp x ≠ 0 := by
  induction x with
  | bot => exact absurd rfl h
  | top => exact EReal.top_ne_zero
  | coe r => exact fun e => (Real.exp_pos r).ne' (EReal.coe_eq_zero.mp e)

/-- A real less anything below `⊤` is not `⊥`. -/
theorem sub_ne_bot {x y : EReal} (hx : x ≠ ⊥) (hy : y ≠ ⊤) : x - y ≠ ⊥ := by
  rw [sub_eq_add_neg]
  intro h
  rcases EReal.add_eq_bot_iff.mp h with h | h
  · exact hx h
  · exact hy (EReal.neg_eq_bot_iff.mp h)

/-- A masked score leaves no softmax weight. -/
theorem exp_bot_sub (y : EReal) : Ideal.exp (⊥ - y) = 0 := by
  rw [sub_eq_add_neg, EReal.bot_add]
  rfl

/-- A softmax's sum is not zero when no score is `⊤` and one is not `⊥`. -/
theorem den_ne_zero {ι : Type} [Fintype ι] (s : ι → EReal) (M : EReal) (hM : M ≠ ⊤) (x : ι) (hx : s x ≠ ⊥) :
    ∑ y, Ideal.exp (s y - M) ≠ 0 := fun h =>
  exp_ne_zero (sub_ne_bot hx hM) <|
    (Finset.sum_eq_zero_iff_of_nonneg fun y _ => exp_nonneg (s y - M)).mp h x (Finset.mem_univ x)

/-- The maximum of scores below `⊤` is below `⊤`. -/
theorem top_ne_top {ι : Type} [Fintype ι] (s : ι → EReal) (h : ∀ x, s x ≠ ⊤) : Finset.univ.fold max ⊥ s ≠ ⊤ :=
  (Finset.fold_max_lt (s := Finset.univ) (f := s) (b := ⊥) (c := ⊤) |>.mpr
    ⟨bot_lt_top, fun x _ => lt_top_iff_ne_top.mpr (h x)⟩).ne

/-- Dividing by a number that is not zero is multiplying by its inverse. -/
theorem div_of_ne {x d : EReal} (h : d ≠ 0) : Ideal.div x d = x * d⁻¹ := if_neg h

/-- Multiplying by the reciprocal of a number that is not zero is dividing by it. -/
theorem mul_recip {x d : EReal} (h : d ≠ 0) : x * Ideal.div 1 d = Ideal.div x d := by
  rw [div_of_ne h, div_of_ne h, one_mul]

/-- A sum of products divided once is the sum of the products divided one by one, when the divisor is positive. -/
theorem sum_div {ι : Type} [Fintype ι] (p v : ι → EReal) (d : EReal) (h : d ≠ 0) (h0 : 0 ≤ d) :
    Ideal.div (∑ x, p x * v x) d = ∑ x, Ideal.div (p x) d * v x := by
  have hi : 0 ≤ d⁻¹ := EReal.inv_nonneg_of_nonneg h0
  have ht : d⁻¹ ≠ ⊤ := by
    induction d with
    | bot => simp
    | top => simp
    | coe r => rw [← EReal.coe_inv]; exact EReal.coe_ne_top _
  rw [div_of_ne h]
  have step : ∀ S : Finset ι, (∑ x ∈ S, p x * v x) * d⁻¹ = ∑ x ∈ S, p x * v x * d⁻¹ := by
    classical
    intro S
    induction S using Finset.induction_on with
    | empty => simp
    | insert a S ha ih =>
      rw [Finset.sum_insert ha, Finset.sum_insert ha, EReal.right_distrib_of_nonneg_of_ne_top hi ht, ih]
  rw [step]
  refine Finset.sum_congr rfl fun x _ => ?_
  rw [div_of_ne h, mul_right_comm]

/-- The weighted mean of `v` by softmax weights of the scores `s`, each weight divided by the sum of all. -/
def attend {ι : Type} [Fintype ι] (s v : ι → EReal) : EReal :=
  ∑ x, Ideal.div (Ideal.exp (s x - Finset.univ.fold max ⊥ s)) (∑ y, Ideal.exp (s y - Finset.univ.fold max ⊥ s)) * v x

/-- With real scores it may be divided by the sum once, after weighting. -/
theorem attend_eq {ι : Type} [Fintype ι] [Nonempty ι] (s v : ι → EReal) (h : ∀ x, Fi (s x)) :
    Ideal.div (∑ x, Ideal.exp (s x - Finset.univ.fold max ⊥ s) * v x) (∑ y, Ideal.exp (s y - Finset.univ.fold max ⊥ s))
      = attend s v :=
  sum_div _ _ _ (den_ne_zero s _ (top_ne_top s fun x => (h x).2) (Classical.arbitrary ι) (h _).1)
    (Finset.sum_nonneg fun _ _ => exp_nonneg _)

/-- A sum over 128 lanes of which the first half counts, -/
theorem lanes_low (f : Fin 128 → EReal) (c : Fin 128 → BitVec 1) (h : ∀ x, c x = if x.val < 64 then 1#1 else 0#1) :
    ∑ x, Scalar.select (c x) (f x) 0 = ∑ k : Fin 64, f ⟨k.val, by omega⟩ := by
  rw [Fin.sum_univ_add (a := 64) (b := 64)]
  have e0 : ∀ k : Fin 64, Scalar.select (c (Fin.castAdd 64 k)) (f (Fin.castAdd 64 k)) 0 = f ⟨k.val, by omega⟩ := fun k => by
    rw [h, if_pos (show (Fin.castAdd 64 k).val < 64 from k.isLt)]; rfl
  have e1 : ∀ k : Fin 64, Scalar.select (c (Fin.natAdd 64 k)) (f (Fin.natAdd 64 k)) 0 = 0 := fun k => by
    rw [h, if_neg (show ¬ (Fin.natAdd 64 k).val < 64 from by simp)]; rfl
  rw [Finset.sum_congr rfl fun k _ => e0 k, Finset.sum_congr rfl fun k _ => e1 k, Finset.sum_const_zero, add_zero]

/-- and of which the second half counts. -/
theorem lanes_high (f : Fin 128 → EReal) (c : Fin 128 → BitVec 1) (h : ∀ x, c x = if x.val < 64 then 0#1 else 1#1) :
    ∑ x, Scalar.select (c x) (f x) 0 = ∑ k : Fin 64, f ⟨64 + k.val, by omega⟩ := by
  rw [Fin.sum_univ_add (a := 64) (b := 64)]
  have e0 : ∀ k : Fin 64, Scalar.select (c (Fin.castAdd 64 k)) (f (Fin.castAdd 64 k)) 0 = 0 := fun k => by
    rw [h, if_pos (show (Fin.castAdd 64 k).val < 64 from k.isLt)]; rfl
  have e1 : ∀ k : Fin 64, Scalar.select (c (Fin.natAdd 64 k)) (f (Fin.natAdd 64 k)) 0 = f ⟨64 + k.val, by omega⟩ := fun k => by
    rw [h, if_neg (show ¬ (Fin.natAdd 64 k).val < 64 from by simp)]; rfl
  rw [Finset.sum_congr rfl fun k _ => e0 k, Finset.sum_congr rfl fun k _ => e1 k, Finset.sum_const_zero, zero_add]

end Cert.Attend

end
-- ==== Proof.Window.lean ====
/-
  A softmax mean taken over two families of keys at once, where most of the first family is masked: the masked keys
  carry no weight, and multiplying the weights by the reciprocal of their sum is dividing by it.
-/
module

public import proofs.«01_k».proof.Proof.Attend

@[expose] public section

noncomputable section

open Idealize.ShloMosaic

namespace Cert.Attend

/-- The softmax mean over two families of scores `s` and `u`, with the quotient taken as a product by the reciprocal. -/
def mix {n k : Nat} (s : Fin n → EReal) (u : Fin k → EReal) (v : Fin n → EReal) (w : Fin k → EReal) : EReal :=
  (∑ x, Ideal.exp (s x - max (Finset.univ.fold max ⊥ s) (Finset.univ.fold max ⊥ u))
      * Ideal.div 1 ((∑ y, Ideal.exp (s y - max (Finset.univ.fold max ⊥ s) (Finset.univ.fold max ⊥ u)))
        + ∑ y, Ideal.exp (u y - max (Finset.univ.fold max ⊥ s) (Finset.univ.fold max ⊥ u))) * v x)
  + ∑ x, Ideal.exp (u x - max (Finset.univ.fold max ⊥ s) (Finset.univ.fold max ⊥ u))
      * Ideal.div 1 ((∑ y, Ideal.exp (s y - max (Finset.univ.fold max ⊥ s) (Finset.univ.fold max ⊥ u)))
        + ∑ y, Ideal.exp (u y - max (Finset.univ.fold max ⊥ s) (Finset.univ.fold max ⊥ u))) * w x

/-- The maximum of a family in two parts is the larger of the parts' maxima. -/
theorem max_parts {m k : Nat} (s : Fin m → EReal) (u : Fin k → EReal) :
    Finset.univ.fold max ⊥ (Fin.addCases (motive := fun _ => EReal) s u) = max (Finset.univ.fold max ⊥ s) (Finset.univ.fold max ⊥ u) := by
  apply le_antisymm
  · refine (Finset.fold_max_le _).mpr ⟨bot_le, fun x _ => ?_⟩
    refine Fin.addCases (fun i => ?_) (fun j => ?_) x
    · rw [Fin.addCases_left]
      exact le_max_of_le_left ((Finset.le_fold_max _).mpr (.inr ⟨i, Finset.mem_univ _, le_refl _⟩))
    · rw [Fin.addCases_right]
      exact le_max_of_le_right ((Finset.le_fold_max _).mpr (.inr ⟨j, Finset.mem_univ _, le_refl _⟩))
  · refine max_le ((Finset.fold_max_le _).mpr ⟨bot_le, fun i _ => ?_⟩) ((Finset.fold_max_le _).mpr ⟨bot_le, fun j _ => ?_⟩)
    · exact (Finset.le_fold_max _).mpr (.inr ⟨Fin.castAdd k i, Finset.mem_univ _, by rw [Fin.addCases_left]⟩)
    · exact (Finset.le_fold_max _).mpr (.inr ⟨Fin.natAdd m j, Finset.mem_univ _, by rw [Fin.addCases_right]⟩)

/-- A maximum is taken over the keys that are not masked. -/
theorem max_range {n m : Nat} (e : Fin m → Fin n) (s : Fin n → EReal) (s' : Fin m → EReal) (hs : ∀ x, s (e x) = s' x)
    (h0 : ∀ y, (∀ x, e x ≠ y) → s y = ⊥) : Finset.univ.fold max ⊥ s = Finset.univ.fold max ⊥ s' := by
  apply le_antisymm
  · refine (Finset.fold_max_le _).mpr ⟨bot_le, fun y _ => ?_⟩
    by_cases h : ∃ x, e x = y
    · obtain ⟨x, rfl⟩ := h
      exact (Finset.le_fold_max _).mpr (.inr ⟨x, Finset.mem_univ _, (hs x).le⟩)
    · rw [h0 y fun x hx => h ⟨x, hx⟩]
      exact bot_le
  · refine (Finset.fold_max_le _).mpr ⟨bot_le, fun x _ => ?_⟩
    exact (Finset.le_fold_max _).mpr (.inr ⟨e x, Finset.mem_univ _, (hs x).ge⟩)

/-- A sum that vanishes off the range of `e` is a sum over that range. -/
theorem sum_range {n m : Nat} (e : Fin m → Fin n) (he : Function.Injective e) (f : Fin n → EReal) (f' : Fin m → EReal)
    (hf : ∀ x, f (e x) = f' x) (h0 : ∀ y, (∀ x, e x ≠ y) → f y = 0) : ∑ y, f y = ∑ x, f' x := by
  symm
  refine Finset.sum_of_injOn e (fun _ _ _ _ h => he h) (fun _ _ => Finset.mem_coe.mpr (Finset.mem_univ _)) (fun y _ hy => ?_) (fun x _ => (hf x).symm)
  exact h0 y fun x hx => hy ⟨x, Finset.mem_coe.mpr (Finset.mem_univ _), hx⟩

/-- The softmax mean with masked keys: over the keys `e` names and the second family, each weight divided by their sum. -/
theorem mix_eq {n m k : Nat} (e : Fin m → Fin n) (he : Function.Injective e) (s v : Fin n → EReal) (s' v' : Fin m → EReal)
    (u w : Fin (k + 1) → EReal) (hs : ∀ x, s (e x) = s' x) (hv : ∀ x, v (e x) = v' x)
    (h0 : ∀ y, (∀ x, e x ≠ y) → s y = ⊥) (hf : ∀ x, Fi (s' x)) (hu : ∀ x, Fi (u x)) :
    mix s u v w = attend (Fin.addCases (motive := fun _ => EReal) s' u) (Fin.addCases (motive := fun _ => EReal) v' w) := by
  unfold mix attend
  rw [max_parts, max_range e s s' hs h0]
  have hM : max (Finset.univ.fold max ⊥ s') (Finset.univ.fold max ⊥ u) ≠ ⊤ := by
    rcases max_choice (Finset.univ.fold max ⊥ s') (Finset.univ.fold max ⊥ u) with h | h <;> rw [h]
    · exact top_ne_top s' fun x => (hf x).2
    · exact top_ne_top u fun x => (hu x).2
  generalize max (Finset.univ.fold max ⊥ s') (Finset.univ.fold max ⊥ u) = M at hM
  have hz (y : Fin n) (hy : ∀ x, e x ≠ y) : Ideal.exp (s y - M) = 0 := by rw [h0 y hy, exp_bot_sub]
  rw [sum_range e he (fun y => Ideal.exp (s y - M)) (fun x => Ideal.exp (s' x - M)) (fun x => by rw [hs]) hz]
  have hd : (∑ y, Ideal.exp (s' y - M)) + ∑ y, Ideal.exp (u y - M)
      = ∑ y, Ideal.exp (Fin.addCases (motive := fun _ => EReal) s' u y - M) := by
    rw [Fin.sum_univ_add (a := m) (b := k + 1)]
    simp only [Fin.addCases_left, Fin.addCases_right]
  have hn : ∑ y, Ideal.exp (Fin.addCases (motive := fun _ => EReal) s' u y - M) ≠ 0 :=
    den_ne_zero _ M hM (Fin.natAdd m 0) (by rw [Fin.addCases_right]; exact (hu 0).1)
  rw [hd]
  generalize ∑ y, Ideal.exp (Fin.addCases (motive := fun _ => EReal) s' u y - M) = D at hn
  simp only [mul_recip hn]
  rw [Fin.sum_univ_add (a := m) (b := k + 1)]
  simp only [Fin.addCases_left, Fin.addCases_right]
  refine congrArg (· + _) (sum_range e he _ _ (fun x => by rw [hs, hv]) fun y hy => ?_)
  rw [hz y hy, div_of_ne hn, zero_mul, zero_mul]

/-- A sum over eight rows of sixteen is a sum over their 128 places. -/
theorem sum_rows (f : Fin 128 → EReal) : ∑ i : Fin 8, ∑ k : Fin 16, f ⟨i.val * 16 + k.val, by omega⟩ = ∑ x, f x := by
  rw [← Equiv.sum_comp (finProdFinEquiv (m := 8) (n := 16)), Fintype.sum_prod_type]
  refine Finset.sum_congr rfl fun i _ => Finset.sum_congr rfl fun k _ => congrArg f (Fin.ext ?_)
  show i.val * 16 + k.val = k.val + 16 * i.val
  omega

/-- A family in two parts, by the place's side of the seam. -/
theorem dite_parts {m k : Nat} (g : Fin m → EReal) (u : Fin k → EReal) (y : Fin (m + k)) :
    (if h : y.val < m then g ⟨y.val, h⟩ else u ⟨y.val - m, by omega⟩) = Fin.addCases (motive := fun _ => EReal) g u y := by
  refine Fin.addCases (fun i => ?_) (fun j => ?_) y
  · rw [Fin.addCases_left, dif_pos (show (Fin.castAdd k i).val < m from i.isLt)]
    rfl
  · rw [Fin.addCases_right, dif_neg (show ¬ (Fin.natAdd m j).val < m by simp)]
    exact congrArg u (Fin.ext (by show m + j.val - m = j.val; omega))

/-- The weighted mean over a window of eight rows of sixteen keys and sixteen further keys, with its weights `f` named. -/
theorem attend_parts (s v : Fin 128 → EReal) (u w : Fin 16 → EReal) (f : Fin (128 + 16) → EReal)
    (hf : ∀ y, f y = Ideal.div (Ideal.exp (Fin.addCases (motive := fun _ => EReal) s u y
        - Finset.univ.fold max ⊥ (Fin.addCases (motive := fun _ => EReal) s u)))
      (∑ x, Ideal.exp (Fin.addCases (motive := fun _ => EReal) s u x
        - Finset.univ.fold max ⊥ (Fin.addCases (motive := fun _ => EReal) s u)))) :
    (∑ i : Fin 8, ∑ k : Fin 16, f ⟨i.val * 16 + k.val, by omega⟩ * v ⟨i.val * 16 + k.val, by omega⟩)
        + ∑ x : Fin 16, f ⟨128 + x.val, by omega⟩ * w x
      = attend (Fin.addCases (motive := fun _ => EReal) s u) (Fin.addCases (motive := fun _ => EReal) v w) := by
  unfold attend
  simp only [← hf]
  rw [Fin.sum_univ_add (a := 128) (b := 16)]
  refine congrArg₂ (· + ·) ((sum_rows fun x => f (Fin.castAdd 16 x) * v x).trans ?_) ?_
  · exact Finset.sum_congr rfl fun x _ => by rw [Fin.addCases_left]
  · exact Finset.sum_congr rfl fun x _ => by rw [Fin.addCases_right]; rfl

end Cert.Attend

end
-- ==== Proof.NaMainRef.lean ====
/-
  The reference of the neighbourhood attention read at an element: a query at row `r` and column `q` of the 256 by 64
  grid sees the eight rows by sixteen columns around it (moved inward at the border) and the sixteen meta tokens; the
  result is the softmax mean of their values, times the SiLU of the gate.
-/
module

public import proofs.«01_k».proof.Proof.Window
public import proofs.«01_k».proof.Proof.Gen.NaMainRefIdeal.Read
public import Idealize.ShloMosaic.Lib.Pointwise
public import Idealize.ShloMosaic.Lib.Tactic

@[expose] public section

set_option maxRecDepth 16384

noncomputable section

open Idealize.ShloMosaic Idealize.ShloMosaic.Tactic Idealize.ShloMosaic.TcCoe
open Cert.Attend Cert.NaMainRefIdeal Cert.NaMainRefIdeal.Gen Cert.NaMainRefIdeal.Read

namespace Cert.NaMainRefIdeal.Term

/-- The first key row of the window around row `r`. -/
def row0 (r : Fin 256) : Nat := min (r.val - 4) 248

/-- The first key column of the window around column `q`. -/
def col0 (q : Fin 64) : Nat := min (q.val - 8) 48

/-- The window's rows lie in the grid, -/
theorem row0_lt (r : Fin 256) (i : Fin 8) : row0 r + i.val < 256 := by unfold row0; omega

/-- and so do its columns. -/
theorem col0_lt (q : Fin 64) (k : Fin 16) : col0 q + k.val < 64 := by unfold col0; omega

/-- The reference's window rows: row `i` of the window around row `r`, -/
theorem krow (r : Fin 256) (i : Fin 8) : (val_main_v31 (F := Ideal)) (ix2 r i) = BitVec.ofNat 32 (row0 r + i.val) := by
  pointwise [val_main_v31, val_main_v30, val_main_v29, val_main_v28, val_main_v27, val_main_v26, val_main_v21, val_main_call0_v4,
    val_main_call0_v3, val_main_call0_v2, val_main_call0_v1, val_main_call0_v0, val_main_c_1, val_main_c_0, val_main_c, val_main_v20, val_main_v19, val_main_v18]
  revert r i
  decide +kernel

/-- and its window columns: column `k` of the window around column `q`. -/
theorem kcol (q : Fin 64) (k : Fin 16) : (val_main_v37 (F := Ideal)) (ix2 q k) = BitVec.ofNat 32 (col0 q + k.val) := by
  pointwise [val_main_v37, val_main_v36, val_main_v35, val_main_v34, val_main_v33, val_main_v32, val_main_v25, val_main_call1_v4,
    val_main_call1_v3, val_main_call1_v2, val_main_call1_v1, val_main_call1_v0, val_main_c_4, val_main_c_3, val_main_c_2, val_main_v24, val_main_v23, val_main_v22]
  revert q k
  decide +kernel

/-- A small word's number. -/
theorem toNat_ofNat {n : Nat} (h : n < 2147483648) : (BitVec.ofNat 32 n).toInt.toNat = n := by
  rw [BitVec.toInt_eq_toNat_cond, BitVec.toNat_ofNat, Nat.mod_eq_of_lt (by omega), if_pos (by omega)]
  rfl

/-- The row distances index the bias table, -/
theorem drow_le (r : Fin 256) (i : Fin 8) : r.val ≤ row0 r + i.val + 7 ∧ row0 r + i.val + 7 - r.val < 15 := by unfold row0; omega

/-- and so do the column distances. -/
theorem dcol_le (q : Fin 64) (k : Fin 16) : q.val ≤ col0 q + k.val + 15 ∧ col0 q + k.val + 15 - q.val < 31 := by unfold col0; omega

/-- The rows the keys are gathered by, -/
theorem krow_at (r : Fin 256) (i : Fin 8) : (val_main_v43 (F := Ideal)) (ix3 r i 0) = BitVec.ofNat 32 (row0 r + i.val) := by
  pointwise [val_main_v43, val_main_v42, val_main_v41, val_main_v40, val_main_c_6, val_main_v39, val_main_v38, val_main_c_5, krow]
  revert r i
  decide +kernel

/-- the rows the values are gathered by, -/
theorem vrow_at (r : Fin 256) (i : Fin 8) : (val_main_v57 (F := Ideal)) (ix3 r i 0) = BitVec.ofNat 32 (row0 r + i.val) := by
  pointwise [val_main_v57, val_main_v56, val_main_v55, val_main_v54, val_main_c_10, val_main_v53, val_main_v52, val_main_c_9, krow]
  revert r i
  decide +kernel

/-- the columns the keys are gathered by, -/
theorem kcol_at (q : Fin 64) (k : Fin 16) : (val_main_v50 (F := Ideal)) (ix3 q k 0) = BitVec.ofNat 32 (col0 q + k.val) := by
  pointwise [val_main_v50, val_main_v49, val_main_v48, val_main_v47, val_main_c_8, val_main_v46, val_main_v45, val_main_c_7, kcol]
  revert q k
  decide +kernel

/-- the columns the values are gathered by, -/
theorem vcol_at (q : Fin 64) (k : Fin 16) : (val_main_v64 (F := Ideal)) (ix3 q k 0) = BitVec.ofNat 32 (col0 q + k.val) := by
  pointwise [val_main_v64, val_main_v63, val_main_v62, val_main_v61, val_main_c_12, val_main_v60, val_main_v59, val_main_c_11, kcol]
  revert q k
  decide +kernel

/-- the row distances the biases are gathered by, -/
theorem drow_at (r : Fin 256) (i : Fin 8) : (val_main_v86 (F := Ideal)) (ix3 r i 0) = BitVec.ofNat 32 (row0 r + i.val + 7 - r.val) := by
  pointwise [val_main_v86, val_main_v85, val_main_v84, val_main_v83, val_main_c_16, val_main_v82, val_main_v81, val_main_c_15,
    val_main_v74, val_main_v73, val_main_c_13, val_main_v72, val_main_v71, val_main_v70, val_main_v69, krow]
  revert r i
  decide +kernel

/-- and the column distances. -/
theorem dcol_at (q : Fin 64) (k : Fin 16) : (val_main_v93 (F := Ideal)) (ix3 q k 0) = BitVec.ofNat 32 (col0 q + k.val + 15 - q.val) := by
  pointwise [val_main_v93, val_main_v92, val_main_v91, val_main_v90, val_main_c_18, val_main_v89, val_main_v88, val_main_c_17,
    val_main_v80, val_main_v79, val_main_c_14, val_main_v78, val_main_v77, val_main_v76, val_main_v75, kcol]
  revert q k
  decide +kernel

/-- The rows a gather by window rows reads. -/
theorem gather_row (x : S16x256x64x64.Idx → EReal) (idx : IVec S256x8x1 32) (h : Fin 16) (r : Fin 256) (i : Fin 8) (q : Fin 64) (d : Fin 64) :
    Host.gather gather_S16x256x64x64_S256x8x1_S16x256x8x64x64_034_1_n_n_1_2_1616464 x idx (ix5 h r i q d)
      = x (ix4 h ⟨min (idx (ix3 r i 0)).toInt.toNat 255, by omega⟩ q d) := by
  unfold Host.gather
  refine congrArg x (funext fun a => Fin.ext ?_)
  match a with
  | ⟨0, _⟩ => exact Eq.trans (b := 0 + h.val) rfl (Nat.zero_add h.val)
  | ⟨1, _⟩ =>
    refine congrArg (fun y => min (idx y).toInt.toNat 255) (funext fun b => Fin.ext ?_ : _ = ix3 r i 0)
    match b with
    | ⟨0, _⟩ => rfl
    | ⟨1, _⟩ => rfl
    | ⟨2, _⟩ => rfl
  | ⟨2, _⟩ => exact Eq.trans (b := 0 + q.val) rfl (Nat.zero_add q.val)
  | ⟨3, _⟩ => exact Eq.trans (b := 0 + d.val) rfl (Nat.zero_add d.val)

/-- The columns a gather by window columns reads. -/
theorem gather_col (x : S16x256x8x64x64.Idx → EReal) (idx : IVec S64x16x1 32) (h : Fin 16) (r : Fin 256) (i : Fin 8) (q : Fin 64) (k : Fin 16) (d : Fin 64) :
    Host.gather gather_S16x256x8x64x64_S64x16x1_S16x256x8x64x16x64_0125_3_n_n_3_2_162568164 x idx (ix6 h r i q k d)
      = x (ix5 h r i ⟨min (idx (ix3 q k 0)).toInt.toNat 63, by omega⟩ d) := by
  unfold Host.gather
  refine congrArg x (funext fun a => Fin.ext ?_)
  match a with
  | ⟨0, _⟩ => exact Eq.trans (b := 0 + h.val) rfl (Nat.zero_add h.val)
  | ⟨1, _⟩ => exact Eq.trans (b := 0 + r.val) rfl (Nat.zero_add r.val)
  | ⟨2, _⟩ => exact Eq.trans (b := 0 + i.val) rfl (Nat.zero_add i.val)
  | ⟨3, _⟩ =>
    refine congrArg (fun y => min (idx y).toInt.toNat 63) (funext fun b => Fin.ext ?_ : _ = ix3 q k 0)
    match b with
    | ⟨0, _⟩ => rfl
    | ⟨1, _⟩ => rfl
    | ⟨2, _⟩ => rfl
  | ⟨4, _⟩ => exact Eq.trans (b := 0 + d.val) rfl (Nat.zero_add d.val)

/-- The row distances a gather of the biases reads. -/
theorem gather_drow (x : S16x15x31.Idx → EReal) (idx : IVec S256x8x1 32) (h : Fin 16) (r : Fin 256) (i : Fin 8) (q : Fin 31) :
    Host.gather gather_S16x15x31_S256x8x1_S16x256x8x31_03_1_n_n_1_2_16131 x idx (ix4 h r i q)
      = x (ix3 h ⟨min (idx (ix3 r i 0)).toInt.toNat 14, by omega⟩ q) := by
  unfold Host.gather
  refine congrArg x (funext fun a => Fin.ext ?_)
  match a with
  | ⟨0, _⟩ => exact Eq.trans (b := 0 + h.val) rfl (Nat.zero_add h.val)
  | ⟨1, _⟩ =>
    refine congrArg (fun y => min (idx y).toInt.toNat 14) (funext fun b => Fin.ext ?_ : _ = ix3 r i 0)
    match b with
    | ⟨0, _⟩ => rfl
    | ⟨1, _⟩ => rfl
    | ⟨2, _⟩ => rfl
  | ⟨2, _⟩ => exact Eq.trans (b := 0 + q.val) rfl (Nat.zero_add q.val)

/-- The column distances a gather of the biases reads. -/
theorem gather_dcol (x : S16x256x8x31.Idx → EReal) (idx : IVec S64x16x1 32) (h : Fin 16) (r : Fin 256) (i : Fin 8) (q : Fin 64) (k : Fin 16) :
    Host.gather gather_S16x256x8x31_S64x16x1_S16x256x8x64x16_012_3_n_n_3_2_1625681 x idx (ix5 h r i q k)
      = x (ix4 h r i ⟨min (idx (ix3 q k 0)).toInt.toNat 30, by omega⟩) := by
  unfold Host.gather
  refine congrArg x (funext fun a => Fin.ext ?_)
  match a with
  | ⟨0, _⟩ => exact Eq.trans (b := 0 + h.val) rfl (Nat.zero_add h.val)
  | ⟨1, _⟩ => exact Eq.trans (b := 0 + r.val) rfl (Nat.zero_add r.val)
  | ⟨2, _⟩ => exact Eq.trans (b := 0 + i.val) rfl (Nat.zero_add i.val)
  | ⟨3, _⟩ =>
    refine congrArg (fun y => min (idx y).toInt.toNat 30) (funext fun b => Fin.ext ?_ : _ = ix3 q k 0)
    match b with
    | ⟨0, _⟩ => rfl
    | ⟨1, _⟩ => rfl
    | ⟨2, _⟩ => rfl

/-- The keys of the grid, -/
theorem kgrid_at (z : FVec Ideal S16400x16384 .f32) (h : Fin 16) (r : Fin 256) (q : Fin 64) (d : Fin 64) :
    val_main_v13 (F := Ideal) z (ix4 h r q d) = z (ix2 ⟨16 + (r.val * 64 + q.val), by omega⟩ ⟨7168 + (h.val * 64 + d.val), by omega⟩) := by
  pointwise [val_main_v13, val_main_v12, val_main_v7, val_main_v6, val_main_v1]

/-- and its values. -/
theorem vgrid_at (z : FVec Ideal S16400x16384 .f32) (h : Fin 16) (r : Fin 256) (q : Fin 64) (d : Fin 64) :
    val_main_v15 (F := Ideal) z (ix4 h r q d) = z (ix2 ⟨16 + (r.val * 64 + q.val), by omega⟩ ⟨8192 + (h.val * 64 + d.val), by omega⟩) := by
  pointwise [val_main_v15, val_main_v14, val_main_v9, val_main_v8, val_main_v2]

/-- A gather's index array holding the word of `n`, in range, reads position `n`. -/
theorem row_of {n : Nat} (b : BitVec 32) (l : Nat) (e : b = BitVec.ofNat 32 n) (hl : n ≤ l) (hs : n < 2147483648) : min b.toInt.toNat l = n := by
  rw [e, toNat_ofNat hs, Nat.min_eq_left hl]

/-- The window's keys, -/
theorem kw_at (z : FVec Ideal S16400x16384 .f32) (h : Fin 16) (r : Fin 256) (i : Fin 8) (q : Fin 64) (k : Fin 16) (d : Fin 64) :
    val_main_v51 (F := Ideal) z (ix6 h r i q k d) = z (ix2 ⟨16 + ((row0 r + i.val) * 64 + (col0 q + k.val)), by
      have := row0_lt r i; have := col0_lt q k; omega⟩ ⟨7168 + (h.val * 64 + d.val), by omega⟩) := by
  have e0 := row_of _ 255 (krow_at r i) (by have := row0_lt r i; omega) (by have := row0_lt r i; omega)
  have e1 := row_of _ 63 (kcol_at q k) (by have := col0_lt q k; omega) (by have := col0_lt q k; omega)
  refine (gather_col _ _ h r i q k d).trans ((gather_row _ _ h r i _ d).trans ?_)
  simp only [e0, e1]
  exact kgrid_at z h ⟨row0 r + i.val, row0_lt r i⟩ ⟨col0 q + k.val, col0_lt q k⟩ d

/-- the window's values -/
theorem vw_at (z : FVec Ideal S16400x16384 .f32) (h : Fin 16) (r : Fin 256) (i : Fin 8) (q : Fin 64) (k : Fin 16) (d : Fin 64) :
    val_main_v65 (F := Ideal) z (ix6 h r i q k d) = z (ix2 ⟨16 + ((row0 r + i.val) * 64 + (col0 q + k.val)), by
      have := row0_lt r i; have := col0_lt q k; omega⟩ ⟨8192 + (h.val * 64 + d.val), by omega⟩) := by
  have e0 := row_of _ 255 (vrow_at r i) (by have := row0_lt r i; omega) (by have := row0_lt r i; omega)
  have e1 := row_of _ 63 (vcol_at q k) (by have := col0_lt q k; omega) (by have := col0_lt q k; omega)
  refine (gather_col _ _ h r i q k d).trans ((gather_row _ _ h r i _ d).trans ?_)
  simp only [e0, e1]
  exact vgrid_at z h ⟨row0 r + i.val, row0_lt r i⟩ ⟨col0 q + k.val, col0_lt q k⟩ d

/-- and the biases of its keys. -/
theorem bias_at (b : FVec Ideal S16x15x31 .f32) (h : Fin 16) (r : Fin 256) (i : Fin 8) (q : Fin 64) (k : Fin 16) :
    val_main_v94 (F := Ideal) b (ix5 h r i q k) = b (ix3 h ⟨row0 r + i.val + 7 - r.val, (drow_le r i).2⟩ ⟨col0 q + k.val + 15 - q.val, (dcol_le q k).2⟩) := by
  have e0 := row_of _ 14 (drow_at r i) (by have := drow_le r i; omega) (by have := drow_le r i; omega)
  have e1 := row_of _ 30 (dcol_at q k) (by have := dcol_le q k; omega) (by have := dcol_le q k; omega)
  refine (gather_dcol _ _ h r i q k).trans ((gather_drow _ _ h r i _).trans ?_)
  simp only [e0, e1]

/-- A score against a key of the window: the scaled product of query and key, plus the pair's bias. -/
theorem gscore_at (z : FVec Ideal S16400x16384 .f32) (b : FVec Ideal S16x15x31 .f32) (h : Fin 16) (r : Fin 256) (i : Fin 8) (q : Fin 64) (k : Fin 16) :
    val_main_v96 (F := Ideal) z b (ix5 h r q i k) =
      (∑ d : Fin 64, z (ix2 ⟨16 + (r.val * 64 + q.val), by omega⟩ ⟨6144 + (h.val * 64 + d.val), by omega⟩)
        * val_main_v51 (F := Ideal) z (ix6 h r i q k d)) * Ideal.ofBits FTy.f32 0x3E000000#32
        + val_main_v94 (F := Ideal) b (ix5 h r i q k) := by
  generalize e : val_main_v51 (F := Ideal) z = kw
  generalize e' : val_main_v94 (F := Ideal) b = bb
  pointwise [val_main_v96, val_main_v95, val_main_v68, val_main_v67, val_main_cst, val_main_v66, val_main_v11, val_main_v10, val_main_v5, val_main_v4, val_main_v0, e, e']

/-- A score against a meta token, likewise. -/
theorem mscore_at (z : FVec Ideal S16400x16384 .f32) (b : FVec Ideal S16x16 .f32) (h : Fin 16) (r : Fin 256) (q : Fin 64) (x : Fin 16) :
    val_main_v102 (F := Ideal) z b (ix4 h r q x) =
      (∑ d : Fin 64, z (ix2 ⟨16 + (r.val * 64 + q.val), by omega⟩ ⟨6144 + (h.val * 64 + d.val), by omega⟩)
        * z (ix2 ⟨x.val, by omega⟩ ⟨7168 + (h.val * 64 + d.val), by omega⟩)) * Ideal.ofBits FTy.f32 0x3E000000#32
        + b (ix2 h x) := by
  pointwise [val_main_v102, val_main_v101, val_main_v100, val_main_v99, val_main_v98, val_main_cst_19, val_main_v97, val_main_v16, val_main_v7, val_main_v6, val_main_v1, val_main_v11, val_main_v10, val_main_v5, val_main_v4, val_main_v0]

/-- The 144 scores side by side: the window's, then the meta tokens'. -/
theorem weight_at (z : FVec Ideal S16400x16384 .f32) (b : FVec Ideal S16x15x31 .f32) (mb : FVec Ideal S16x16 .f32)
    (h : Fin 16) (r : Fin 256) (q : Fin 64) (g : Fin 128 → EReal) (u : Fin 16 → EReal)
    (hg : ∀ i : Fin 8, ∀ k : Fin 16, val_main_v96 (F := Ideal) z b (ix5 h r q i k) = g ⟨i.val * 16 + k.val, by omega⟩)
    (hu : ∀ x : Fin 16, val_main_v102 (F := Ideal) z mb (ix4 h r q x) = u x) (y : Fin 144) :
    val_main_v104 (F := Ideal) z b mb (ix4 h r q y) = Fin.addCases (m := 128) (n := 16) (motive := fun _ => EReal) g u y := by
  generalize e : val_main_v96 (F := Ideal) z b = s at hg
  generalize e' : val_main_v102 (F := Ideal) z mb = t at hu
  pointwise [val_main_v104, val_main_v103, e, e']
  simp only [hg, hu]
  refine Eq.trans ?_ (dite_parts (m := 128) (k := 16) g u y)
  refine dite_congr rfl (fun hy => congrArg g (Fin.ext ?_)) fun hy => rfl
  show y.val / 16 * 16 + y.val % 16 = y.val
  omega

/-- The largest of a query's scores, -/
theorem max_at (z : FVec Ideal S16400x16384 .f32) (b : FVec Ideal S16x15x31 .f32) (mb : FVec Ideal S16x16 .f32)
    (h : Fin 16) (r : Fin 256) (q : Fin 64) : val_main_v105 (F := Ideal) z b mb (ix3 h r q)
      = Finset.univ.fold max ⊥ (fun y => val_main_v104 (F := Ideal) z b mb (ix4 h r q y)) := by
  generalize e : val_main_v104 (F := Ideal) z b mb = t
  pointwise [val_main_v105, val_main_cst_20, e]
  simp only [ninf]

/-- the sum of its exponentials, -/
theorem den_at (z : FVec Ideal S16400x16384 .f32) (b : FVec Ideal S16x15x31 .f32) (mb : FVec Ideal S16x16 .f32)
    (h : Fin 16) (r : Fin 256) (q : Fin 64) :
    val_main_v112 (F := Ideal) z b mb (ix3 h r q) = ∑ y : Fin 144, val_main_v111 (F := Ideal) z b mb (ix4 h r q y) := by
  rw [val_main_v112_apply, val_main_cst_22_apply]
  generalize val_main_v111 (F := Ideal) z b mb = t
  refine (congrArg (· + _) (show (FloatOps.ofBits (F := Ideal) .f32 0x00000000#32 : EReal) = 0 by exact Ideal.ofBits_zero ..)).trans ?_
  rw [zero_add]
  refine Finset.sum_congr rfl fun y _ => congrArg t (funext fun a => ?_)
  match a with
  | ⟨0, _⟩ => rfl
  | ⟨1, _⟩ => rfl
  | ⟨2, _⟩ => rfl
  | ⟨3, _⟩ => rfl

/-- the largest score spread over the keys -/
theorem up_at (z : FVec Ideal S16400x16384 .f32) (b : FVec Ideal S16x15x31 .f32) (mb : FVec Ideal S16x16 .f32)
    (h : Fin 16) (r : Fin 256) (q : Fin 64) (y : Fin 144) :
    val_main_v109 (F := Ideal) z b mb (ix4 h r q y) = val_main_v107 (F := Ideal) z b mb (ix3 h r q) := by
  rw [val_main_v109_apply, val_main_v108_apply]
  generalize val_main_v107 (F := Ideal) z b mb = t
  refine congrArg t (funext fun a => ?_)
  match a with
  | ⟨0, _⟩ => rfl
  | ⟨1, _⟩ => rfl
  | ⟨2, _⟩ => rfl

/-- and the sum spread over them. -/
theorem down_at (z : FVec Ideal S16400x16384 .f32) (b : FVec Ideal S16x15x31 .f32) (mb : FVec Ideal S16x16 .f32)
    (h : Fin 16) (r : Fin 256) (q : Fin 64) (y : Fin 144) :
    val_main_v114 (F := Ideal) z b mb (ix4 h r q y) = val_main_v112 (F := Ideal) z b mb (ix3 h r q) := by
  rw [val_main_v114_apply, val_main_v113_apply]
  generalize val_main_v112 (F := Ideal) z b mb = t
  refine congrArg t (funext fun a => ?_)
  match a with
  | ⟨0, _⟩ => rfl
  | ⟨1, _⟩ => rfl
  | ⟨2, _⟩ => rfl

/-- A softmax weight. -/
theorem soft_at (z : FVec Ideal S16400x16384 .f32) (b : FVec Ideal S16x15x31 .f32) (mb : FVec Ideal S16x16 .f32)
    (h : Fin 16) (r : Fin 256) (q : Fin 64) (y : Fin 144) (s : Fin 144 → EReal)
    (hs : ∀ y, val_main_v104 (F := Ideal) z b mb (ix4 h r q y) = s y) :
    val_main_v115 (F := Ideal) z b mb (ix4 h r q y) =
      Ideal.div (Ideal.exp (s y - Finset.univ.fold max ⊥ s)) (∑ x, Ideal.exp (s x - Finset.univ.fold max ⊥ s)) := by
  have e (y : Fin 144) : val_main_v111 (F := Ideal) z b mb (ix4 h r q y) = Ideal.exp (s y - Finset.univ.fold max ⊥ s) := by
    rw [val_main_v111_apply, val_main_v110_apply, up_at, val_main_v107_apply, max_at, val_main_v106_apply, val_main_cst_21_apply]
    simp only [hs]
    exact congrArg (fun x => Ideal.exp (s y - x)) ((congrArg (max · _) ninf).trans (bot_max _))
  rw [val_main_v115_apply, down_at, den_at, e]
  simp only [e]
  rfl

/-- The part of the mean the window's values give, -/
theorem grid_at (z : FVec Ideal S16400x16384 .f32) (b : FVec Ideal S16x15x31 .f32) (mb : FVec Ideal S16x16 .f32)
    (h : Fin 16) (r : Fin 256) (q : Fin 64) (d : Fin 64) :
    val_main_v118 (F := Ideal) z b mb (ix4 h r q d) = ∑ i : Fin 8, ∑ k : Fin 16,
      val_main_v115 (F := Ideal) z b mb (ix4 h r q ⟨i.val * 16 + k.val, by omega⟩) * val_main_v65 (F := Ideal) z (ix6 h r i q k d) := by
  generalize e : val_main_v115 (F := Ideal) z b mb = s
  generalize e' : val_main_v65 (F := Ideal) z = t
  pointwise [val_main_v118, val_main_v117, val_main_v116, e, e']

/-- and the part the meta tokens' values give. -/
theorem meta_at (z : FVec Ideal S16400x16384 .f32) (b : FVec Ideal S16x15x31 .f32) (mb : FVec Ideal S16x16 .f32)
    (h : Fin 16) (r : Fin 256) (q : Fin 64) (d : Fin 64) :
    val_main_v120 (F := Ideal) z b mb (ix4 h r q d) = ∑ x : Fin 16,
      val_main_v115 (F := Ideal) z b mb (ix4 h r q ⟨128 + x.val, by omega⟩) * z (ix2 ⟨x.val, by omega⟩ ⟨8192 + (h.val * 64 + d.val), by omega⟩) := by
  generalize e : val_main_v115 (F := Ideal) z b mb = s
  pointwise [val_main_v120, val_main_v119, val_main_v17, val_main_v9, val_main_v8, val_main_v2, e]

/-- Row `r * 64 + q` of the result is the query at row `r`, column `q`; its lane `h * 64 + d` is head `h`'s `d`. -/
theorem place_at (z : FVec Ideal S16400x16384 .f32) (b : FVec Ideal S16x15x31 .f32) (mb : FVec Ideal S16x16 .f32)
    (h : Fin 16) (r : Fin 256) (q : Fin 64) (d : Fin 64) :
    val_main_v123 (F := Ideal) z b mb (ix2 ⟨r.val * 64 + q.val, by omega⟩ ⟨h.val * 64 + d.val, by omega⟩)
      = val_main_v121 (F := Ideal) z b mb (ix4 h r q d) := by
  rw [val_main_v123_apply, val_main_v122_apply]
  generalize val_main_v121 (F := Ideal) z b mb = t
  refine congrArg t (funext fun a => Fin.ext ?_)
  match a with
  | ⟨0, _⟩ => show ((r.val * 64 + q.val) * 1024 + (h.val * 64 + d.val)) / 64 % 16 = h.val; omega
  | ⟨1, _⟩ => show ((r.val * 64 + q.val) * 1024 + (h.val * 64 + d.val)) / 65536 = r.val; omega
  | ⟨2, _⟩ => show ((r.val * 64 + q.val) * 1024 + (h.val * 64 + d.val)) / 1024 % 64 = q.val; omega
  | ⟨3, _⟩ => show ((r.val * 64 + q.val) * 1024 + (h.val * 64 + d.val)) % 64 = d.val; omega

/-- The SiLU of the gate. -/
theorem gate_at (z : FVec Ideal S16400x16384 .f32) (n : Fin 16384) (l : Fin 1024) (g : EReal)
    (hg : z (ix2 ⟨16 + n.val, by omega⟩ ⟨9216 + l.val, by omega⟩) = g) :
    val_main_v125 (F := Ideal) z (ix2 n l) = g * Ideal.logistic g := by
  pointwise [val_main_v125, val_main_call2_v5, val_main_call2_v4, val_main_call2_v3, val_main_call2_v2, val_main_call2_v1, val_main_call2_v0, val_main_call2_cst, val_main_call2_cst_0,
    val_main_v124, val_main_v3]
  simp only [hg, Ideal.logistic]

/-- The result: the two parts of the mean, times the SiLU of the gate. -/
theorem out_at (z : FVec Ideal S16400x16384 .f32) (b : FVec Ideal S16x15x31 .f32) (mb : FVec Ideal S16x16 .f32)
    (h : Fin 16) (r : Fin 256) (q : Fin 64) (d : Fin 64) (g : EReal)
    (hg : z (ix2 ⟨16 + (r.val * 64 + q.val), by omega⟩ ⟨9216 + (h.val * 64 + d.val), by omega⟩) = g) :
    val_main_v127 (F := Ideal) z b mb (ix2 ⟨r.val * 64 + q.val, by omega⟩ ⟨h.val * 64 + d.val, by omega⟩)
      = (val_main_v118 (F := Ideal) z b mb (ix4 h r q d) + val_main_v120 (F := Ideal) z b mb (ix4 h r q d)) * (g * Ideal.logistic g) := by
  rw [val_main_v127_apply, val_main_v126_apply, place_at, val_main_v121_apply, gate_at z _ _ g hg]
  rfl

/-- The scores of head `h`'s query at row `r` and column `q` against the 128 keys of its window. -/
def gscore (z : FVec Ideal S16400x16384 .f32) (b : FVec Ideal S16x15x31 .f32) (h : Fin 16) (r : Fin 256) (q : Fin 64) : Fin 128 → EReal :=
  fun x => (∑ d : Fin 64, z (ix2 ⟨16 + (r.val * 64 + q.val), by omega⟩ ⟨6144 + (h.val * 64 + d.val), by omega⟩)
        * z (ix2 ⟨16 + ((row0 r + x.val / 16) * 64 + (col0 q + x.val % 16)), by
            have := row0_lt r ⟨x.val / 16, by omega⟩; have := col0_lt q ⟨x.val % 16, by omega⟩; dsimp only at *; omega⟩ ⟨7168 + (h.val * 64 + d.val), by omega⟩))
      * Ideal.ofBits FTy.f32 0x3E000000#32
    + b (ix3 h ⟨row0 r + x.val / 16 + 7 - r.val, (drow_le r ⟨x.val / 16, by omega⟩).2⟩ ⟨col0 q + x.val % 16 + 15 - q.val, (dcol_le q ⟨x.val % 16, by omega⟩).2⟩)

/-- The scores of that query against the sixteen meta tokens. -/
def mscore (z : FVec Ideal S16400x16384 .f32) (b : FVec Ideal S16x16 .f32) (h : Fin 16) (r : Fin 256) (q : Fin 64) : Fin 16 → EReal :=
  fun x => (∑ d : Fin 64, z (ix2 ⟨16 + (r.val * 64 + q.val), by omega⟩ ⟨6144 + (h.val * 64 + d.val), by omega⟩)
        * z (ix2 ⟨x.val, by omega⟩ ⟨7168 + (h.val * 64 + d.val), by omega⟩)) * Ideal.ofBits FTy.f32 0x3E000000#32
        + b (ix2 h x)

/-- The values of the window's keys. -/
def gvalue (z : FVec Ideal S16400x16384 .f32) (h : Fin 16) (r : Fin 256) (q d : Fin 64) : Fin 128 → EReal :=
  fun x => z (ix2 ⟨16 + ((row0 r + x.val / 16) * 64 + (col0 q + x.val % 16)), by
            have := row0_lt r ⟨x.val / 16, by omega⟩; have := col0_lt q ⟨x.val % 16, by omega⟩; dsimp only at *; omega⟩ ⟨8192 + (h.val * 64 + d.val), by omega⟩)

/-- The reference at row `r` and column `q`, head `h` and channel `d`. -/
theorem ref_eq (z : FVec Ideal S16400x16384 .f32) (b : FVec Ideal S16x15x31 .f32) (mb : FVec Ideal S16x16 .f32)
    (h : Fin 16) (r : Fin 256) (q : Fin 64) (d : Fin 64) :
    val_main_v127 (F := Ideal) z b mb (ix2 ⟨r.val * 64 + q.val, by omega⟩ ⟨h.val * 64 + d.val, by omega⟩)
      = attend (Fin.addCases (m := 128) (n := 16) (motive := fun _ => EReal) (gscore z b h r q) (mscore z mb h r q))
          (Fin.addCases (m := 128) (n := 16) (motive := fun _ => EReal) (gvalue z h r q d)
            (fun x => z (ix2 ⟨x.val, by omega⟩ ⟨8192 + (h.val * 64 + d.val), by omega⟩)))
        * (z (ix2 ⟨16 + (r.val * 64 + q.val), by omega⟩ ⟨9216 + (h.val * 64 + d.val), by omega⟩)
          * Ideal.logistic (z (ix2 ⟨16 + (r.val * 64 + q.val), by omega⟩ ⟨9216 + (h.val * 64 + d.val), by omega⟩))) := by
  rw [out_at z b mb h r q d _ rfl, grid_at, meta_at]
  refine congrArg (· * _) ?_
  have hq (i : Fin 8) (k : Fin 16) : (i.val * 16 + k.val) / 16 = i.val ∧ (i.val * 16 + k.val) % 16 = k.val := by omega
  have hs := weight_at z b mb h r q (gscore z b h r q) (mscore z mb h r q)
    (fun i k => by
      rw [gscore_at, bias_at]
      simp only [kw_at, gscore, hq])
    (fun x => by rw [mscore_at]; rfl)
  have hw (y : Fin 144) := soft_at z b mb h r q y _ hs
  refine Eq.trans ?_ (attend_parts _ (gvalue z h r q d) _ _ (fun y => val_main_v115 (F := Ideal) z b mb (ix4 h r q y)) hw)
  refine congrArg (fun x : EReal => x + _) (Finset.sum_congr rfl fun i _ => Finset.sum_congr rfl fun k _ => ?_)
  rw [vw_at]
  simp only [gvalue, hq]

end Cert.NaMainRefIdeal.Term

end
-- ==== Proof.NaMainBias.lean ====
/-
  The two bias operands the neighbourhood attention's kernel takes, read at an element: the table of biases over pairs
  of columns, with minus infinity outside the window, and the meta tokens' biases.
-/
module

public import proofs.«01_k».proof.Proof.NaMainRef
public import proofs.«01_k».proof.Proof.Gen.NaMainIdeal.Value
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Cert.NaMainIdeal Cert.NaMainIdeal.Gen Cert.NaMainIdeal.Value Cert.Attend
open Cert.NaMainRefIdeal.Term (col0 row_of)

namespace Cert.NaMainIdeal.Final

variable (m : (ℓ : Loc nD τ sig) → Buf (Elt Ideal) ℓ)

/-- The rows of the bias a table entry reads. -/
def trow : IVec S8x8x1 32 := broadcastInDim S8x8x1 ![0, 1] bcast_S8x8_S8x8x1_0_1
  (select (constantI S8x8 1 0#1) (addi (fun i => lit0 (S8x8.rowMajor i)) (broadcastInDim S8x8 ![] bcast_S_S8x8 (constantI S_ 32 15#32)))
    fun i => lit0 (S8x8.rowMajor i))

/-- The column distances of the table: of a key's column against a query's, -/
def tcol : IVec S64x64x1 32 := broadcastInDim S64x64x1 ![0, 1] bcast_S64x64_S64x64x1_0_1
  (select (constantI S64x64 1 0#1) (addi (fun i => lit1 (S64x64.rowMajor i)) (broadcastInDim S64x64 ![] bcast_S_S64x64 (constantI S_ 32 31#32)))
    fun i => lit1 (S64x64.rowMajor i))

/-- and whether the key's column lies in the query's window. -/
def tmask : IVec S16x8x8x64x64 1 := broadcastInDim S16x8x8x64x64 ![0, 1, 2, 3, 4] bcast_S1x1x1x64x64_S16x8x8x64x64_0_1_2_3_4
  (broadcastInDim S1x1x1x64x64 ![3, 4] bcast_S64x64_S1x1x1x64x64_3_4 fun i => lit2 (S64x64.rowMajor i))

/-- The table the kernel takes: the bias of each pair of columns, minus infinity outside the window. -/
def table (b : FVec Ideal S16x15x31 .f32) : FVec Ideal S16x8x8x64x64 .f32 :=
  select tmask (Host.gather gather_S16x8x8x31_S64x64x1_S16x8x8x64x64_012_3_n_n_3_2_16881
      (Host.gather gather_S16x15x31_S8x8x1_S16x8x8x31_03_1_n_n_1_2_16131 b trow) tcol)
    (broadcastInDim S16x8x8x64x64 ![] bcast_S_S16x8x8x64x64 (constant S_ FTy.f32 4286578688#32))

/-- The kernel's bias operand is that table, two heads a block, keys by queries. -/
theorem V_table (c : Dev nD) : (V m c main_v14 : Vec Ideal S8x8x512x128 .f32)
    = shapeCast S8x8x512x128 (transpose S8x8x8x64x2x64 [0, 2, 3, 5, 1, 4]
        (shapeCast S8x2x8x8x64x64 (table (m ((c : Thread nD τ).loc main_arg1))) shapeCasts_S16x8x8x64x64_S8x2x8x8x64x64)
        transposes_S8x2x8x8x64x64_S8x8x8x64x2x64_0_2_3_5_1_4) shapeCasts_S8x8x8x64x2x64_S8x8x512x128 := by
  unfold V hostOps0 hostOps0_1 hostOps0_2
  simp only [List.flatten_cons, List.flatten_nil, List.append_nil, List.cons_append, List.nil_append]
  entry_read
  rfl

/-- An entry of the operand. -/
theorem bias (c : Dev nD) (h d0 a : Fin 8) (k : Fin 64) (p : Fin 2) (q : Fin 64) :
    (V m c main_v14 : Vec Ideal S8x8x512x128 .f32) (ix4 h d0 ⟨a.val * 64 + k.val, by omega⟩ ⟨p.val * 64 + q.val, by omega⟩)
      = table (m ((c : Thread nD τ).loc main_arg1)) (ix5 ⟨h.val * 2 + p.val, by omega⟩ d0 a q k) := by
  rw [V_table]
  generalize table (m ((c : Thread nD τ).loc main_arg1)) = t
  pointwise

/-- The rows a gather of the biases reads. -/
theorem gather_trow (x : S16x15x31.Idx → EReal) (idx : IVec S8x8x1 32) (h : Fin 16) (r : Fin 8) (i : Fin 8) (q : Fin 31) :
    Host.gather gather_S16x15x31_S8x8x1_S16x8x8x31_03_1_n_n_1_2_16131 x idx (ix4 h r i q)
      = x (ix3 h ⟨min (idx (ix3 r i 0)).toInt.toNat 14, by omega⟩ q) := by
  unfold Host.gather
  refine congrArg x (funext fun a => Fin.ext ?_)
  match a with
  | ⟨0, _⟩ => exact Eq.trans (b := 0 + h.val) rfl (Nat.zero_add h.val)
  | ⟨1, _⟩ =>
    refine congrArg (fun y => min (idx y).toInt.toNat 14) (funext fun b => Fin.ext ?_ : _ = ix3 r i 0)
    match b with
    | ⟨0, _⟩ => rfl
    | ⟨1, _⟩ => rfl
    | ⟨2, _⟩ => rfl
  | ⟨2, _⟩ => exact Eq.trans (b := 0 + q.val) rfl (Nat.zero_add q.val)

/-- The columns a gather of those rows reads. -/
theorem gather_tcol (x : S16x8x8x31.Idx → EReal) (idx : IVec S64x64x1 32) (h : Fin 16) (r : Fin 8) (i : Fin 8) (q : Fin 64) (k : Fin 64) :
    Host.gather gather_S16x8x8x31_S64x64x1_S16x8x8x64x64_012_3_n_n_3_2_16881 x idx (ix5 h r i q k)
      = x (ix4 h r i ⟨min (idx (ix3 q k 0)).toInt.toNat 30, by omega⟩) := by
  unfold Host.gather
  refine congrArg x (funext fun a => Fin.ext ?_)
  match a with
  | ⟨0, _⟩ => exact Eq.trans (b := 0 + h.val) rfl (Nat.zero_add h.val)
  | ⟨1, _⟩ => exact Eq.trans (b := 0 + r.val) rfl (Nat.zero_add r.val)
  | ⟨2, _⟩ => exact Eq.trans (b := 0 + i.val) rfl (Nat.zero_add i.val)
  | ⟨3, _⟩ =>
    refine congrArg (fun y => min (idx y).toInt.toNat 30) (funext fun b => Fin.ext ?_ : _ = ix3 q k 0)
    match b with
    | ⟨0, _⟩ => rfl
    | ⟨1, _⟩ => rfl
    | ⟨2, _⟩ => rfl

/-- The row distance of the table's slab `d0` at the window's row `a`, -/
theorem trow_at : ∀ d0 a : Fin 8, trow (ix3 d0 a 0) = BitVec.ofNat 32 (d0.val + a.val) := by
  intro d0 a
  pointwise [trow]
  revert d0 a
  decide +kernel

/-- the column distance of the pair of columns `q` and `k`, -/
theorem tcol_at : ∀ q k : Fin 64, tcol (ix3 q k 0) = BitVec.ofNat 32 (min (k.val + 15 - q.val) 30) := by
  intro q k
  pointwise [tcol]
  revert q k
  decide +kernel

/-- and its mask: column `k` is one of the sixteen columns of the window around `q`. -/
theorem tmask_at (h : Fin 16) (d0 a : Fin 8) : ∀ q k : Fin 64, tmask (ix5 h d0 a q k)
    = if Cert.NaMainRefIdeal.Term.col0 q ≤ k.val ∧ k.val < Cert.NaMainRefIdeal.Term.col0 q + 16 then 1#1 else 0#1 := by
  intro q k
  pointwise [tmask]
  revert q k
  decide +kernel

/-- An entry of the table: the pair's bias inside the window, minus infinity outside. -/
theorem table_at (b : FVec Ideal S16x15x31 .f32) (h : Fin 16) (d0 a : Fin 8) (q k : Fin 64) : table b (ix5 h d0 a q k)
    = if col0 q ≤ k.val ∧ k.val < col0 q + 16 then b (ix3 h ⟨d0.val + a.val, by omega⟩ ⟨min (k.val + 15 - q.val) 30, by omega⟩) else ⊥ := by
  have e0 := row_of _ 14 (trow_at d0 a) (by omega) (by omega)
  have e1 := row_of _ 30 (tcol_at q k) (by omega) (by omega)
  unfold table
  show Scalar.select (tmask (ix5 h d0 a q k)) (Host.gather gather_S16x8x8x31_S64x64x1_S16x8x8x64x64_012_3_n_n_3_2_16881
      (Host.gather gather_S16x15x31_S8x8x1_S16x8x8x31_03_1_n_n_1_2_16131 b trow) tcol (ix5 h d0 a q k)) (Ideal.ofBits FTy.f32 0xFF800000#32) = _
  rw [tmask_at, select_bit, gather_tcol, gather_trow]
  refine congrArg₂ (fun x y : EReal => if col0 q ≤ k.val ∧ k.val < col0 q + 16 then x else y) (congrArg b (funext fun x => ?_)) ninf
  match x with
  | ⟨0, _⟩ => rfl
  | ⟨1, _⟩ => exact Fin.ext e0
  | ⟨2, _⟩ => exact Fin.ext e1

/-- The meta tokens' bias operand: each key's bias over the 64 lanes of its head. -/
theorem mbias (c : Dev nD) (h : Fin 8) (x : Fin 16) (a : Fin 2) (q : Fin 64) : (V m c main_v18 : Vec Ideal S8x16x128 .f32) (ix3 h x ⟨a.val * 64 + q.val, by omega⟩)
    = (m ((c : Thread nD τ).loc main_arg2) : Vec Ideal S16x16 .f32) (ix2 ⟨h.val * 2 + a.val, by omega⟩ x) := by
  unfold V hostOps0 hostOps0_1 hostOps0_2
  simp only [List.flatten_cons, List.flatten_nil, List.append_nil, List.cons_append, List.nil_append]
  entry_read
  pointwise

end Cert.NaMainIdeal.Final

end
-- ==== Proof.NaMainRow.lean ====
/-
  What the neighbourhood attention's body stores: eight rows of 64 queries, each the same function of its loads. Two
  heads share 128 lanes; the other head's lanes of the queries are zeroed, and the softmax over the row's keys and the
  meta tokens divides by multiplying with the reciprocal of its sum.
-/
module

public import proofs.«01_k».proof.Proof.Window
public import proofs.«01_k».proof.Proof.Gen.NaMainIdeal.Value
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Cert.NaMainIdeal Cert.NaMainIdeal.Gen Cert.NaMainIdeal.Value Cert.Attend

namespace Cert.NaMainIdeal.Final

/-- What the body stores for one row of 64 queries: from the row's queries and gates, the 512 keys and values of its eight
    rows, the sixteen meta tokens' and the two blocks of biases. -/
def row (q g : Vec Ideal S64x128 .f32) (ks vs : Vec Ideal S512x128 .f32) (km vm : Vec Ideal S16x128 .f32)
    (bt : Vec Ideal S1x1x512x128 .f32) (mb : Vec Ideal S1x16x128 .f32) : Vec Ideal S64x128 .bf16 :=
  k0_pay8 (F := Ideal) kernelRun0_A.sl.v4 (k0_pay7 (k0_pay3 km) (k0_pay4 vm) (k0_pay5 mb) (k0_pay6 q) ks vs bt) g

/-- The scores of a row's column `r` against keys `k`, over one head's lanes `f`, with biases `b`. -/
def bscore {n : Nat} (f : Fin 64 → Fin 128) (q : Vec Ideal S64x128 .f32) (k : Fin n → Fin 128 → EReal) (b : Fin n → EReal)
    (r : Fin 64) : Fin n → EReal := fun x =>
  (∑ i : Fin 64, k x (f i) * q (ix2 r (f i))) * Ideal.ofBits FTy.f32 0x3E000000#32 + b x

/-- A column of the first head's half is not on the second's side, -/
theorem below : ∀ r : Fin 64, IntOp.cmpi CmpIPredicate.sge (BitVec.ofNat 32 r.val) 64#32 = 0#1 := by decide +kernel

/-- one of the second head's half is. -/
theorem above : ∀ r : Fin 64, IntOp.cmpi CmpIPredicate.sge (BitVec.ofNat 32 (64 + r.val)) 64#32 = 1#1 := by decide +kernel

/-- The first head's own lanes are those below 64, -/
theorem low : ∀ x : Fin 128, IntOp.xori (IntOp.xori 0#1 (IntOp.cmpi CmpIPredicate.sge (BitVec.ofNat 32 x.val) 64#32)) 1#1
    = if x.val < 64 then 1#1 else 0#1 := by decide +kernel

/-- the second's the others, -/
theorem high : ∀ x : Fin 128, IntOp.xori (IntOp.xori 1#1 (IntOp.cmpi CmpIPredicate.sge (BitVec.ofNat 32 x.val) 64#32)) 1#1
    = if x.val < 64 then 0#1 else 1#1 := by decide +kernel

/-- and so are the lanes of the result. -/
theorem side : ∀ x : Fin 128, IntOp.cmpi CmpIPredicate.slt (BitVec.ofNat 32 x.val) 64#32
    = if x.val < 64 then 1#1 else 0#1 := by decide +kernel

/-- A stored element: the softmax mean of its lane's head, times the SiLU of the gate. -/
theorem row_apply (q g : Vec Ideal S64x128 .f32) (ks vs : Vec Ideal S512x128 .f32) (km vm : Vec Ideal S16x128 .f32)
    (bt : Vec Ideal S1x1x512x128 .f32) (mb : Vec Ideal S1x16x128 .f32) (r : Fin 64) (l : Fin 128) :
    row q g ks vs km vm bt mb (ix2 r l)
      = (if l.val < 64 then
          mix (bscore (fun i => ⟨i.val, by omega⟩) q (fun x j => ks (ix2 x j)) (fun x => bt (ix4 0 0 x ⟨r.val, by omega⟩)) r)
            (bscore (fun i => ⟨i.val, by omega⟩) q (fun x j => km (ix2 x j)) (fun x => mb (ix3 0 x ⟨r.val, by omega⟩)) r)
            (fun x => vs (ix2 x l)) (fun x => vm (ix2 x l))
        else
          mix (bscore (fun i => ⟨64 + i.val, by omega⟩) q (fun x j => ks (ix2 x j)) (fun x => bt (ix4 0 0 x ⟨64 + r.val, by omega⟩)) r)
            (bscore (fun i => ⟨64 + i.val, by omega⟩) q (fun x j => km (ix2 x j)) (fun x => mb (ix3 0 x ⟨64 + r.val, by omega⟩)) r)
            (fun x => vs (ix2 x l)) (fun x => vm (ix2 x l)))
        * (g (ix2 r l) * Ideal.logistic (g (ix2 r l))) := by
  pointwise [row, k0_pay8, k0_pay7, k0_pay3, k0_pay4, k0_pay5, k0_pay6, k0_pay2, kernelRun0_A.sl.v4]
  simp only [below, above]
  simp only [lanes_low _ _ low, lanes_high _ _ high, ninf]
  simp only [side, select_bit]
  rfl

variable (m : (ℓ : Loc nD τ sig) → Buf (Elt Ideal) ℓ)

/-- A load of a whole staged block reads the block. -/
theorem rd {s : Shape} {e : EltTy} {sp : Space} {κ : Kind} {mr : Memref sig κ sp s e} (h : mr.IsWhole) (r : LoadRect s) (X : s.Idx → Elt Ideal e) :
    View.readAt (Elt Ideal) mr.view r (h.unread X) = fun x => X (r.idx x) :=
  funext fun x => congrFun (h.read_unread X) _

/-- Row `j` of the block of eight rows, from the staged blocks. -/
def rowOf (i : grid0.Coords) (x0 x7 : Vec Ideal S512x128 .f32) (x1 x2 : Vec Ideal S1024x128 .f32) (x3 x4 : Vec Ideal S16x128 .f32)
    (x5 : Vec Ideal S1x8x512x128 .f32) (x6 : Vec Ideal S1x16x128 .f32) (j : Fin 8) (hj : ∀ a, (![64 * j.val, 0] : Fin 2 → Nat) a + S64x128.size a ≤ S512x128.size a) : Vec Ideal S64x128 .bf16 :=
  row (fun x => x0 ((Rect.unit (s := S512x128) ![64 * j.val, 0] S64x128.size hj).toLoadRect.idx x))
    (fun x => x7 ((Rect.unit (s := S512x128) ![64 * j.val, 0] S64x128.size hj).toLoadRect.idx x))
    (fun x => x1 ((Rect.unit (s := S1024x128) (k0_off1 i (BitVec.ofNat 32 j.val)) S512x128.size (k0_off1_inb i j)).toLoadRect.idx x))
    (fun x => x2 ((Rect.unit (s := S1024x128) (k0_off1 i (BitVec.ofNat 32 j.val)) S512x128.size (k0_off1_inb i j)).toLoadRect.idx x))
    (fun x => x3 ((Rect.unit (s := S16x128) ![0, 0] S16x128.size inb_S16x128_S16x128_0_0).toLoadRect.idx x))
    (fun x => x4 ((Rect.unit (s := S16x128) ![0, 0] S16x128.size inb_S16x128_S16x128_0_0).toLoadRect.idx x))
    (fun x => x5 ((Rect.unit (s := S1x8x512x128) (k0_off2 i (BitVec.ofNat 32 j.val)) S1x1x512x128.size (k0_off2_inb i j)).toLoadRect.idx x))
    (fun x => x6 ((Rect.unit (s := S1x16x128) ![0, 0, 0] S1x16x128.size inb_S1x16x128_S1x16x128_0_0_0).toLoadRect.idx x))

/-- The block the body leaves holds, wherever it is read, one of its eight rows: what holds of `rowOf` holds of the block. -/
theorem stored (c : Dev nD) (X : Vec Ideal S16384x1024 .bf16) (t : Fin cfg0.N) (y : S512x128.Idx)
    (hX : ∀ (j : Fin 8) hj (x : S64x128.Idx), (y 0).val = 64 * j.val + (x 0).val → (y 1).val = (x 1).val →
      rowOf (grid0.coords t) (iblk m c 0 t) (iblk m c 7 t) (iblk m c 1 t) (iblk m c 2 t) (iblk m c 3 t) (iblk m c 4 t) (iblk m c 5 t) (iblk m c 6 t) j hj x
        = X (((cfg0.win 8).blk t).view.emb y)) :
    outsAt0 m c t y = X (((cfg0.win 8).blk t).view.emb y) := by
  unfold outsAt0 out0_A_8
  generalize X (((cfg0.win 8).blk t).view.emb y) = v at hX
  generalize iblk m c 0 t = x0, iblk m c 1 t = x1, iblk m c 2 t = x2, iblk m c 3 t = x3, iblk m c 4 t = x4, iblk m c 5 t = x5, iblk m c 6 t = x6, iblk m c 7 t = x7 at hX ⊢
  rw [View.read_writes_junk_apply_eq_canon]
  refine View.canon_eq_of_allAt _ _ _ (cover0_A_8 _ _ _ _ _ _ _ _ _ _ _ _ _ _ _ _ _ _ _ _ _ _ _ _ _ _ _ _ y) ?_
  delta kernelRun0_A
  dsimp only
  simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, rd]
  refine View.allAt_cons_unit _ _ _ _ _ ?_ (View.allAt_cons_unit _ _ _ _ _ ?_ (View.allAt_cons_unit _ _ _ _ _ ?_
    (View.allAt_cons_unit _ _ _ _ _ ?_ (View.allAt_cons_unit _ _ _ _ _ ?_ (View.allAt_cons_unit _ _ _ _ _ ?_
    (View.allAt_cons_unit _ _ _ _ _ ?_ (View.allAt_cons_unit _ _ _ _ _ ?_ (View.allAt_nil _ _))))))))
  · intro x hx
    have h0 := hx 0
    have h1 := hx 1
    refine Eq.trans ?_ (hX 7 inb_S512x128_S64x128_448_0 x h0 (h1.trans (Nat.zero_add _)))
    sl_kernel_rfl
  · intro x hx
    have h0 := hx 0
    have h1 := hx 1
    refine Eq.trans ?_ (hX 6 inb_S512x128_S64x128_384_0 x h0 (h1.trans (Nat.zero_add _)))
    sl_kernel_rfl
  · intro x hx
    have h0 := hx 0
    have h1 := hx 1
    refine Eq.trans ?_ (hX 5 inb_S512x128_S64x128_320_0 x h0 (h1.trans (Nat.zero_add _)))
    sl_kernel_rfl
  · intro x hx
    have h0 := hx 0
    have h1 := hx 1
    refine Eq.trans ?_ (hX 4 inb_S512x128_S64x128_256_0 x h0 (h1.trans (Nat.zero_add _)))
    sl_kernel_rfl
  · intro x hx
    have h0 := hx 0
    have h1 := hx 1
    refine Eq.trans ?_ (hX 3 inb_S512x128_S64x128_192_0 x h0 (h1.trans (Nat.zero_add _)))
    sl_kernel_rfl
  · intro x hx
    have h0 := hx 0
    have h1 := hx 1
    refine Eq.trans ?_ (hX 2 inb_S512x128_S64x128_128_0 x h0 (h1.trans (Nat.zero_add _)))
    sl_kernel_rfl
  · intro x hx
    have h0 := hx 0
    have h1 := hx 1
    refine Eq.trans ?_ (hX 1 inb_S512x128_S64x128_64_0 x h0 (h1.trans (Nat.zero_add _)))
    sl_kernel_rfl
  · intro x hx
    have h0 := hx 0
    have h1 := hx 1
    refine Eq.trans ?_ (hX 0 inb_S512x128_S64x128_0_0 x h0 (h1.trans (Nat.zero_add _)))
    sl_kernel_rfl

end Cert.NaMainIdeal.Final

end
-- ==== Proof.NaMainWin.lean ====
/-
  Where the blocks of the neighbourhood attention's kernel sit in its arrays: grid point `t` takes rows `8 (t % 32)` to
  `8 (t % 32) + 7` of the grid for heads `2 (t / 32)` and `2 (t / 32) + 1`.
-/
module

public import proofs.«01_k».proof.Proof.NaMainRef
public import proofs.«01_k».proof.Proof.Gen.NaMainIdeal.Value
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Cert.NaMainIdeal Cert.NaMainIdeal.Gen Cert.NaMainIdeal.Value Cert.Attend
open Cert.NaMainRefIdeal.Term (row0)

namespace Cert.NaMainIdeal.Final

/-- The first row of keys staged at a grid point. -/
def slab (t : Fin cfg0.N) : Nat := min (8 * (t.val % 32) - 4) 240
/-- Row `j` of a grid point's block of rows. -/
def tokenRow (t : Fin cfg0.N) (j : Fin 8) : Fin 256 := ⟨8 * (t.val % 32) + j.val, by omega⟩

/-- Where the keys of row `j` begin in the staged slab, -/
theorem off1 : ∀ (t : Fin cfg0.N) (j : Fin 8), k0_off1 (grid0.coords t) (BitVec.ofNat 32 j.val) 0 = (row0 (tokenRow t j) - slab t) * 64 ∧ k0_off1 (grid0.coords t) (BitVec.ofNat 32 j.val) 1 = 0 ∧ slab t ≤ row0 (tokenRow t j) ∧ row0 (tokenRow t j) - slab t ≤ 8 :=
  (by decide +kernel : ∀ (t : Fin grid0.N) (j : Fin 8), _)

/-- and which slab of the bias table row `j` takes. -/
theorem off2 : ∀ (t : Fin cfg0.N) (j : Fin 8), k0_off2 (grid0.coords t) (BitVec.ofNat 32 j.val) = ![0, row0 (tokenRow t j) + 7 - (tokenRow t j).val, 0, 0] ∧ row0 (tokenRow t j) + 7 - (tokenRow t j).val < 8 ∧ (tokenRow t j).val ≤ row0 (tokenRow t j) + 7 :=
  (by decide +kernel : ∀ (t : Fin grid0.N) (j : Fin 8), _)

/-- What each window holds at a grid point: two heads' columns of eight rows of queries, gates and results, of the slab of
    keys and values, of the meta tokens, and the two heads' biases. -/
theorem widx : ∀ t : Fin cfg0.N, win0_0.index t = ![16 + 512 * (t.val % 32), 6144 + 128 * (t.val / 32)]
    ∧ win0_1.index t = ![16 + 64 * slab t, 7168 + 128 * (t.val / 32)]
    ∧ win0_2.index t = ![16 + 64 * slab t, 8192 + 128 * (t.val / 32)]
    ∧ win0_3.index t = ![0, 56 + t.val / 32]
    ∧ win0_4.index t = ![0, 64 + t.val / 32]
    ∧ win0_5.index t = ![t.val / 32, 0, 0, 0]
    ∧ win0_6.index t = ![t.val / 32, 0, 0]
    ∧ win0_7.index t = ![16 + 512 * (t.val % 32), 9216 + 128 * (t.val / 32)]
    ∧ win0_8.index t = ![t.val % 32, t.val / 32] :=
  (by decide +kernel : ∀ t : Fin grid0.N, _)

variable (m : (ℓ : Loc nD τ sig) → Buf (Elt Ideal) ℓ)

/-- The pair of heads of a grid point. -/
theorem lt_hp (t : Fin cfg0.N) : t.val / 32 < 8 := by have : t.val < 256 := t.isLt; omega

/-- The queries of row `j`, -/
theorem q_at (c : Dev nD) (t : Fin cfg0.N) (j : Fin 8) (hj) (q : Fin 64) (l : Fin 128) :
    (iblk m c 0 t : Vec Ideal S512x128 .f32) ((Rect.unit (s := S512x128) ![64 * j.val, 0] S64x128.size hj).toLoadRect.idx (ix2 q l : S64x128.Idx))
    = (m ((c : Thread nD τ).loc main_arg0) : Vec Ideal S16400x16384 .f32)
      (ix2 ⟨16 + ((tokenRow t j).val * 64 + q.val), by omega⟩ ⟨6144 + (128 * (t.val / 32) + l.val), by have := lt_hp t; omega⟩) := by
  unfold iblk
  refine congrArg (m ((c : Thread nD τ).loc main_arg0) : Vec Ideal S16400x16384 .f32) (funext fun d => Fin.ext ((win0_0.rect_emb_val_off t _ d).trans ?_))
  rw [(widx t).1]
  simp only [Rect.idx_unit_val]
  match d with
  | ⟨0, _⟩ => show 16 + 512 * (t.val % 32) + (64 * j.val + q.val) = 16 + ((8 * (t.val % 32) + j.val) * 64 + q.val); omega
  | ⟨1, _⟩ => show 6144 + 128 * (t.val / 32) + (0 + l.val) = 6144 + (128 * (t.val / 32) + l.val); omega

/-- its gates, -/
theorem g_at (c : Dev nD) (t : Fin cfg0.N) (j : Fin 8) (hj) (q : Fin 64) (l : Fin 128) :
    (iblk m c 7 t : Vec Ideal S512x128 .f32) ((Rect.unit (s := S512x128) ![64 * j.val, 0] S64x128.size hj).toLoadRect.idx (ix2 q l : S64x128.Idx))
    = (m ((c : Thread nD τ).loc main_arg0) : Vec Ideal S16400x16384 .f32)
      (ix2 ⟨16 + ((tokenRow t j).val * 64 + q.val), by omega⟩ ⟨9216 + (128 * (t.val / 32) + l.val), by have := lt_hp t; omega⟩) := by
  unfold iblk
  refine congrArg (m ((c : Thread nD τ).loc main_arg0) : Vec Ideal S16400x16384 .f32) (funext fun d => Fin.ext ((win0_7.rect_emb_val_off t _ d).trans ?_))
  rw [(widx t).2.2.2.2.2.2.2.1]
  simp only [Rect.idx_unit_val]
  match d with
  | ⟨0, _⟩ => show 16 + 512 * (t.val % 32) + (64 * j.val + q.val) = 16 + ((8 * (t.val % 32) + j.val) * 64 + q.val); omega
  | ⟨1, _⟩ => show 9216 + 128 * (t.val / 32) + (0 + l.val) = 9216 + (128 * (t.val / 32) + l.val); omega

/-- the keys of its eight rows, -/
theorem k_at (c : Dev nD) (t : Fin cfg0.N) (j : Fin 8) (x : Fin 512) (l : Fin 128) :
    (iblk m c 1 t : Vec Ideal S1024x128 .f32) ((Rect.unit (s := S1024x128) (k0_off1 (grid0.coords t) (BitVec.ofNat 32 j.val)) S512x128.size (k0_off1_inb (grid0.coords t) j)).toLoadRect.idx (ix2 x l : S512x128.Idx))
    = (m ((c : Thread nD τ).loc main_arg0) : Vec Ideal S16400x16384 .f32)
      (ix2 ⟨16 + (row0 (tokenRow t j) * 64 + x.val), by have : row0 (tokenRow t j) ≤ 248 := Nat.min_le_right _ _; omega⟩ ⟨7168 + (128 * (t.val / 32) + l.val), by have := lt_hp t; omega⟩) := by
  unfold iblk
  refine congrArg (m ((c : Thread nD τ).loc main_arg0) : Vec Ideal S16400x16384 .f32) (funext fun d => Fin.ext ((win0_1.rect_emb_val_off t _ d).trans ?_))
  rw [(widx t).2.1]
  simp only [Rect.idx_unit_val]
  obtain ⟨h0, h1, h2, h3⟩ := off1 t j
  match d with
  | ⟨0, _⟩ => show 16 + 64 * slab t + (k0_off1 (grid0.coords t) (BitVec.ofNat 32 j.val) 0 + x.val) = 16 + (row0 (tokenRow t j) * 64 + x.val); omega
  | ⟨1, _⟩ => show 7168 + 128 * (t.val / 32) + (k0_off1 (grid0.coords t) (BitVec.ofNat 32 j.val) 1 + l.val) = 7168 + (128 * (t.val / 32) + l.val); omega

/-- their values, -/
theorem v_at (c : Dev nD) (t : Fin cfg0.N) (j : Fin 8) (x : Fin 512) (l : Fin 128) :
    (iblk m c 2 t : Vec Ideal S1024x128 .f32) ((Rect.unit (s := S1024x128) (k0_off1 (grid0.coords t) (BitVec.ofNat 32 j.val)) S512x128.size (k0_off1_inb (grid0.coords t) j)).toLoadRect.idx (ix2 x l : S512x128.Idx))
    = (m ((c : Thread nD τ).loc main_arg0) : Vec Ideal S16400x16384 .f32)
      (ix2 ⟨16 + (row0 (tokenRow t j) * 64 + x.val), by have : row0 (tokenRow t j) ≤ 248 := Nat.min_le_right _ _; omega⟩ ⟨8192 + (128 * (t.val / 32) + l.val), by have := lt_hp t; omega⟩) := by
  unfold iblk
  refine congrArg (m ((c : Thread nD τ).loc main_arg0) : Vec Ideal S16400x16384 .f32) (funext fun d => Fin.ext ((win0_2.rect_emb_val_off t _ d).trans ?_))
  rw [(widx t).2.2.1]
  simp only [Rect.idx_unit_val]
  obtain ⟨h0, h1, h2, h3⟩ := off1 t j
  match d with
  | ⟨0, _⟩ => show 16 + 64 * slab t + (k0_off1 (grid0.coords t) (BitVec.ofNat 32 j.val) 0 + x.val) = 16 + (row0 (tokenRow t j) * 64 + x.val); omega
  | ⟨1, _⟩ => show 8192 + 128 * (t.val / 32) + (k0_off1 (grid0.coords t) (BitVec.ofNat 32 j.val) 1 + l.val) = 8192 + (128 * (t.val / 32) + l.val); omega

/-- the meta tokens' keys, -/
theorem km_at (c : Dev nD) (t : Fin cfg0.N) (x : Fin 16) (l : Fin 128) :
    (iblk m c 3 t : Vec Ideal S16x128 .f32) ((Rect.unit (s := S16x128) ![0, 0] S16x128.size inb_S16x128_S16x128_0_0).toLoadRect.idx (ix2 x l : S16x128.Idx))
    = (m ((c : Thread nD τ).loc main_arg0) : Vec Ideal S16400x16384 .f32)
      (ix2 ⟨x.val, by omega⟩ ⟨7168 + (128 * (t.val / 32) + l.val), by have := lt_hp t; omega⟩) := by
  unfold iblk
  refine congrArg (m ((c : Thread nD τ).loc main_arg0) : Vec Ideal S16400x16384 .f32) (funext fun d => Fin.ext ((win0_3.rect_emb_val_off t _ d).trans ?_))
  rw [(widx t).2.2.2.1]
  simp only [Rect.idx_unit_val]
  match d with
  | ⟨0, _⟩ => show 0 * 16 + (0 + x.val) = x.val; omega
  | ⟨1, _⟩ => show (56 + t.val / 32) * 128 + (0 + l.val) = 7168 + (128 * (t.val / 32) + l.val); omega

/-- their values, -/
theorem vm_at (c : Dev nD) (t : Fin cfg0.N) (x : Fin 16) (l : Fin 128) :
    (iblk m c 4 t : Vec Ideal S16x128 .f32) ((Rect.unit (s := S16x128) ![0, 0] S16x128.size inb_S16x128_S16x128_0_0).toLoadRect.idx (ix2 x l : S16x128.Idx))
    = (m ((c : Thread nD τ).loc main_arg0) : Vec Ideal S16400x16384 .f32)
      (ix2 ⟨x.val, by omega⟩ ⟨8192 + (128 * (t.val / 32) + l.val), by have := lt_hp t; omega⟩) := by
  unfold iblk
  refine congrArg (m ((c : Thread nD τ).loc main_arg0) : Vec Ideal S16400x16384 .f32) (funext fun d => Fin.ext ((win0_4.rect_emb_val_off t _ d).trans ?_))
  rw [(widx t).2.2.2.2.1]
  simp only [Rect.idx_unit_val]
  match d with
  | ⟨0, _⟩ => show 0 * 16 + (0 + x.val) = x.val; omega
  | ⟨1, _⟩ => show (64 + t.val / 32) * 128 + (0 + l.val) = 8192 + (128 * (t.val / 32) + l.val); omega

/-- the row's slab of the bias table -/
theorem bt_at (c : Dev nD) (t : Fin cfg0.N) (j : Fin 8) (x : Fin 512) (l : Fin 128) :
    (iblk m c 5 t : Vec Ideal S1x8x512x128 .f32) ((Rect.unit (s := S1x8x512x128) (k0_off2 (grid0.coords t) (BitVec.ofNat 32 j.val)) S1x1x512x128.size (k0_off2_inb (grid0.coords t) j)).toLoadRect.idx (ix4 0 0 x l : S1x1x512x128.Idx))
    = (V m c main_v14 : Vec Ideal S8x8x512x128 .f32)
      (ix4 ⟨t.val / 32, lt_hp t⟩ ⟨row0 (tokenRow t j) + 7 - (tokenRow t j).val, (off2 t j).2.1⟩ x l) := by
  unfold iblk
  refine congrArg (V m c main_v14 : Vec Ideal S8x8x512x128 .f32) (funext fun d => Fin.ext ((win0_5.rect_emb_val t _ d).trans ?_))
  rw [(widx t).2.2.2.2.2.1]
  simp only [Rect.idx_unit_val]
  have hh : k0_off2 (grid0.coords t) (BitVec.ofNat 32 j.val) d = _ := congrFun (off2 t j).1 d
  rw [hh]
  match d with
  | ⟨0, _⟩ => show t.val / 32 * 1 + (0 + 0) = t.val / 32; omega
  | ⟨1, _⟩ => show 0 * 8 + (row0 (tokenRow t j) + 7 - (tokenRow t j).val + 0) = row0 (tokenRow t j) + 7 - (tokenRow t j).val; omega
  | ⟨2, _⟩ => show 0 * 512 + (0 + x.val) = x.val; omega
  | ⟨3, _⟩ => show 0 * 128 + (0 + l.val) = l.val; omega

/-- and the meta tokens' biases. -/
theorem mb_at (c : Dev nD) (t : Fin cfg0.N) (x : Fin 16) (l : Fin 128) :
    (iblk m c 6 t : Vec Ideal S1x16x128 .f32) ((Rect.unit (s := S1x16x128) ![0, 0, 0] S1x16x128.size inb_S1x16x128_S1x16x128_0_0_0).toLoadRect.idx (ix3 0 x l : S1x16x128.Idx))
    = (V m c main_v18 : Vec Ideal S8x16x128 .f32) (ix3 ⟨t.val / 32, lt_hp t⟩ x l) := by
  unfold iblk
  refine congrArg (V m c main_v18 : Vec Ideal S8x16x128 .f32) (funext fun d => Fin.ext ((win0_6.rect_emb_val t _ d).trans ?_))
  rw [(widx t).2.2.2.2.2.2.1]
  simp only [Rect.idx_unit_val]
  match d with
  | ⟨0, _⟩ => show t.val / 32 * 1 + (0 + 0) = t.val / 32; omega
  | ⟨1, _⟩ => show 0 * 16 + (0 + x.val) = x.val; omega
  | ⟨2, _⟩ => show 0 * 128 + (0 + l.val) = l.val; omega

/-- Where the stored block sits in the result. -/
theorem out_at (G : Vec Ideal S16384x1024 .bf16) (t : Fin cfg0.N) (r : Fin 512) (l : Fin 128) :
    G (((cfg0.win 8).blk t).view.emb (ix2 r l : S512x128.Idx))
      = G (ix2 ⟨512 * (t.val % 32) + r.val, by omega⟩ ⟨128 * (t.val / 32) + l.val, by have := lt_hp t; omega⟩) := by
  refine congrArg G (funext fun a => Fin.ext ((win0_8.rect_emb_val t _ a).trans ?_))
  rw [(widx t).2.2.2.2.2.2.2.2]
  match a with
  | ⟨0, _⟩ => show t.val % 32 * 512 + r.val = 512 * (t.val % 32) + r.val; omega
  | ⟨1, _⟩ => show t.val / 32 * 128 + l.val = 128 * (t.val / 32) + l.val; omega

end Cert.NaMainIdeal.Final

end
-- ==== Proof.NaMain.lean ====
/-
  The neighbourhood attention: sixteen heads over a 256 by 64 grid of tokens, each attending to the eight rows by
  sixteen columns around it and to sixteen meta tokens, the result times the SiLU of its gate. The kernel takes eight
  whole rows of keys per row of queries and a table of biases that is minus infinity outside the window; at the ideal
  instance it leaves the host reference's array when queries, keys and biases are real.
-/
module

public import proofs.«01_k».proof.Defs
public import proofs.«01_k».proof.Proof.NaMainBias
public import proofs.«01_k».proof.Proof.NaMainRow
public import proofs.«01_k».proof.Proof.NaMainWin
public import proofs.«01_k».proof.Proof.Gen.NaMainIdeal.Value
public import proofs.«01_k».proof.Proof.Gen.NaMainRefIdeal.Run
public import proofs.«01_k».proof.Proof.Gen.NaMainRefIdeal.Read
public import Idealize.ShloMosaic.Lib.Pipeline.ValueKit
public import Idealize.ShloMosaic.Lib.Pointwise
public import Idealize.ShloMosaic.Lib.ReduceAll

@[expose] public section

set_option maxRecDepth 16384

noncomputable section

open Idealize.ShloMosaic Idealize.ShloMosaic.TcCoe Idealize.SL.Sem
open Cert.NaMainIdeal Cert.NaMainIdeal.Gen Cert.NaMainIdeal.Value Cert.Attend
open Cert.NaMainRefIdeal.Term (row0 row0_lt col0 row_of gscore mscore gvalue)

namespace Cert.NaMainIdeal.Final

variable (m : (ℓ : Loc nD τ sig) → Buf (Elt Ideal) ℓ)

/-- The scores of the query at row `r`, column `q` against the 512 keys of its eight rows. -/
def kscore (z : FVec Ideal S16400x16384 .f32) (b : FVec Ideal S16x15x31 .f32) (h : Fin 16) (r : Fin 256) (q : Fin 64) (d0 : Fin 8) : Fin 512 → EReal :=
  fun x => (∑ d : Fin 64, z (ix2 ⟨16 + (r.val * 64 + q.val), by omega⟩ ⟨6144 + (h.val * 64 + d.val), by omega⟩)
        * z (ix2 ⟨16 + (row0 r * 64 + x.val), by have : row0 r ≤ 248 := Nat.min_le_right _ _; omega⟩ ⟨7168 + (h.val * 64 + d.val), by omega⟩))
      * Ideal.ofBits FTy.f32 0x3E000000#32
    + if col0 q ≤ x.val % 64 ∧ x.val % 64 < col0 q + 16 then b (ix3 h ⟨d0.val + x.val / 64, by omega⟩ ⟨min (x.val % 64 + 15 - q.val) 30, by omega⟩) else ⊥

/-- The bias block of row `j` at the grid point: key `x`, the query in column `q` of head `h`. -/
theorem bias_at (c : Dev nD) (t : Fin cfg0.N) (j : Fin 8) (x : Fin 512) (p : Fin 2) (q : Fin 64) (l : Fin 128) (hl : l.val = p.val * 64 + q.val) (h : Fin 16) (hh : h.val = t.val / 32 * 2 + p.val) :
    (iblk m c 5 t : Vec Ideal S1x8x512x128 .f32) ((Rect.unit (s := S1x8x512x128) (k0_off2 (grid0.coords t) (BitVec.ofNat 32 j.val)) S1x1x512x128.size (k0_off2_inb (grid0.coords t) j)).toLoadRect.idx (ix4 0 0 x l : S1x1x512x128.Idx))
    = if col0 q ≤ x.val % 64 ∧ x.val % 64 < col0 q + 16 then (m ((c : Thread nD τ).loc main_arg1) : Vec Ideal S16x15x31 .f32) (ix3 h ⟨row0 (tokenRow t j) + 7 - (tokenRow t j).val + x.val / 64, by have := (off2 t j).2.1; omega⟩ ⟨min (x.val % 64 + 15 - q.val) 30, by omega⟩) else (⊥ : EReal) := by
  have hx : x = ⟨(⟨x.val / 64, by omega⟩ : Fin 8).val * 64 + (⟨x.val % 64, by omega⟩ : Fin 64).val, by dsimp only; omega⟩ := Fin.ext (by show x.val = x.val / 64 * 64 + x.val % 64; omega)
  have hl' : l = ⟨p.val * 64 + q.val, by omega⟩ := Fin.ext hl
  obtain ⟨h, hlt⟩ := h
  have hh' : h = t.val / 32 * 2 + p.val := hh
  subst hh'
  rw [bt_at, hl']
  refine Eq.trans ?_ ((bias m c ⟨t.val / 32, lt_hp t⟩ ⟨row0 (tokenRow t j) + 7 - (tokenRow t j).val, (off2 t j).2.1⟩ ⟨x.val / 64, by omega⟩ ⟨x.val % 64, by omega⟩ p q).trans (table_at _ _ _ _ _ _))
  exact congrArg (fun x' => (V m c main_v14 : Vec Ideal S8x8x512x128 .f32) (ix4 _ _ x' _)) hx

/-- The queries, keys and biases are numbers. -/
abbrev Real (z : FVec Ideal S16400x16384 .f32) (b : FVec Ideal S16x15x31 .f32) (mb : FVec Ideal S16x16 .f32) : Prop :=
  (∀ (r : Fin 16400) (l : Fin 2048), Fi (z (ix2 r ⟨6144 + l.val, by omega⟩))) ∧ (∀ h x y, Fi (b (ix3 h x y))) ∧ ∀ h x, Fi (mb (ix2 h x))

/-- The kernel's scores of a query are `kscore`. -/
theorem scores_at (c : Dev nD) (t : Fin cfg0.N) (j : Fin 8) (hj) (p : Fin 2) (q : Fin 64) (f : Fin 64 → Fin 128) (l : Fin 128) (hl : l.val = p.val * 64 + q.val)
    (h : Fin 16) (hh : h.val = t.val / 32 * 2 + p.val) (hf : ∀ i, (f i).val = p.val * 64 + i.val) :
    bscore f (fun x : S64x128.Idx => (iblk m c 0 t : Vec Ideal S512x128 .f32) ((Rect.unit (s := S512x128) ![64 * j.val, 0] S64x128.size hj).toLoadRect.idx x))
      (fun x i => (iblk m c 1 t : Vec Ideal S1024x128 .f32) ((Rect.unit (s := S1024x128) (k0_off1 (grid0.coords t) (BitVec.ofNat 32 j.val)) S512x128.size (k0_off1_inb (grid0.coords t) j)).toLoadRect.idx (ix2 x i : S512x128.Idx)))
      (fun x => (iblk m c 5 t : Vec Ideal S1x8x512x128 .f32) ((Rect.unit (s := S1x8x512x128) (k0_off2 (grid0.coords t) (BitVec.ofNat 32 j.val)) S1x1x512x128.size (k0_off2_inb (grid0.coords t) j)).toLoadRect.idx (ix4 0 0 x l : S1x1x512x128.Idx))) q
    = kscore (m ((c : Thread nD τ).loc main_arg0)) (m ((c : Thread nD τ).loc main_arg1)) h (tokenRow t j) q ⟨row0 (tokenRow t j) + 7 - (tokenRow t j).val, (off2 t j).2.1⟩ := by
  funext x
  unfold bscore kscore
  beta_reduce
  rw [bias_at m c t j x p q l hl h hh]
  refine congrArg (fun u : EReal => u * _ + _) (Finset.sum_congr rfl fun i _ => ?_)
  have e : 128 * (t.val / 32) + (f i).val = h.val * 64 + i.val := by rw [hf]; omega
  rw [q_at, k_at, mul_comm]
  simp only [e]

/-- The kernel's scores against the meta tokens. -/
theorem metas_at (c : Dev nD) (t : Fin cfg0.N) (j : Fin 8) (hj) (p : Fin 2) (q : Fin 64) (f : Fin 64 → Fin 128) (l : Fin 128) (hl : l.val = p.val * 64 + q.val)
    (h : Fin 16) (hh : h.val = t.val / 32 * 2 + p.val) (hf : ∀ i, (f i).val = p.val * 64 + i.val) :
    bscore f (fun x : S64x128.Idx => (iblk m c 0 t : Vec Ideal S512x128 .f32) ((Rect.unit (s := S512x128) ![64 * j.val, 0] S64x128.size hj).toLoadRect.idx x))
      (fun x i => (iblk m c 3 t : Vec Ideal S16x128 .f32) ((Rect.unit (s := S16x128) ![0, 0] S16x128.size inb_S16x128_S16x128_0_0).toLoadRect.idx (ix2 x i : S16x128.Idx)))
      (fun x => (iblk m c 6 t : Vec Ideal S1x16x128 .f32) ((Rect.unit (s := S1x16x128) ![0, 0, 0] S1x16x128.size inb_S1x16x128_S1x16x128_0_0_0).toLoadRect.idx (ix3 0 x l : S1x16x128.Idx))) q
    = mscore (m ((c : Thread nD τ).loc main_arg0)) (m ((c : Thread nD τ).loc main_arg2)) h (tokenRow t j) q := by
  funext x
  unfold bscore mscore
  beta_reduce
  have hl' : l = ⟨p.val * 64 + q.val, by omega⟩ := Fin.ext hl
  have hh' : h = ⟨(⟨t.val / 32, lt_hp t⟩ : Fin 8).val * 2 + p.val, by dsimp only; omega⟩ := Fin.ext hh
  rw [mb_at, hl', mbias, ← hh']
  refine congrArg (fun u : EReal => u * _ + _) (Finset.sum_congr rfl fun i _ => ?_)
  have e : 128 * (t.val / 32) + (f i).val = h.val * 64 + i.val := by rw [hf]; omega
  rw [q_at, km_at, mul_comm]
  simp only [e]

/-- Where the window's key `x` sits among the 512 keys of its rows. -/
def place (q : Fin 64) (x : Fin 128) : Fin 512 := ⟨64 * (x.val / 16) + (col0 q + x.val % 16), by have : col0 q ≤ 48 := Nat.min_le_right _ _; omega⟩

/-- The window's columns around `q`: it begins at most at 48, ends at `q` or later, and begins at `q` or before. -/
theorem col0_le (q : Fin 64) : col0 q ≤ 48 ∧ q.val ≤ col0 q + 15 ∧ col0 q ≤ q.val := by unfold col0; omega

/-- The kernel's mean is the softmax mean over the window and the meta tokens. -/
theorem mean_eq (z : FVec Ideal S16400x16384 .f32) (b : FVec Ideal S16x15x31 .f32) (mb : FVec Ideal S16x16 .f32) (hf : Real z b mb)
    (h : Fin 16) (r : Fin 256) (q d : Fin 64) (d0 : Fin 8) (hd : d0.val + r.val = row0 r + 7) (w : Fin 16 → EReal) :
    mix (kscore z b h r q d0) (mscore z mb h r q)
      (fun x => z (ix2 ⟨16 + (row0 r * 64 + x.val), by have : row0 r ≤ 248 := Nat.min_le_right _ _; omega⟩ ⟨8192 + (h.val * 64 + d.val), by omega⟩)) w
      = attend (Fin.addCases (m := 128) (n := 16) (motive := fun _ => EReal) (gscore z b h r q) (mscore z mb h r q))
          (Fin.addCases (m := 128) (n := 16) (motive := fun _ => EReal) (gvalue z h r q d) w) := by
  have hc := col0_le q
  have hq (k : Fin 64) (s : Fin 16400) : Fi (z (ix2 s ⟨6144 + (h.val * 64 + k.val), by omega⟩)) := hf.1 s ⟨h.val * 64 + k.val, by omega⟩
  have hk (k : Fin 64) (s : Fin 16400) : Fi (z (ix2 s ⟨7168 + (h.val * 64 + k.val), by omega⟩)) := by
    have e : (⟨7168 + (h.val * 64 + k.val), by omega⟩ : Fin 16384) = ⟨6144 + (1024 + (h.val * 64 + k.val)), by omega⟩ :=
      Fin.ext (show 7168 + (h.val * 64 + k.val) = 6144 + (1024 + (h.val * 64 + k.val)) by omega)
    rw [e]
    exact hf.1 s ⟨1024 + (h.val * 64 + k.val), by omega⟩
  refine mix_eq (place q) (fun x y e => Fin.ext ?_) _ _ _ _ _ _ (fun x => ?_) (fun x => ?_) (fun y hy => ?_) (fun x => ?_) (fun x => ?_)
  · have e : 64 * (x.val / 16) + (col0 q + x.val % 16) = 64 * (y.val / 16) + (col0 q + y.val % 16) := congrArg Fin.val e
    omega
  · unfold kscore gscore
    have e0 : (place q x).val = 64 * (x.val / 16) + (col0 q + x.val % 16) := rfl
    have e1 : row0 r * 64 + (place q x).val = (row0 r + x.val / 16) * 64 + (col0 q + x.val % 16) := by omega
    have e2 : (place q x).val % 64 = col0 q + x.val % 16 := by omega
    have e3 : d0.val + (place q x).val / 64 = row0 r + x.val / 16 + 7 - r.val := by omega
    have e4 : min (col0 q + x.val % 16 + 15 - q.val) 30 = col0 q + x.val % 16 + 15 - q.val := by omega
    have e5 : col0 q ≤ col0 q + x.val % 16 ∧ col0 q + x.val % 16 < col0 q + 16 := by omega
    simp only [e1, e2, e3, e4]
    rw [if_pos e5]
  · unfold gvalue
    have e1 : row0 r * 64 + (place q x).val = (row0 r + x.val / 16) * 64 + (col0 q + x.val % 16) := by
      show row0 r * 64 + (64 * (x.val / 16) + (col0 q + x.val % 16)) = _
      omega
    simp only [e1]
  · unfold kscore
    rw [if_neg fun hn => hy ⟨y.val / 64 * 16 + (y.val % 64 - col0 q), by omega⟩ (Fin.ext (show 64 * ((y.val / 64 * 16 + (y.val % 64 - col0 q)) / 16) + (col0 q + (y.val / 64 * 16 + (y.val % 64 - col0 q)) % 16) = y.val by omega)),
      EReal.add_bot]
  · exact Fi.score (fun k => hq k _) (fun k => hk k _) (hf.2.1 _ _ _)
  · exact Fi.score (fun k => hq k _) (fun k => hk k _) (hf.2.2 _ _)

/-- The row the body computes for row `j` of a grid point is the reference's value where it sits in the array. -/
theorem point (c : Dev nD) (hf : Real (m ((c : Thread nD τ).loc main_arg0)) (m ((c : Thread nD τ).loc main_arg1)) (m ((c : Thread nD τ).loc main_arg2)))
    (t : Fin cfg0.N) (j : Fin 8) (hj) (q : Fin 64) (l : Fin 128) :
    rowOf (grid0.coords t) (iblk m c 0 t) (iblk m c 7 t) (iblk m c 1 t) (iblk m c 2 t) (iblk m c 3 t) (iblk m c 4 t) (iblk m c 5 t) (iblk m c 6 t) j hj (ix2 q l)
      = Cert.NaMainRefIdeal.Read.val_main_v127 (F := Ideal) (m ((c : Thread nD τ).loc main_arg0)) (m ((c : Thread nD τ).loc main_arg1))
          (m ((c : Thread nD τ).loc main_arg2)) (ix2 ⟨(tokenRow t j).val * 64 + q.val, by omega⟩ ⟨128 * (t.val / 32) + l.val, by have := lt_hp t; omega⟩) := by
  have ht := lt_hp t
  have hd := (off2 t j).2
  have e : (⟨128 * (t.val / 32) + l.val, by omega⟩ : Fin 1024)
      = ⟨(⟨(128 * (t.val / 32) + l.val) / 64, by omega⟩ : Fin 16).val * 64 + (⟨(128 * (t.val / 32) + l.val) % 64, by omega⟩ : Fin 64).val, by dsimp only; omega⟩ :=
    Fin.ext (by dsimp only; omega)
  rw [e, Cert.NaMainRefIdeal.Term.ref_eq]
  have e8 (k : Nat) : k + ((128 * (t.val / 32) + l.val) / 64 * 64 + (128 * (t.val / 32) + l.val) % 64) = k + (128 * (t.val / 32) + l.val) := by omega
  simp only [e8]
  unfold rowOf
  rw [row_apply]
  beta_reduce
  rw [g_at, funext fun x => v_at m c t j x l, funext fun x => vm_at m c t x l]
  refine congrArg (fun u : EReal => u * (_ : EReal)) ?_
  split
  · rename_i hl
    rw [scores_at m c t j hj 0 q _ _ (by show q.val = 0 * 64 + q.val; omega) ⟨(128 * (t.val / 32) + l.val) / 64, by omega⟩ (by show _ / 64 = _ * 2 + 0; omega) (fun i => by show i.val = 0 * 64 + i.val; omega),
      metas_at m c t j hj 0 q _ _ (by show q.val = 0 * 64 + q.val; omega) ⟨(128 * (t.val / 32) + l.val) / 64, by omega⟩ (by show _ / 64 = _ * 2 + 0; omega) (fun i => by show i.val = 0 * 64 + i.val; omega)]
    have h := mean_eq _ _ _ hf ⟨(128 * (t.val / 32) + l.val) / 64, by omega⟩ (tokenRow t j) q ⟨(128 * (t.val / 32) + l.val) % 64, by omega⟩
      ⟨row0 (tokenRow t j) + 7 - (tokenRow t j).val, hd.1⟩ (by dsimp only; omega) (fun x => m ((c : Thread nD τ).loc main_arg0) (ix2 ⟨x.val, by omega⟩ ⟨8192 + (128 * (t.val / 32) + l.val), by omega⟩))
    simp only [e8] at h
    exact h
  · rename_i hl
    rw [scores_at m c t j hj 1 q _ _ (by show 64 + q.val = 1 * 64 + q.val; omega) ⟨(128 * (t.val / 32) + l.val) / 64, by omega⟩ (by show _ / 64 = _ * 2 + 1; omega) (fun i => by show 64 + i.val = 1 * 64 + i.val; omega),
      metas_at m c t j hj 1 q _ _ (by show 64 + q.val = 1 * 64 + q.val; omega) ⟨(128 * (t.val / 32) + l.val) / 64, by omega⟩ (by show _ / 64 = _ * 2 + 1; omega) (fun i => by show 64 + i.val = 1 * 64 + i.val; omega)]
    have h := mean_eq _ _ _ hf ⟨(128 * (t.val / 32) + l.val) / 64, by omega⟩ (tokenRow t j) q ⟨(128 * (t.val / 32) + l.val) % 64, by omega⟩
      ⟨row0 (tokenRow t j) + 7 - (tokenRow t j).val, hd.1⟩ (by dsimp only; omega) (fun x => m ((c : Thread nD τ).loc main_arg0) (ix2 ⟨x.val, by omega⟩ ⟨8192 + (128 * (t.val / 32) + l.val), by omega⟩))
    simp only [e8] at h
    exact h

/-- The result array after the run is the reference's term of the kernel's arguments. -/
theorem final (c : Dev nD) (hf : Real (m ((c : Thread nD τ).loc main_arg0)) (m ((c : Thread nD τ).loc main_arg1)) (m ((c : Thread nD τ).loc main_arg2))) :
    (dats m 0 c).arrAt 8 cfg0.N = Cert.NaMainRefIdeal.Read.val_main_v127 (F := Ideal) (m ((c : Thread nD τ).loc main_arg0))
      (m ((c : Thread nD τ).loc main_arg1)) (m ((c : Thread nD τ).loc main_arg2)) := by
  refine (dats m 0 c).arrAt_eq_of_covers 8 _ (by decide +kernel) fun t _ y => ?_
  blk_simp
  rw [after0_8]
  frame_out
  refine stored m c _ t y fun j hj x h0 h1 => ?_
  idx_vars x
  refine (point m c hf t j hj x0 x1).trans ?_
  idx_vars y
  have h0 : y0.val = 64 * j.val + x0.val := h0
  have h1 : y1.val = x1.val := h1
  refine Eq.trans ?_ (out_at (Cert.NaMainRefIdeal.Read.val_main_v127 (F := Ideal) _ _ _) t y0 y1).symm
  refine congrArg (Cert.NaMainRefIdeal.Read.val_main_v127 (F := Ideal) _ _ _) (funext fun a => Fin.ext ?_)
  match a with
  | ⟨0, _⟩ => show (8 * (t.val % 32) + j.val) * 64 + x0.val = 512 * (t.val % 32) + y0.val; omega
  | ⟨1, _⟩ => show 128 * (t.val / 32) + x1.val = 128 * (t.val / 32) + y1.val; omega

end Cert.NaMainIdeal.Final

namespace Cert.Pre_na_main_real

open Idealize.ShloMosaic Cert.Attend

/-- The relations of shapes the precondition takes. -/
theorem facts : Facts where
  slices_S16400x16384_S16400x2048_0_6144 := by decide
  bcast_S_S16400x2048 := by decide
  reducesTo_S16400x2048_S_d0_1 := by decide
  h_S_ := by decide
  bcast_S_S16x15x31 := by decide
  reducesTo_S16x15x31_S_d0_1_2 := by decide
  bcast_S_S16x16 := by decide
  reducesTo_S16x16_S_d0_1 := by decide

/-- What the precondition says: queries, keys and biases are numbers. -/
theorem real (z : FVec Ideal S16400x16384 .f32) (b : FVec Ideal S16x15x31 .f32) (mb : FVec Ideal S16x16 .f32)
    (h : letI := facts; fn (F := Ideal) z b mb = fun _ => 1#1) : Cert.NaMainIdeal.Final.Real z b mb := by
  letI := facts
  have h := congrFun h ix0
  simp only [fn] at h
  obtain ⟨h, h2⟩ := IntOp.andi_eq_one.1 h
  obtain ⟨h0, h1⟩ := IntOp.andi_eq_one.1 h
  refine ⟨fun r l => ?_, fun r l k => ?_, fun r l => ?_⟩
  · have := Host.reduce_andi_all _ _ _ _ _ h0 (ix2 r l)
    refine fi_of_abs _ ?_
    revert this
    pointwise
    exact id
  · have := Host.reduce_andi_all _ _ _ _ _ h1 (ix3 r l k)
    refine fi_of_abs _ ?_
    revert this
    pointwise
    exact id
  · have := Host.reduce_andi_all _ _ _ _ _ h2 (ix2 r l)
    refine fi_of_abs _ ?_
    revert this
    pointwise
    exact id

end Cert.Pre_na_main_real

namespace Cert.Proof.NaMain

open Idealize.ShloMosaic Idealize.SL.Sem Cert.NaMainIdeal

/-- The kernel's result is the reference's on every device, when queries, keys and biases are numbers. -/
theorem algebraic : Cert.algebraic_NaMainIdeal_NaMainRefIdeal_pre_na_main_real (hNaMainIdeal := Cert.NaMainIdeal.Gen.facts)
    (hNaMainRefIdeal := Cert.NaMainRefIdeal.Gen.facts) (hPre_na_main_real := Cert.Pre_na_main_real.facts) := by
  intro m ρ m' ρ' hpre hag
  refine ⟨fun c => Cert.NaMainRefIdeal.Read.val_main_v127 (F := Ideal) (m ((c.tc : Thread nD τ).loc main_arg0))
    (m ((c.tc : Thread nD τ).loc main_arg1)) (m ((c.tc : Thread nD τ).loc main_arg2)), ?_, ?_⟩
  · exact (θ_run _ _ _).mono (fun _ h c => ⟨(h c).1.trans (Final.final m c (Cert.Pre_na_main_real.real _ _ _ (hpre c))), (h c).2⟩)
      (Cert.NaMainIdeal.Value.run_blocks (F := Ideal) m ρ)
  · refine (θ_run _ _ _).mono (fun _ h c => ⟨(h c).1.trans ?_, (h c).2⟩) (Cert.NaMainRefIdeal.Value.run (F := Ideal) m' ρ')
    obtain ⟨h0, h1, h2⟩ := hag c
    rw [Cert.NaMainRefIdeal.Read.val_main_v127_eq, h0, h1, h2]

end Cert.Proof.NaMain

end
-- ==== Proof.NaMeta.lean ====
/-
  The meta tokens' attention: the sixteen meta tokens attend to each other in sixteen heads, and the result is
  multiplied by the SiLU of its gate. The kernel takes two heads at a time over 128 lanes, zeroing the other head's
  lanes of the queries, and divides by the softmax's sum after weighting the values; at the ideal instance it leaves
  the host reference's array when queries, keys and biases are real.
-/
module

public import proofs.«01_k».proof.Defs
public import proofs.«01_k».proof.Proof.Attend
public import proofs.«01_k».proof.Proof.Gen.NaMetaIdeal.Value
public import proofs.«01_k».proof.Proof.Gen.NaMetaRefIdeal.Run
public import proofs.«01_k».proof.Proof.Gen.NaMetaRefIdeal.Read
public import Idealize.ShloMosaic.Lib.Pipeline.ValueKit
public import Idealize.ShloMosaic.Lib.Pointwise
public import Idealize.ShloMosaic.Lib.ReduceAll

@[expose] public section

set_option maxRecDepth 16384

noncomputable section

open Idealize.ShloMosaic Idealize.ShloMosaic.TcCoe Idealize.SL.Sem
open Idealize.ShloMosaic.Pipeline (Dat)
open Cert.Attend

namespace Cert.NaMetaRefIdeal.Term

open Cert.NaMetaRefIdeal Cert.NaMetaRefIdeal.Gen Cert.NaMetaRefIdeal.Read

/-- The score of head `h` between the meta tokens `r` and `x`: an eighth of the inner product of query and key, and the
    head's bias. -/
def score (z : FVec Ideal S16400x16384 .f32) (mb : FVec Ideal S16x16 .f32) (h r : Fin 16) : Fin 16 → EReal :=
  fun x => (∑ k : Fin 64, z (ix2 ⟨r.val, by omega⟩ ⟨6144 + (h.val * 64 + k.val), by omega⟩)
      * z (ix2 ⟨x.val, by omega⟩ ⟨7168 + (h.val * 64 + k.val), by omega⟩))
    * Ideal.ofBits FTy.f32 0x3E000000#32 + mb (ix2 h x)

/-- The reference's scores. -/
theorem score_eq (z : FVec Ideal S16400x16384 .f32) (mb : FVec Ideal S16x16 .f32) (h r x : Fin 16) :
    val_main_v15 (F := Ideal) z mb (ix3 h r x) = score z mb h r x := by
  pointwise [val_main_v15, val_main_v14, val_main_v13, val_main_v12, val_main_v11, val_main_cst, val_main_v10,
    val_main_v0, val_main_v1, val_main_v4, val_main_v5, val_main_v6, val_main_v7, score]

/-- The reference at token `r` and channel `l`: the softmax mean of the values, times the SiLU of the gate. -/
theorem ref_eq (z : FVec Ideal S16400x16384 .f32) (mb : FVec Ideal S16x16 .f32) (r : Fin 16) (l : Fin 1024) :
    val_main_v32 (F := Ideal) z mb (ix2 r l)
      = attend (score z mb ⟨l.val / 64, by omega⟩ r) (fun x => z (ix2 ⟨x.val, by omega⟩ ⟨8192 + l.val, by omega⟩))
        * (z (ix2 ⟨r.val, by omega⟩ ⟨9216 + l.val, by omega⟩)
          * Ideal.logistic (z (ix2 ⟨r.val, by omega⟩ ⟨9216 + l.val, by omega⟩))) := by
  have hs := fun h r x => score_eq z mb h r x
  generalize e : val_main_v15 (F := Ideal) z mb = s at hs
  pointwise [val_main_v32, val_main_v31, val_main_v30, val_main_call0_v5, val_main_call0_v4, val_main_call0_v3,
    val_main_call0_v2, val_main_call0_v1, val_main_call0_v0, val_main_call0_cst, val_main_call0_cst_0, val_main_v3,
    val_main_v29, val_main_v28, val_main_v27, val_main_v26, val_main_v25, val_main_v24, val_main_v23, val_main_v22,
    val_main_v21, val_main_v20, val_main_v19, val_main_v18, val_main_v17, val_main_v16, val_main_cst_0, val_main_cst_1,
    val_main_cst_2, val_main_v9, val_main_v8, val_main_v2, e]
  simp only [hs, ninf, bot_max, attend, Ideal.logistic]

/-- The array's real queries, keys and biases. -/
abbrev Real (z : FVec Ideal S16400x16384 .f32) (mb : FVec Ideal S16x16 .f32) : Prop :=
  (∀ (r : Fin 16) (l : Fin 2048), Fi (z (ix2 ⟨r.val, by omega⟩ ⟨6144 + l.val, by omega⟩))) ∧ ∀ h x, Fi (mb (ix2 h x))

/-- The scores of real queries, keys and biases are real. -/
theorem score_fi (z : FVec Ideal S16400x16384 .f32) (mb : FVec Ideal S16x16 .f32) (hf : Real z mb) (h r x : Fin 16) :
    Fi (score z mb h r x) := by
  have e (k : Fin 64) : (⟨7168 + (h.val * 64 + k.val), by omega⟩ : Fin 16384)
      = ⟨6144 + (1024 + (h.val * 64 + k.val)), by omega⟩ := Fin.ext
    (show 7168 + (h.val * 64 + k.val) = 6144 + (1024 + (h.val * 64 + k.val)) by omega)
  refine Fi.score (fun k => hf.1 r ⟨h.val * 64 + k.val, by omega⟩) (fun k => ?_) (hf.2 h x)
  rw [e]
  exact hf.1 x ⟨1024 + (h.val * 64 + k.val), by omega⟩

end Cert.NaMetaRefIdeal.Term

namespace Cert.NaMetaIdeal.Final

open Cert.NaMetaIdeal Cert.NaMetaIdeal.Gen
open Cert.NaMetaRefIdeal.Term (Real score score_fi ref_eq)

/-- A head's score in a block of two heads: the head's lanes are those `f` names. -/
def bscore (f : Fin 64 → Fin 128) (q k : Vec Ideal S16x128 .f32) (b : Vec Ideal S1x1x1x16 .f32) (r : Fin 16) :
    Fin 16 → EReal := fun x =>
  (∑ i : Fin 64, q (ix2 r (f i)) * k (ix2 x (f i))) * Ideal.ofBits FTy.f32 0x3E000000#32 + b (ix4 0 0 0 x)

/-- The softmax mean the kernel computes, divided once. -/
def mean (s v : Fin 16 → EReal) : EReal :=
  Ideal.div (∑ x, Ideal.exp (s x - Finset.univ.fold max ⊥ s) * v x) (∑ y, Ideal.exp (s y - Finset.univ.fold max ⊥ s))

/-- The lanes below 64 are the first head's, -/
theorem low : ∀ x : Fin 128, IntOp.andi (IntOp.cmpi CmpIPredicate.sge (BitVec.ofNat 32 x.val) 0#32)
    (IntOp.cmpi CmpIPredicate.slt (BitVec.ofNat 32 x.val) 64#32) = if x.val < 64 then 1#1 else 0#1 := by decide +kernel

/-- the others the second's, -/
theorem high : ∀ x : Fin 128, IntOp.andi (IntOp.cmpi CmpIPredicate.sge (BitVec.ofNat 32 x.val) 64#32)
    (IntOp.cmpi CmpIPredicate.slt (BitVec.ofNat 32 x.val) 128#32) = if x.val < 64 then 0#1 else 1#1 := by decide +kernel

/-- and so are the lanes of the result. -/
theorem side : ∀ x : Fin 128, IntOp.cmpi CmpIPredicate.slt (BitVec.ofNat 32 x.val) 64#32
    = if x.val < 64 then 1#1 else 0#1 := by decide +kernel

/-- What the body computes for token `r` and lane `l`. -/
theorem pay_eq (q k v g : Vec Ideal S16x128 .f32) (b0 b1 : Vec Ideal S1x1x1x16 .f32) (r : Fin 16) (l : Fin 128) :
    k0_pay1 (iota .tc S16x128 32 [1] iota_S16x128_d1_w32) q (k0_pay2 k) (k0_pay3 v) (k0_pay4 q k v b0) k0_pay5
        (k0_pay6 (F := Ideal)) b1 g (ix2 r l)
      = (if l.val < 64 then mean (bscore (fun i => ⟨i.val, by omega⟩) q k b0 r) (fun x => v (ix2 x l))
          else mean (bscore (fun i => ⟨64 + i.val, by omega⟩) q k b1 r) (fun x => v (ix2 x l)))
        * (g (ix2 r l) * Ideal.logistic (g (ix2 r l))) := by
  pointwise [k0_pay1, k0_pay2, k0_pay3, k0_pay4, k0_pay5, k0_pay6]
  simp only [lanes_low _ _ low, lanes_high _ _ high, ninf]
  simp only [side, select_bit]
  rfl

variable (m : (ℓ : Loc nD τ sig) → Buf (Elt Ideal) ℓ)

/-- Each window holds the columns of heads `2t` and `2t + 1` at grid point `t`. -/
theorem idx : ∀ t : Fin cfg0.N, win0_0.index t = ![0, 48 + t.val] ∧ win0_1.index t = ![0, 56 + t.val]
    ∧ win0_2.index t = ![0, 64 + t.val] ∧ win0_3.index t = ![t.val, 0, 0, 0] ∧ win0_4.index t = ![0, 72 + t.val]
    ∧ win0_5.index t = ![0, t.val] :=
  (by decide +kernel : ∀ t : Fin grid0.N, _)

/-- The queries' window at grid point `t`, -/
theorem q_at (c : Dev nD) (t : Fin cfg0.N) (r : Fin 16) (l : Fin 128) : iblk m c 0 t (ix2 r l)
    = (m ((c : Thread nD τ).loc main_arg0) : Vec Ideal S16400x16384 .f32)
      (ix2 ⟨r.val, by omega⟩ ⟨6144 + (128 * t.val + l.val), by have : t.val < 8 := t.isLt; omega⟩) := by
  blk_point [iblk, V, idx t]

/-- the keys', -/
theorem k_at (c : Dev nD) (t : Fin cfg0.N) (r : Fin 16) (l : Fin 128) : iblk m c 1 t (ix2 r l)
    = (m ((c : Thread nD τ).loc main_arg0) : Vec Ideal S16400x16384 .f32)
      (ix2 ⟨r.val, by omega⟩ ⟨7168 + (128 * t.val + l.val), by have : t.val < 8 := t.isLt; omega⟩) := by
  blk_point [iblk, V, idx t]

/-- the values' -/
theorem v_at (c : Dev nD) (t : Fin cfg0.N) (r : Fin 16) (l : Fin 128) : iblk m c 2 t (ix2 r l)
    = (m ((c : Thread nD τ).loc main_arg0) : Vec Ideal S16400x16384 .f32)
      (ix2 ⟨r.val, by omega⟩ ⟨8192 + (128 * t.val + l.val), by have : t.val < 8 := t.isLt; omega⟩) := by
  blk_point [iblk, V, idx t]

/-- and the gates'. -/
theorem g_at (c : Dev nD) (t : Fin cfg0.N) (r : Fin 16) (l : Fin 128) : iblk m c 4 t (ix2 r l)
    = (m ((c : Thread nD τ).loc main_arg0) : Vec Ideal S16400x16384 .f32)
      (ix2 ⟨r.val, by omega⟩ ⟨9216 + (128 * t.val + l.val), by have : t.val < 8 := t.isLt; omega⟩) := by
  blk_point [iblk, V, idx t]

/-- The bias operand: two heads a block, their sixteen keys' biases on eight equal sublanes. -/
theorem bias (c : Dev nD) (h : Fin 8) (a : Fin 2) (b : Fin 8) (x : Fin 16) : (V m c main_v1 : Vec Ideal S8x2x8x16 .f32) (ix4 h a b x)
    = (m ((c : Thread nD τ).loc main_arg1) : Vec Ideal S16x16 .f32) (ix2 ⟨h.val * 2 + a.val, by omega⟩ x) := by
  unfold V
  entry_read
  pointwise

/-- The biases' window: at point `t`, its rows `2t` and `2t + 1`. -/
theorem b_at (c : Dev nD) (t : Fin cfg0.N) (a : Fin 2) (x : Fin 16) :
    (iblk m c 3 t : Vec Ideal S1x2x8x16 .f32) (ix4 0 a 0 x)
      = (m ((c : Thread nD τ).loc main_arg1) : Vec Ideal S16x16 .f32)
        (ix2 ⟨t.val * 2 + a.val, by have : t.val < 8 := t.isLt; omega⟩ x) := by
  refine Eq.trans ?_ (bias m c ⟨t.val, t.isLt⟩ a 0 x)
  unfold iblk
  refine congrArg (V m c main_v1 : Vec Ideal S8x2x8x16 .f32) (funext fun d => Fin.ext ((win0_3.rect_emb_val t _ d).trans ?_))
  rw [(idx t).2.2.2.1]
  match d with
  | ⟨0, _⟩ => show t.val * 1 + 0 = t.val; omega
  | ⟨1, _⟩ => show 0 * 2 + a.val = a.val; omega
  | ⟨2, _⟩ => show 0 * 8 + 0 = 0; omega
  | ⟨3, _⟩ => show 0 * 16 + x.val = x.val; omega

/-- The first head's row of the block of biases, -/
theorem ld0 (B : Vec Ideal S1x2x8x16 .f32) (x : Fin 16) : View.ld B r0_1 (ix4 0 0 0 x) = B (ix4 0 0 0 x) := by
  refine congrArg B (funext fun d => Fin.ext ?_)
  match d with
  | ⟨0, _⟩ => rfl
  | ⟨1, _⟩ => rfl
  | ⟨2, _⟩ => rfl
  | ⟨3, _⟩ => first | (show 0 + 1 * x.val = x.val; omega) | (show 0 + x.val = x.val; omega) | rfl

/-- and the second's. -/
theorem ld1 (B : Vec Ideal S1x2x8x16 .f32) (x : Fin 16) : View.ld B r0_2 (ix4 0 0 0 x) = B (ix4 0 1 0 x) := by
  refine congrArg B (funext fun d => Fin.ext ?_)
  match d with
  | ⟨0, _⟩ => rfl
  | ⟨1, _⟩ => rfl
  | ⟨2, _⟩ => rfl
  | ⟨3, _⟩ => first | (show 0 + 1 * x.val = x.val; omega) | (show 0 + x.val = x.val; omega) | rfl

/-- The biases of the first head. -/
theorem b_at0 (c : Dev nD) (t : Fin cfg0.N) (x : Fin 16) : View.ld (iblk m c 3 t) r0_1 (ix4 0 0 0 x)
    = (m ((c : Thread nD τ).loc main_arg1) : Vec Ideal S16x16 .f32)
      (ix2 ⟨t.val * 2 + 0, by have : t.val < 8 := t.isLt; omega⟩ x) :=
  (ld0 (iblk m c 3 t) x).trans (b_at m c t 0 x)

/-- The biases of the second head. -/
theorem b_at1 (c : Dev nD) (t : Fin cfg0.N) (x : Fin 16) : View.ld (iblk m c 3 t) r0_2 (ix4 0 0 0 x)
    = (m ((c : Thread nD τ).loc main_arg1) : Vec Ideal S16x16 .f32)
      (ix2 ⟨t.val * 2 + 1, by have : t.val < 8 := t.isLt; omega⟩ x) :=
  (ld1 (iblk m c 3 t) x).trans (b_at m c t 1 x)

/-- Where the stored block sits in the result. -/
theorem out_at (G : Vec Ideal S16x1024 .bf16) (t : Fin cfg0.N) (r : Fin 16) (l : Fin 128) :
    G (((cfg0.win 5).blk t).view.emb (ix2 r l : S16x128.Idx))
      = G (ix2 r ⟨128 * t.val + l.val, by have : t.val < 8 := t.isLt; omega⟩) := by
  refine congrArg G (funext fun a => Fin.ext ((win0_5.rect_emb_val t _ a).trans ?_))
  rw [(idx t).2.2.2.2.2]
  match a with
  | ⟨0, _⟩ => show 0 * 16 + r.val = r.val; omega
  | ⟨1, _⟩ => show t.val * 128 + l.val = 128 * t.val + l.val; omega

/-- The first head's scores in the block are head `2t`'s, -/
theorem scores_low (c : Dev nD) (t : Fin cfg0.N) (r : Fin 16) (h : Fin 16) (hh : h.val = t.val * 2) :
    bscore (fun i => ⟨i.val, by omega⟩) (iblk m c 0 t) (iblk m c 1 t) (View.ld (iblk m c 3 t) r0_1) r
      = score (m ((c : Thread nD τ).loc main_arg0)) (m ((c : Thread nD τ).loc main_arg1)) h r := by
  funext x
  have e (k : Fin 64) : 128 * t.val + k.val = h.val * 64 + k.val := by omega
  simp only [bscore, score, q_at, k_at, b_at0, e, ← hh, add_zero]

/-- the second's head `2t + 1`'s. -/
theorem scores_high (c : Dev nD) (t : Fin cfg0.N) (r : Fin 16) (h : Fin 16) (hh : h.val = t.val * 2 + 1) :
    bscore (fun i => ⟨64 + i.val, by omega⟩) (iblk m c 0 t) (iblk m c 1 t) (View.ld (iblk m c 3 t) r0_2) r
      = score (m ((c : Thread nD τ).loc main_arg0)) (m ((c : Thread nD τ).loc main_arg1)) h r := by
  funext x
  have e (k : Fin 64) : 128 * t.val + (64 + k.val) = h.val * 64 + k.val := by omega
  simp only [bscore, score, q_at, k_at, b_at1, e, ← hh]

/-- What the body stores at block index `y` of grid point `t` is the reference's value where `y` sits in the array. -/
theorem point (c : Dev nD) (hf : Real (m ((c : Thread nD τ).loc main_arg0)) (m ((c : Thread nD τ).loc main_arg1)))
    (t : Fin cfg0.N) (y : S16x128.Idx) :
    k0_pay1 (iota .tc S16x128 32 [1] iota_S16x128_d1_w32) (iblk m c 0 t) (k0_pay2 (iblk m c 1 t)) (k0_pay3 (iblk m c 2 t))
        (k0_pay4 (iblk m c 0 t) (iblk m c 1 t) (iblk m c 2 t) (View.ld (iblk m c 3 t) r0_1)) k0_pay5
        (k0_pay6 (F := Ideal)) (View.ld (iblk m c 3 t) r0_2) (iblk m c 4 t) y
      = Cert.NaMetaRefIdeal.Read.val_main_v32 (F := Ideal) (m ((c : Thread nD τ).loc main_arg0))
          (m ((c : Thread nD τ).loc main_arg1)) (((cfg0.win 5).blk t).view.emb y) := by
  idx_vars y
  rw [pay_eq]
  have ht : t.val < 8 := t.isLt
  rw [out_at (Cert.NaMetaRefIdeal.Read.val_main_v32 (F := Ideal) _ _), ref_eq]
  simp only [v_at, g_at]
  refine congrArg (· * _) ?_
  split
  · rename_i hl
    rw [scores_low m c t y0 ⟨(128 * t.val + y1.val) / 64, by omega⟩ (by show _ / 64 = _; omega)]
    exact attend_eq _ _ (score_fi _ _ hf _ _)
  · rename_i hl
    rw [scores_high m c t y0 ⟨(128 * t.val + y1.val) / 64, by omega⟩ (by show _ / 64 = _; omega)]
    exact attend_eq _ _ (score_fi _ _ hf _ _)

/-- The result array after the run is the reference's term of the kernel's arguments. -/
theorem final (c : Dev nD) (hf : Real (m ((c : Thread nD τ).loc main_arg0)) (m ((c : Thread nD τ).loc main_arg1))) :
    (dats m 0 c).arrAt 5 cfg0.N = Cert.NaMetaRefIdeal.Read.val_main_v32 (F := Ideal) (m ((c : Thread nD τ).loc main_arg0))
      (m ((c : Thread nD τ).loc main_arg1)) := by
  refine (dats m 0 c).arrAt_eq_of_covers 5 _ (by decide +kernel) fun t _ y => ?_
  blk_simp
  rw [after0_5]
  frame_out
  exact point m c hf t y

end Cert.NaMetaIdeal.Final

namespace Cert.Pre_na_meta_real

open Idealize.ShloMosaic Cert.Attend

/-- The relations of shapes the precondition takes. -/
theorem facts : Facts where
  slices_S16400x16384_S16x2048_0_6144 := by decide
  bcast_S_S16x2048 := by decide
  reducesTo_S16x2048_S_d0_1 := by decide
  h_S_ := by decide
  bcast_S_S16x16 := by decide
  reducesTo_S16x16_S_d0_1 := by decide

/-- What the precondition says: queries, keys and biases are numbers. -/
theorem real (z : FVec Ideal S16400x16384 .f32) (mb : FVec Ideal S16x16 .f32)
    (h : letI := facts; fn (F := Ideal) z mb = fun _ => 1#1) : Cert.NaMetaRefIdeal.Term.Real z mb := by
  letI := facts
  have h := congrFun h ix0
  simp only [fn] at h
  obtain ⟨h0, h1⟩ := IntOp.andi_eq_one.1 h
  refine ⟨fun r l => ?_, fun r l => ?_⟩
  · have := Host.reduce_andi_all _ _ _ _ _ h0 (ix2 r l)
    refine fi_of_abs _ ?_
    revert this
    pointwise
    exact id
  · have := Host.reduce_andi_all _ _ _ _ _ h1 (ix2 r l)
    refine fi_of_abs _ ?_
    revert this
    pointwise
    exact id

end Cert.Pre_na_meta_real

namespace Cert.Proof.NaMeta

open Idealize.ShloMosaic Idealize.SL.Sem Cert.NaMetaIdeal

/-- The kernel's result is the reference's on every device, when queries, keys and biases are numbers. -/
theorem algebraic : Cert.algebraic_NaMetaIdeal_NaMetaRefIdeal_pre_na_meta_real (hNaMetaIdeal := Cert.NaMetaIdeal.Gen.facts)
    (hNaMetaRefIdeal := Cert.NaMetaRefIdeal.Gen.facts) (hPre_na_meta_real := Cert.Pre_na_meta_real.facts) := by
  intro m ρ m' ρ' hpre hag
  refine ⟨fun c => Cert.NaMetaRefIdeal.Read.val_main_v32 (F := Ideal) (m ((c.tc : Thread nD τ).loc main_arg0))
    (m ((c.tc : Thread nD τ).loc main_arg1)), ?_, ?_⟩
  · exact (θ_run _ _ _).mono (fun _ h c => ⟨(h c).1.trans (Final.final m c (Cert.Pre_na_meta_real.real _ _ (hpre c))), (h c).2⟩)
      (Cert.NaMetaIdeal.Value.run_blocks (F := Ideal) m ρ)
  · refine (θ_run _ _ _).mono (fun _ h c => ⟨(h c).1.trans ?_, (h c).2⟩) (Cert.NaMetaRefIdeal.Value.run (F := Ideal) m' ρ')
    obtain ⟨h0, h1⟩ := hag c
    rw [Cert.NaMetaRefIdeal.Read.val_main_v32_eq, h0, h1]

end Cert.Proof.NaMeta

end
-- ==== Proof.InProj.lean ====
/-
  The input projection: every row of the hidden state divided by its root mean square and scaled by the gain, times the
  projection weights. The kernel forms the normalised rows of a row block once, at the block's first grid point, keeps them
  in a scratch buffer, and multiplies them by one column block of the weights at every point. At the ideal instance it
  leaves the host reference's array.
-/
module

public import proofs.«01_k».proof.Defs
public import proofs.«01_k».proof.Proof.Gen.InProjIdeal.Value
public import proofs.«01_k».proof.Proof.Gen.InProjRefIdeal.Run
public import Idealize.ShloMosaic.Lib.Pipeline.ValueKit
public import Idealize.ShloMosaic.Lib.Pointwise
public import Idealize.ShloMosaic.Lib.Pipeline.ValueKit.Held
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.InProjRefIdeal.Term

open Cert.InProjRefIdeal Cert.InProjRefIdeal.Gen

/-- The reference's term: the normalised rows times the weights. -/
abbrev ref (H : FVec Ideal S16400x2048 .f32) (g : FVec Ideal S2048 .f32) (W : FVec Ideal S2048x16384 .f32) :
    FVec Ideal S16400x16384 .f32 :=
  Host.dotGeneral dot_S16400x2048_S2048x16384_S16400x16384_1_0_0_1_n_n none (mulf (mulf H (broadcastInDim S16400x2048 ![0, 1] bcast_S16400x1_S16400x2048_0_1 (Host.rsqrt (addf (Host.divf (broadcastInDim S16400x1 ![0] bcast_S16400_S16400x1_0 (Host.reduceAdd (mulf H H) (constant S_ .f32 0x00000000#32) reducesTo_S16400x2048_S16400_d1 h_S_)) (broadcastInDim S16400x1 ![] bcast_S_S16400x1 (constant S_ .f32 0x45000000#32))) (broadcastInDim S16400x1 ![] bcast_S_S16400x1 (constant S_ .f32 0x358637BD#32)))))) (broadcastInDim S16400x2048 ![0, 1] bcast_S1x2048_S16400x2048_0_1 (broadcastInDim S1x2048 ![1] bcast_S2048_S1x2048_1 g))) W

end Cert.InProjRefIdeal.Term

namespace Cert.InProjIdeal.Final

open Cert.InProjIdeal Cert.InProjIdeal.Gen
open Cert.InProjRefIdeal.Term (ref)

variable (m : (ℓ : Loc nD τ sig) → Buf (Elt Ideal) ℓ)

/-- Which block of its array each window holds at grid point `t`: row block `t / 16`, column block `t % 16`. -/
theorem idx : ∀ t : Fin cfg0.N, win0_0.index t = ![t.val / 16, 0] ∧ win0_1.index t = ![0, 0]
    ∧ win0_2.index t = ![0, t.val % 16] ∧ win0_3.index t = ![t.val / 16, t.val % 16] :=
  (by decide +kernel : ∀ t : Fin grid0.N, _)

/-- The weights the windows read are the argument's: a change of format is the identity here. -/
theorem weights (c : Dev nD) : V m c main_v0 = m ((c : Thread nD τ).loc main_arg2) := by
  entry_read
  rfl

/-- The scratch buffer after point `t` holds the normalised rows that the first point of `t`'s run of 16 stored. -/
theorem held (c : Dev nD) (t : Fin cfg0.N) : (outsAt0 m c t.val t.isLt).2
    = k0_pay1 (iblk m c 0 ⟨16 * (t.val / 16), Pipeline.run_start_lt t⟩)
        (iblk m c 1 ⟨16 * (t.val / 16), Pipeline.run_start_lt t⟩) := by
  refine Pipeline.eq_of_write_hold (fun n h => (outsAt0 m c n h).2) 16
    (fun t => k0_pay1 (iblk m c 0 t) (iblk m c 1 t)) (fun t h => ?_) (fun t h => ?_) t
  · rw [outsAt0_A m c t h]
    frame_out
  · rw [outsAt0_B m c t h]
    rfl

/-- What a point stores: the normalised rows of its row block times its column block of the weights. -/
theorem stored (c : Dev nD) (t : Fin cfg0.N) : (outsAt0 m c t.val t.isLt).1
    = k0_pay2 (k0_pay1 (iblk m c 0 ⟨16 * (t.val / 16), Pipeline.run_start_lt t⟩)
        (iblk m c 1 ⟨16 * (t.val / 16), Pipeline.run_start_lt t⟩)) (iblk m c 2 t) := by
  by_cases h : t.val % 16 = 0
  · have e : (⟨16 * (t.val / 16), Pipeline.run_start_lt t⟩ : Fin cfg0.N) = t := Fin.ext (by dsimp only; omega)
    rw [e, outsAt0_A m c t h]
    frame_out
  · have hp := held m c ⟨t.val - 1, Nat.lt_of_le_of_lt (Nat.sub_le _ _) t.isLt⟩
    have e : (⟨16 * ((t.val - 1) / 16), Pipeline.run_start_lt ⟨t.val - 1, Nat.lt_of_le_of_lt (Nat.sub_le _ _) t.isLt⟩⟩ : Fin cfg0.N)
        = ⟨16 * (t.val / 16), Pipeline.run_start_lt t⟩ := Fin.ext (by dsimp only; omega)
    dsimp only at hp
    rw [e] at hp
    rw [outsAt0_B m c t h, ← hp]
    frame_out
    simp only [read_unread_whole]

/-- What the body stores at block index `y` of grid point `t` is the reference's value where `y` sits in the array. -/
theorem point (c : Dev nD) (t : Fin cfg0.N) (y) : k0_pay2 (k0_pay1 (iblk m c 0 ⟨16 * (t.val / 16), Pipeline.run_start_lt t⟩)
    (iblk m c 1 ⟨16 * (t.val / 16), Pipeline.run_start_lt t⟩)) (iblk m c 2 t) y
    = ref (m ((c : Thread nD τ).loc main_arg0)) (m ((c : Thread nD τ).loc main_arg1)) (m ((c : Thread nD τ).loc main_arg2))
        (((cfg0.win 3).blk t).view.emb y) := by
  rw [← weights m c]
  pointwise [k0_pay2, k0_pay1, ref]
  blk_point [iblk, V, idx t, idx ⟨16 * (t.val / 16), Pipeline.run_start_lt t⟩]

/-- The result array after the run is the reference's term of the kernel's arguments. -/
theorem final (c : Dev nD) : (dats m 0 c).arrAt 3 cfg0.N
    = ref (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3, stored]
  exact point m c t y

end Cert.InProjIdeal.Final

namespace Cert.Proof.InProj

/-- At the ideal instance the input projection kernel and its reference leave the same array. -/
theorem algebraic : Cert.algebraic_InProjIdeal_InProjRefIdeal (hInProjIdeal := Cert.InProjIdeal.Gen.facts)
    (hInProjRefIdeal := Cert.InProjRefIdeal.Gen.facts) := by
  intro m ρ m' ρ' _ hag
  refine ⟨fun c => Cert.InProjRefIdeal.Term.ref (m ((c.tc : Thread _ _).loc Cert.InProjIdeal.main_arg0)) (m ((c.tc : Thread _ _).loc Cert.InProjIdeal.main_arg1)) (m ((c.tc : Thread _ _).loc Cert.InProjIdeal.main_arg2)), ?_, ?_⟩
  · exact (θ_run _ _ _).mono (fun _ h c => ⟨(h c).1.trans (Cert.InProjIdeal.Final.final m c), (h c).2⟩)
      (Cert.InProjIdeal.Value.run_blocks (F := Ideal) m ρ)
  · refine (θ_run _ _ _).mono (fun _ h c => ⟨(h c).1.trans ?_, (h c).2⟩)
      (Cert.InProjRefIdeal.Value.run (F := Ideal) m' ρ')
    obtain ⟨h0, h1, h2⟩ := hag c
    rw [h0, h1, h2]

end Cert.Proof.InProj

end
-- ==== Proof.Merge.lean ====
/-
  The gated merge of the three branches: each branch's stream (two of them still to be multiplied by the SiLU of their
  gate) times its weights, weighted by the sigmoid of its merge gate, and summed. At the ideal instance the tiled kernel
  leaves the host reference's array.
-/
module

public import proofs.«01_k».proof.Defs
public import proofs.«01_k».proof.Proof.Gen.MergeIdeal.Value
public import proofs.«01_k».proof.Proof.Gen.MergeRefIdeal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.MergeRefIdeal.Term

open Cert.MergeRefIdeal Cert.MergeRefIdeal.Gen

/-- The reference's term: the three gated products summed. -/
abbrev ref (Ya : FVec Ideal S16400x1024 .f32) (Yb : FVec Ideal S16400x1024 .f32) (Yc : FVec Ideal S16400x1024 .bf16) (Wa : FVec Ideal S1024x2048 .f32) (Wb : FVec Ideal S1024x2048 .f32) (Wc : FVec Ideal S1024x2048 .f32) (Z : FVec Ideal S16400x16384 .f32) :
    FVec Ideal S16400x2048 .bf16 :=
  truncf .bf16 (addf (addf (mulf (extractStridedSlice S16400x2048 ![0, 0] (Host.divf (broadcastInDim S16400x6144 ![] bcast_S_S16400x6144 (constant S_ .f32 0x3F800000#32)) (addf (broadcastInDim S16400x6144 ![] bcast_S_S16400x6144 (constant S_ .f32 0x3F800000#32)) (Host.exp (Host.negf (extractStridedSlice S16400x6144 ![0, 10240] Z slices_S16400x16384_S16400x6144_0_10240))))) slices_S16400x6144_S16400x2048_0_0) (Host.dotGeneral dot_S16400x1024_S1024x2048_S16400x2048_1_0_0_1_n_n none (mulf Ya (mulf (extractStridedSlice S16400x1024 ![0, 3072] Z slices_S16400x16384_S16400x1024_0_3072) (Host.divf (broadcastInDim S16400x1024 ![] bcast_S_S16400x1024 (constant S_ .f32 0x3F800000#32)) (addf (broadcastInDim S16400x1024 ![] bcast_S_S16400x1024 (constant S_ .f32 0x3F800000#32)) (Host.exp (Host.negf (extractStridedSlice S16400x1024 ![0, 3072] Z slices_S16400x16384_S16400x1024_0_3072))))))) Wa)) (mulf (extractStridedSlice S16400x2048 ![0, 2048] (Host.divf (broadcastInDim S16400x6144 ![] bcast_S_S16400x6144 (constant S_ .f32 0x3F800000#32)) (addf (broadcastInDim S16400x6144 ![] bcast_S_S16400x6144 (constant S_ .f32 0x3F800000#32)) (Host.exp (Host.negf (extractStridedSlice S16400x6144 ![0, 10240] Z slices_S16400x16384_S16400x6144_0_10240))))) slices_S16400x6144_S16400x2048_0_2048) (Host.dotGeneral dot_S16400x1024_S1024x2048_S16400x2048_1_0_0_1_n_n none (mulf Yb (mulf (extractStridedSlice S16400x1024 ![0, 5120] Z slices_S16400x16384_S16400x1024_0_5120) (Host.divf (broadcastInDim S16400x1024 ![] bcast_S_S16400x1024 (constant S_ .f32 0x3F800000#32)) (addf (broadcastInDim S16400x1024 ![] bcast_S_S16400x1024 (constant S_ .f32 0x3F800000#32)) (Host.exp (Host.negf (extractStridedSlice S16400x1024 ![0, 5120] Z slices_S16400x16384_S16400x1024_0_5120))))))) Wb))) (mulf (extractStridedSlice S16400x2048 ![0, 4096] (Host.divf (broadcastInDim S16400x6144 ![] bcast_S_S16400x6144 (constant S_ .f32 0x3F800000#32)) (addf (broadcastInDim S16400x6144 ![] bcast_S_S16400x6144 (constant S_ .f32 0x3F800000#32)) (Host.exp (Host.negf (extractStridedSlice S16400x6144 ![0, 10240] Z slices_S16400x16384_S16400x6144_0_10240))))) slices_S16400x6144_S16400x2048_0_4096) (Host.dotGeneral dot_S16400x1024_S1024x2048_S16400x2048_1_0_0_1_n_n none (extf .f32 Yc bitsLt_bf16_f32) Wc))) bitsLt_bf16_f32

end Cert.MergeRefIdeal.Term

namespace Cert.MergeIdeal.Final

open Cert.MergeIdeal Cert.MergeIdeal.Gen
open Cert.MergeRefIdeal.Term (ref)

variable (m : (ℓ : Loc nD τ sig) → Buf (Elt Ideal) ℓ)

/-- Which block of its array each window holds at grid point `t`: row block `t / 4`, column block `t % 4`; the gates'
    columns begin at 3072, 5120, 10240, 12288 and 14336. -/
theorem idx : ∀ t : Fin cfg0.N, win0_0.index t = ![t.val / 4, 0] ∧ win0_1.index t = ![t.val / 4, 0]
    ∧ win0_2.index t = ![t.val / 4, 0] ∧ win0_3.index t = ![t.val / 4, 3] ∧ win0_4.index t = ![t.val / 4, 5]
    ∧ win0_5.index t = ![0, t.val % 4] ∧ win0_6.index t = ![0, t.val % 4] ∧ win0_7.index t = ![0, t.val % 4]
    ∧ win0_8.index t = ![t.val / 4, 20 + t.val % 4] ∧ win0_9.index t = ![t.val / 4, 24 + t.val % 4]
    ∧ win0_10.index t = ![t.val / 4, 28 + t.val % 4] ∧ win0_11.index t = ![t.val / 4, t.val % 4] :=
  (by decide +kernel : ∀ t : Fin grid0.N, _)

/-- The first weights the windows read are the argument's: a change of format is the identity here. -/
theorem weights_a (c : Dev nD) : V m c main_v0 = m ((c : Thread nD τ).loc main_arg3) := by
  entry_read
  rfl

/-- The second weights likewise, -/
theorem weights_b (c : Dev nD) : V m c main_v1 = m ((c : Thread nD τ).loc main_arg4) := by
  entry_read
  rfl

/-- and the third. -/
theorem weights_c (c : Dev nD) : V m c main_v2 = m ((c : Thread nD τ).loc main_arg5) := by
  entry_read
  rfl

/-- What the body stores at block index `y` of grid point `t` is the reference's value where `y` sits in the array. -/
theorem point (c : Dev nD) (t : Fin cfg0.N) (y) : k0_pay1  (k0_pay2 (iblk m c 8 t) (iblk m c 0 t) (iblk m c 3 t) (iblk m c 5 t) (iblk m c 9 t) (iblk m c 1 t) (iblk m c 4 t) (iblk m c 6 t) (iblk m c 10 t) (iblk m c 2 t) (iblk m c 7 t)) y
    = ref (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
        (((cfg0.win 11).blk t).view.emb y) := by
  rw [← weights_a m c, ← weights_b m c, ← weights_c m c]
  pointwise [k0_pay1, k0_pay2, ref]
  simp only [Ideal.logistic]
  blk_point [iblk, V, idx t]

/-- The result array after the run is the reference's term of the kernel's arguments. -/
theorem final (c : Dev nD) : (dats m 0 c).arrAt 11 cfg0.N
    = ref (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 11 _ (by decide +kernel) fun t _ y => ?_
  blk_simp
  rw [after0_11]
  frame_out
  exact point m c t y

end Cert.MergeIdeal.Final

namespace Cert.Proof.Merge

/-- At the ideal instance the merge kernel and its reference leave the same array. -/
theorem algebraic : Cert.algebraic_MergeIdeal_MergeRefIdeal (hMergeIdeal := Cert.MergeIdeal.Gen.facts)
    (hMergeRefIdeal := Cert.MergeRefIdeal.Gen.facts) := by
  intro m ρ m' ρ' _ hag
  refine ⟨fun c => Cert.MergeRefIdeal.Term.ref (m ((c.tc : Thread _ _).loc Cert.MergeIdeal.main_arg0)) (m ((c.tc : Thread _ _).loc Cert.MergeIdeal.main_arg1)) (m ((c.tc : Thread _ _).loc Cert.MergeIdeal.main_arg2)) (m ((c.tc : Thread _ _).loc Cert.MergeIdeal.main_arg3)) (m ((c.tc : Thread _ _).loc Cert.MergeIdeal.main_arg4)) (m ((c.tc : Thread _ _).loc Cert.MergeIdeal.main_arg5)) (m ((c.tc : Thread _ _).loc Cert.MergeIdeal.main_arg6)), ?_, ?_⟩
  · exact (θ_run _ _ _).mono (fun _ h c => ⟨(h c).1.trans (Cert.MergeIdeal.Final.final m c), (h c).2⟩)
      (Cert.MergeIdeal.Value.run_blocks (F := Ideal) m ρ)
  · refine (θ_run _ _ _).mono (fun _ h c => ⟨(h c).1.trans ?_, (h c).2⟩)
      (Cert.MergeRefIdeal.Value.run (F := Ideal) m' ρ')
    obtain ⟨h0, h1, h2, h3, h4, h5, h6⟩ := hag c
    rw [h0, h1, h2, h3, h4, h5, h6]

end Cert.Proof.Merge

end
-- ==== Proof.OutProj.lean ====
/-
  The output projection `H + m · W_out`: the tiled kernel leaves, at the ideal instance, exactly the matrix product
  plus residual that the host reference computes.
-/
module

public import proofs.«01_k».proof.Defs
public import proofs.«01_k».proof.Proof.Gen.OutProjIdeal.Value
public import proofs.«01_k».proof.Proof.Gen.OutProjRefIdeal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.OutProjIdeal.Final

open Cert.OutProjIdeal Cert.OutProjIdeal.Gen

variable (m : (ℓ : Loc nD τ sig) → Buf (Elt Ideal) ℓ)

/-- The reference's term: the residual stream plus the merged streams times the output weights. -/
abbrev ref (H : FVec Ideal S16400x2048 .f32) (M : FVec Ideal S16400x2048 .bf16) (W : FVec Ideal S2048x2048 .f32) :
    FVec Ideal S16400x2048 .f32 :=
  addf H (Host.dotGeneral Cert.OutProjRefIdeal.dot_S16400x2048_S2048x2048_S16400x2048_1_0_0_1_n_n none
    (extf .f32 M Cert.OutProjRefIdeal.Gen.bitsLt_bf16_f32) W)

/-- Which block of its array each window holds at grid point `t`: row block `t / 2`, column block `t % 2`. -/
theorem idx : ∀ t : Fin cfg0.N, win0_0.index t = ![t.val / 2, t.val % 2] ∧ win0_1.index t = ![t.val / 2, 0]
    ∧ win0_2.index t = ![0, t.val % 2] ∧ win0_3.index t = ![t.val / 2, t.val % 2] :=
  (by decide +kernel : ∀ t : Fin grid0.N, _)

/-- The weights the kernel's windows read are the argument's, since a change of format is the identity here. -/
theorem weights (c : Dev nD) : V m c main_v0 = m ((c : Thread nD τ).loc main_arg2) := by
  entry_read
  rfl

/-- What the body stores at block index `y` of grid point `t` is the reference's value where `y` sits in the array. -/
theorem point (c : Dev nD) (t : Fin cfg0.N) (y) : k0_pay1 (iblk m c 0 t) (iblk m c 1 t) (iblk m c 2 t) y
    = ref (m ((c : Thread nD τ).loc main_arg0)) (m ((c : Thread nD τ).loc main_arg1))
        (m ((c : Thread nD τ).loc main_arg2)) (((cfg0.win 3).blk t).view.emb y) := by
  rw [← weights m c]
  pointwise [k0_pay1, ref]
  blk_point [iblk, V, idx t]

/-- The result array after the run is the reference's term of the kernel's arguments. -/
theorem final (c : Dev nD) : (dats m 0 c).arrAt 3 cfg0.N
    = ref (m ((c : Thread nD τ).loc main_arg0)) (m ((c : Thread nD τ).loc main_arg1))
        (m ((c : Thread nD τ).loc main_arg2)) := by
  refine (dats m 0 c).arrAt_eq_of_covers 3 _ (by decide +kernel) fun t _ y => ?_
  blk_simp
  rw [after0_3]
  frame_out
  exact point m c t y

end Cert.OutProjIdeal.Final

namespace Cert.Proof.OutProj

/-- At the ideal instance the output projection kernel and its reference leave the same array. -/
theorem algebraic : Cert.algebraic_OutProjIdeal_OutProjRefIdeal (hOutProjIdeal := Cert.OutProjIdeal.Gen.facts)
    (hOutProjRefIdeal := Cert.OutProjRefIdeal.Gen.facts) := by
  intro m ρ m' ρ' _ hag
  refine ⟨fun c => Cert.OutProjIdeal.Final.ref (m ((c.tc : Thread _ _).loc Cert.OutProjIdeal.main_arg0))
      (m ((c.tc : Thread _ _).loc Cert.OutProjIdeal.main_arg1)) (m ((c.tc : Thread _ _).loc Cert.OutProjIdeal.main_arg2)), ?_, ?_⟩
  · exact (θ_run _ _ _).mono (fun _ h c => ⟨(h c).1.trans (Cert.OutProjIdeal.Final.final m c), (h c).2⟩)
      (Cert.OutProjIdeal.Value.run_blocks (F := Ideal) m ρ)
  · refine (θ_run _ _ _).mono (fun _ h c => ⟨(h c).1.trans ?_, (h c).2⟩)
      (Cert.OutProjRefIdeal.Value.run (F := Ideal) m' ρ')
    obtain ⟨h0, h1, h2⟩ := hag c
    rw [h0, h1, h2]

end Cert.Proof.OutProj

end
-- ==== Proof.FinalNorm.lean ====
/-
  The final normalisation: every row of the hidden state behind the 16 leading rows, divided by its root mean square and
  scaled. The kernel's result array is, at the ideal instance, the host reference's.
-/
module

public import proofs.«01_k».proof.Defs
public import proofs.«01_k».proof.Proof.Gen.FinalNormIdeal.Value
public import proofs.«01_k».proof.Proof.Gen.FinalNormRefIdeal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.FinalNormIdeal.Final

open Cert.FinalNormIdeal Cert.FinalNormIdeal.Gen

variable (m : (ℓ : Loc nD τ sig) → Buf (Elt Ideal) ℓ)

open Cert.FinalNormRefIdeal Cert.FinalNormRefIdeal.Gen in
/-- The reference's term: each row scaled by the reciprocal root of its mean square and by the gain, the first 16 rows
    left off. -/
abbrev ref (H : FVec Ideal S16400x2048 .f32) (g : FVec Ideal S2048 .f32) : FVec Ideal S16384x2048 .f32 :=
  extractStridedSlice S16384x2048 ![16, 0] (mulf (mulf H (broadcastInDim S16400x2048 ![0, 1] bcast_S16400x1_S16400x2048_0_1 (Host.rsqrt (addf (Host.divf (broadcastInDim S16400x1 ![0] bcast_S16400_S16400x1_0 (Host.reduceAdd (mulf H H) (constant S_ .f32 0x00000000#32) reducesTo_S16400x2048_S16400_d1 h_S_)) (broadcastInDim S16400x1 ![] bcast_S_S16400x1 (constant S_ .f32 0x45000000#32))) (broadcastInDim S16400x1 ![] bcast_S_S16400x1 (constant S_ .f32 0x358637BD#32)))))) (broadcastInDim S16400x2048 ![0, 1] bcast_S1x2048_S16400x2048_0_1 (broadcastInDim S1x2048 ![1] bcast_S2048_S1x2048_1 g))) slices_S16400x2048_S16384x2048_16_0

/-- Where each window's block begins at grid point `t`: the input window by elements, 16 rows down. -/
theorem idx : ∀ t : Fin cfg0.N, win0_0.index t = ![16 + 512 * t.val, 0] ∧ win0_1.index t = ![0, 0]
    ∧ win0_2.index t = ![t.val, 0] :=
  (by decide +kernel : ∀ t : Fin grid0.N, _)

/-- Window 0 is placed by elements: its block's index `y` sits at the block's first element plus `y`. -/
theorem emb0 (t : Fin cfg0.N) (y : S512x2048.Idx) (a : Fin 2) :
    ((((View.whole main_arg0).slice (win0_0.rect t)).emb y a : Fin _) : ℕ) = win0_0.index t a + (y a : ℕ) :=
  win0_0.rect_emb_val_off t y a

/-- What the body stores at block index `y` of grid point `t` is the reference's value where `y` sits in the array. -/
theorem point (c : Dev nD) (t : Fin cfg0.N) (y) : k0_pay1 (iblk m c 0 t) (iblk m c 1 t) y
    = ref (m ((c : Thread nD τ).loc main_arg0)) (m ((c : Thread nD τ).loc main_arg1))
        (((cfg0.win 2).blk t).view.emb y) := by
  pointwise [k0_pay1, ref]
  blk_point [iblk, V, idx t] <;>
    (refine (emb0 t _ _).trans ?_
     rw [(idx t).1]
     first | exact Nat.zero_add _ | (show 16 + 512 * t.val + (y 0 : ℕ) = 16 + (t.val * 512 + (y 0 : ℕ)); omega))

/-- The result array after the run is the reference's term of the kernel's arguments. -/
theorem final (c : Dev nD) : (dats m 0 c).arrAt 2 cfg0.N
    = ref (m ((c : Thread nD τ).loc main_arg0)) (m ((c : Thread nD τ).loc main_arg1)) := by
  refine (dats m 0 c).arrAt_eq_of_covers 2 _ (by decide +kernel) fun t _ y => ?_
  blk_simp
  rw [after0_2]
  frame_out
  exact point m c t y

end Cert.FinalNormIdeal.Final

namespace Cert.Proof.FinalNorm

/-- At the ideal instance the final normalisation kernel and its reference leave the same array. -/
theorem algebraic : Cert.algebraic_FinalNormIdeal_FinalNormRefIdeal (hFinalNormIdeal := Cert.FinalNormIdeal.Gen.facts)
    (hFinalNormRefIdeal := Cert.FinalNormRefIdeal.Gen.facts) := by
  intro m ρ m' ρ' _ hag
  refine ⟨fun c => Cert.FinalNormIdeal.Final.ref (m ((c.tc : Thread _ _).loc Cert.FinalNormIdeal.main_arg0))
      (m ((c.tc : Thread _ _).loc Cert.FinalNormIdeal.main_arg1)), ?_, ?_⟩
  · exact (θ_run _ _ _).mono (fun _ h c => ⟨(h c).1.trans (Cert.FinalNormIdeal.Final.final m c), (h c).2⟩)
      (Cert.FinalNormIdeal.Value.run_blocks (F := Ideal) m ρ)
  · refine (θ_run _ _ _).mono (fun _ h c => ⟨(h c).1.trans ?_, (h c).2⟩)
      (Cert.FinalNormRefIdeal.Value.run (F := Ideal) m' ρ')
    obtain ⟨h0, h1⟩ := hag c
    rw [h0, h1]

end Cert.Proof.FinalNorm

end
-- ==== Proof.ShortConv.lean ====
/-
  The short convolution: every channel of the first 3072 columns convolved over the tokens with three weights, with a row of
  zeros at either end. The kernel rotates a row block by one row down and up, and takes the row that wraps around from an
  eight-row block of the neighbouring rows, or zero at the ends of the array. At the ideal instance it leaves exactly the
  host reference's array.
-/
module

public import proofs.«01_k».proof.Defs
public import proofs.«01_k».proof.Proof.Gen.ShortConvIdeal.Value
public import proofs.«01_k».proof.Proof.Gen.ShortConvRefIdeal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.ShortConvIdeal.Final

open Cert.ShortConvIdeal Cert.ShortConvIdeal.Gen

variable (m : (ℓ : Loc nD τ sig) → Buf (Elt Ideal) ℓ)

/-- The convolution at row `r` and channel `n`: the row above, the row and the row below, each times its weight, plus the
bias. The row above the first and the row below the last are zero. -/
abbrev value (Z : Vec Ideal S16400x16384 .f32) (W : Vec Ideal S3x3072 .f32) (b : Vec Ideal S3072 .f32) (r : Fin 16400)
    (n : Fin 3072) : EReal :=
  (if r.val = 0 then 0 else Z (ix2 ⟨r.val - 1, by omega⟩ ⟨n.val, by omega⟩)) * W (ix2 0 n)
    + Z (ix2 r ⟨n.val, by omega⟩) * W (ix2 1 n)
    + (if h : r.val + 1 < 16400 then Z (ix2 ⟨r.val + 1, h⟩ ⟨n.val, by omega⟩) else 0) * W (ix2 2 n) + b (ix1 n)

/-- The convolution's array. -/
abbrev conv (Z : Vec Ideal S16400x16384 .f32) (W : Vec Ideal S3x3072 .f32) (b : Vec Ideal S3072 .f32) :
    Vec Ideal S16400x3072 .f32 :=
  fun x => value Z W b (x 0) (x 1)

/-- Which block of its array each window holds at grid point `t`: row block `t / 3` and column block `t % 3`, with the eight
rows before and the eight rows after. -/
theorem idx : ∀ t : Fin cfg0.N, win0_0.index t = ![82 * (t.val / 3) - 1, t.val % 3] ∧ win0_1.index t = ![t.val / 3, t.val % 3]
    ∧ win0_2.index t = ![min (82 * (t.val / 3 + 1)) 2049, t.val % 3] ∧ win0_3.index t = ![0, t.val % 3]
    ∧ win0_4.index t = ![0, t.val % 3] ∧ win0_5.index t = ![t.val / 3, t.val % 3]
    ∧ ((grid0.coords t) 0).val = t.val / 3 :=
  (by decide +kernel : ∀ t : Fin grid0.N, _)

/-- A choice by a comparison of two small numbers is the choice by their equality. -/
theorem pick (a b : Nat) (ha : a < 2 ^ 32) (hb : b < 2 ^ 32) (x y : EReal) :
    Scalar.select (IntOp.cmpi CmpIPredicate.eq (BitVec.ofNat 32 a) (BitVec.ofNat 32 b)) x y = if a = b then x else y := by
  have e : (BitVec.ofNat 32 a = BitVec.ofNat 32 b) ↔ a = b := by
    constructor
    · intro h
      have := congrArg BitVec.toNat h
      rwa [BitVec.toNat_ofNat, BitVec.toNat_ofNat, Nat.mod_eq_of_lt ha, Nat.mod_eq_of_lt hb] at this
    · exact fun h => h ▸ rfl
  by_cases h : a = b
  · simp [Scalar.select, IntOp.cmpi, h]
  · have k : (BitVec.ofNat 32 a == BitVec.ofNat 32 b) = false := by
      rw [beq_eq_false_iff_ne]
      exact fun k => h (e.mp k)
    simp [Scalar.select, IntOp.cmpi, h, k]

/-- What the body computes at row `r` and channel `n` of its block, from the block `x`, the rows `p` before and `q` after it,
the three rows of weights and the bias. -/
theorem pay_at (i : grid0.Coords) (x : Vec Ideal S656x1024 .f32) (p q w0 w1 w2 b : Vec Ideal S1x1024 .f32) (r : Fin 656)
    (n : Fin 1024) :
    (k0_pay1 (k0_pay2 i x p q w0 w1 w2) (k0_pay3 b) (ix2 r n) : EReal)
    = (if r.val = 0 then (if (i 0).val = 0 then 0 else p (ix2 0 n)) else x (ix2 ⟨(r.val + 656 - 1) % 656, by omega⟩ n)) * w0 (ix2 0 n)
      + x (ix2 r n) * w1 (ix2 0 n)
      + (if r.val = 655 then (if (i 0).val = 24 then 0 else q (ix2 0 n)) else x (ix2 ⟨(r.val + 656 - 655) % 656, by omega⟩ n)) * w2 (ix2 0 n)
      + b (ix2 0 n) := by
  have hi : (i 0).val < 25 := (i 0).isLt
  rw [← pick r.val 0 (by omega) (by omega), ← pick (i 0).val 0 (by omega) (by omega), ← pick r.val 655 (by omega) (by omega),
    ← pick (i 0).val 24 (by omega) (by omega)]
  pointwise [k0_pay1, k0_pay2, k0_pay3]
  rfl

/-- The rows of the block. -/
theorem cur_at (c : Dev nD) (t : Fin cfg0.N) (r : Fin 656) (n : Fin 1024) :
    (iblk m c 1 t : Vec Ideal S656x1024 .f32) (ix2 r n) = (V m c main_arg0 : Vec Ideal S16400x16384 .f32) (ix2 ⟨656 * (t.val / 3) + r.val, by have : t.val < 75 := t.isLt; omega⟩ ⟨1024 * (t.val % 3) + n.val, by omega⟩) := by
  unfold iblk
  refine congrArg (V m c main_arg0 : Vec Ideal S16400x16384 .f32) (funext fun d => Fin.ext ((win0_1.rect_emb_val t _ d).trans ?_))
  rw [(idx t).2.1]
  match d with
  | ⟨0, _⟩ => show t.val / 3 * 656 + r.val = 656 * (t.val / 3) + r.val; omega
  | ⟨1, _⟩ => show t.val % 3 * 1024 + n.val = 1024 * (t.val % 3) + n.val; omega

/-- The last of the eight rows before the block, where there are any. -/
theorem prev_at (c : Dev nD) (t : Fin cfg0.N) (h : t.val / 3 ≠ 0) (n : Fin 1024) :
    (iblk m c 0 t : Vec Ideal S8x1024 .f32) (ix2 7 n) = (V m c main_arg0 : Vec Ideal S16400x16384 .f32) (ix2 ⟨656 * (t.val / 3) - 1, by have : t.val < 75 := t.isLt; omega⟩ ⟨1024 * (t.val % 3) + n.val, by omega⟩) := by
  unfold iblk
  refine congrArg (V m c main_arg0 : Vec Ideal S16400x16384 .f32) (funext fun d => Fin.ext ((win0_0.rect_emb_val t _ d).trans ?_))
  rw [(idx t).1]
  match d with
  | ⟨0, _⟩ => show (82 * (t.val / 3) - 1) * 8 + 7 = 656 * (t.val / 3) - 1; omega
  | ⟨1, _⟩ => show t.val % 3 * 1024 + n.val = 1024 * (t.val % 3) + n.val; omega

/-- The first of the eight rows after the block, where there are any. -/
theorem next_at (c : Dev nD) (t : Fin cfg0.N) (h : t.val / 3 < 24) (n : Fin 1024) :
    (iblk m c 2 t : Vec Ideal S8x1024 .f32) (ix2 0 n) = (V m c main_arg0 : Vec Ideal S16400x16384 .f32) (ix2 ⟨656 * (t.val / 3) + 656, by omega⟩ ⟨1024 * (t.val % 3) + n.val, by omega⟩) := by
  unfold iblk
  refine congrArg (V m c main_arg0 : Vec Ideal S16400x16384 .f32) (funext fun d => Fin.ext ((win0_2.rect_emb_val t _ d).trans ?_))
  rw [(idx t).2.2.1]
  match d with
  | ⟨0, _⟩ => show min (82 * (t.val / 3 + 1)) 2049 * 8 + 0 = 656 * (t.val / 3) + 656; omega
  | ⟨1, _⟩ => show t.val % 3 * 1024 + n.val = 1024 * (t.val % 3) + n.val; omega

/-- The weights of the block's channels. -/
theorem w_at (c : Dev nD) (t : Fin cfg0.N) (k : Fin 3) (n : Fin 1024) :
    (iblk m c 3 t : Vec Ideal S3x1024 .f32) (ix2 k n) = (V m c main_arg1 : Vec Ideal S3x3072 .f32) (ix2 k ⟨1024 * (t.val % 3) + n.val, by omega⟩) := by
  unfold iblk
  refine congrArg (V m c main_arg1 : Vec Ideal S3x3072 .f32) (funext fun d => Fin.ext ((win0_3.rect_emb_val t _ d).trans ?_))
  rw [(idx t).2.2.2.1]
  match d with
  | ⟨0, _⟩ => show 0 * 3 + k.val = k.val; omega
  | ⟨1, _⟩ => show t.val % 3 * 1024 + n.val = 1024 * (t.val % 3) + n.val; omega

/-- The bias of the block's channels, a row the host makes of the bias. -/
theorem b_at (c : Dev nD) (t : Fin cfg0.N) (n : Fin 1024) :
    (iblk m c 4 t : Vec Ideal S1x1024 .f32) (ix2 0 n) = (V m c main_v0 : Vec Ideal S1x3072 .f32) (ix2 0 ⟨1024 * (t.val % 3) + n.val, by omega⟩) := by
  unfold iblk
  refine congrArg (V m c main_v0 : Vec Ideal S1x3072 .f32) (funext fun d => Fin.ext ((win0_4.rect_emb_val t _ d).trans ?_))
  rw [(idx t).2.2.2.2.1]
  match d with
  | ⟨0, _⟩ => show 0 * 1 + 0 = 0; omega
  | ⟨1, _⟩ => show t.val % 3 * 1024 + n.val = 1024 * (t.val % 3) + n.val; omega

/-- The host's row of the bias holds the bias. -/
theorem bias_at (c : Dev nD) (n : Fin 3072) :
    (V m c main_v0 : Vec Ideal S1x3072 .f32) (ix2 0 n) = (m ((c : Thread nD τ).loc main_arg2) : Vec Ideal S3072 .f32) (ix1 n) := by
  entry_read
  pointwise

/-- Where an element of the result's block sits in its array. -/
theorem out_at (G : Vec Ideal S16400x3072 .f32) (t : Fin cfg0.N) (r : Fin 656) (n : Fin 1024) :
    G (((cfg0.win 5).blk t).view.emb (ix2 r n : S656x1024.Idx)) = G (ix2 ⟨656 * (t.val / 3) + r.val, by have : t.val < 75 := t.isLt; omega⟩ ⟨1024 * (t.val % 3) + n.val, by omega⟩) := by
  refine congrArg G (funext fun a => Fin.ext ((win0_5.rect_emb_val t _ a).trans ?_))
  rw [(idx t).2.2.2.2.2.1]
  match a with
  | ⟨0, _⟩ => show t.val / 3 * 656 + r.val = 656 * (t.val / 3) + r.val; omega
  | ⟨1, _⟩ => show t.val % 3 * 1024 + n.val = 1024 * (t.val % 3) + n.val; omega

/-- The load of the row before the block. -/
theorem ld_prev (v : Vec Ideal S8x1024 .f32) (n : Fin 1024) :
    (View.ld v r0_1 (ix2 0 n : S1x1024.Idx) : EReal) = v (ix2 7 n) := by
  refine congrArg v (funext fun d => Fin.ext ?_)
  match d with
  | ⟨0, _⟩ => rfl
  | ⟨1, _⟩ => show 0 + 1 * n.val = n.val; omega

/-- The load of the row after the block. -/
theorem ld_next (v : Vec Ideal S8x1024 .f32) (n : Fin 1024) :
    (View.ld v r0_2 (ix2 0 n : S1x1024.Idx) : EReal) = v (ix2 0 n) := by
  refine congrArg v (funext fun d => Fin.ext ?_)
  match d with
  | ⟨0, _⟩ => rfl
  | ⟨1, _⟩ => show 0 + 1 * n.val = n.val; omega

/-- The load of the weights of the row above. -/
theorem ld_w0 (v : Vec Ideal S3x1024 .f32) (n : Fin 1024) :
    (View.ld v r0_3 (ix2 0 n : S1x1024.Idx) : EReal) = v (ix2 0 n) := by
  refine congrArg v (funext fun d => Fin.ext ?_)
  match d with
  | ⟨0, _⟩ => rfl
  | ⟨1, _⟩ => show 0 + 1 * n.val = n.val; omega

/-- The load of the weights of the row itself. -/
theorem ld_w1 (v : Vec Ideal S3x1024 .f32) (n : Fin 1024) :
    (View.ld v r0_4 (ix2 0 n : S1x1024.Idx) : EReal) = v (ix2 1 n) := by
  refine congrArg v (funext fun d => Fin.ext ?_)
  match d with
  | ⟨0, _⟩ => rfl
  | ⟨1, _⟩ => show 0 + 1 * n.val = n.val; omega

/-- The load of the weights of the row below. -/
theorem ld_w2 (v : Vec Ideal S3x1024 .f32) (n : Fin 1024) :
    (View.ld v r0_5 (ix2 0 n : S1x1024.Idx) : EReal) = v (ix2 2 n) := by
  refine congrArg v (funext fun d => Fin.ext ?_)
  match d with
  | ⟨0, _⟩ => rfl
  | ⟨1, _⟩ => show 0 + 1 * n.val = n.val; omega

/-- The sum changes only in the rows above and below. -/
theorem ends {u u' d d' w0 x w2 b : EReal} (hu : u = u') (hd : d = d') : u * w0 + x + d * w2 + b = u' * w0 + x + d' * w2 + b := by
  rw [hu, hd]

/-- What the body stores at an element of its block is the convolution where the element sits in the array. -/
theorem point (c : Dev nD) (t : Fin cfg0.N) (r : Fin 656) (n : Fin 1024) :
    (k0_pay1 (k0_pay2 (grid0.coords t) (iblk m c 1 t) (View.ld (iblk m c 0 t) r0_1) (View.ld (iblk m c 2 t) r0_2)
        (View.ld (iblk m c 3 t) r0_3) (View.ld (iblk m c 3 t) r0_4) (View.ld (iblk m c 3 t) r0_5))
      (k0_pay3 (iblk m c 4 t)) (ix2 r n) : EReal)
    = value (m ((c : Thread nD τ).loc main_arg0)) (m ((c : Thread nD τ).loc main_arg1)) (m ((c : Thread nD τ).loc main_arg2)) ⟨656 * (t.val / 3) + r.val, by have : t.val < 75 := t.isLt; omega⟩ ⟨1024 * (t.val % 3) + n.val, by omega⟩ := by
  have ht : t.val < 75 := t.isLt
  rw [pay_at, (idx t).2.2.2.2.2.2, ld_prev, ld_next, ld_w0, ld_w1, ld_w2, b_at, bias_at]
  simp only [cur_at, w_at]
  unfold value
  refine ends ?_ ?_
  · by_cases hr : r.val = 0
    · by_cases h0 : t.val / 3 = 0
      · rw [if_pos hr, if_pos h0, if_pos (by dsimp only; omega)]
      · rw [if_pos hr, if_neg h0, if_neg (by dsimp only; omega), prev_at m c t h0]
        exact congrArg (m ((c : Thread nD τ).loc main_arg0) : Vec Ideal S16400x16384 .f32) (congrArg₂ ix2 (Fin.ext (by dsimp only; omega)) rfl)
    · rw [if_neg hr, if_neg (by dsimp only; omega)]
      exact congrArg (m ((c : Thread nD τ).loc main_arg0) : Vec Ideal S16400x16384 .f32) (congrArg₂ ix2 (Fin.ext (by dsimp only; omega)) rfl)
  · by_cases hr : r.val = 655
    · by_cases h0 : t.val / 3 = 24
      · rw [if_pos hr, if_pos h0, dif_neg (by dsimp only; omega)]
      · rw [if_pos hr, if_neg h0, dif_pos (by dsimp only; omega), next_at m c t (by omega)]
        exact congrArg (m ((c : Thread nD τ).loc main_arg0) : Vec Ideal S16400x16384 .f32) (congrArg₂ ix2 (Fin.ext (by dsimp only; omega)) rfl)
    · rw [if_neg hr, dif_pos (by dsimp only; omega)]
      exact congrArg (m ((c : Thread nD τ).loc main_arg0) : Vec Ideal S16400x16384 .f32) (congrArg₂ ix2 (Fin.ext (by dsimp only; omega)) rfl)

/-- The result array after the run is the convolution of the kernel's arguments. -/
theorem final (c : Dev nD) : (dats m 0 c).arrAt 5 cfg0.N
    = conv (m ((c : Thread nD τ).loc main_arg0)) (m ((c : Thread nD τ).loc main_arg1)) (m ((c : Thread nD τ).loc main_arg2)) := by
  refine (dats m 0 c).arrAt_eq_of_covers 5 _ (by decide +kernel) fun t _ y => ?_
  blk_simp
  rw [after0_5]
  frame_out
  idx_vars y
  exact (point m c t y0 y1).trans (out_at (conv (m ((c : Thread nD τ).loc main_arg0)) (m ((c : Thread nD τ).loc main_arg1)) (m ((c : Thread nD τ).loc main_arg2))) t y0 y1).symm

end Cert.ShortConvIdeal.Final

namespace Cert.ShortConvRefIdeal.Term

open Cert.ShortConvRefIdeal Cert.ShortConvRefIdeal.Gen

/-- The reference's array is the convolution, at every element. -/
theorem ref (Z : FVec Ideal S16400x16384 .f32) (W : FVec Ideal S3x3072 .f32) (b : FVec Ideal S3072 .f32) :
    addf (addf (addf (mulf (extractStridedSlice S16400x3072 ![0, 0] (pad S16402x3072 ![1, 0] ![1, 0] ![0, 0] (extractStridedSlice S16400x3072 ![0, 0] Z slices_S16400x16384_S16400x3072_0_0) (sitofp .f32 (constantI S_ 32 0#32)) pads_S16400x3072_S16402x3072_110_000 h_S_) slices_S16402x3072_S16400x3072_0_0) (broadcastInDim S16400x3072 ![0, 1] bcast_S1x3072_S16400x3072_0_1 (broadcastInDim S1x3072 ![1] bcast_S3072_S1x3072_1 (shapeCast _ (extractStridedSlice S1x3072 ![0, 0] W slices_S3x3072_S1x3072_0_0) shapeCasts_S1x3072_S3072)))) (mulf (extractStridedSlice S16400x3072 ![1, 0] (pad S16402x3072 ![1, 0] ![1, 0] ![0, 0] (extractStridedSlice S16400x3072 ![0, 0] Z slices_S16400x16384_S16400x3072_0_0) (sitofp .f32 (constantI S_ 32 0#32)) pads_S16400x3072_S16402x3072_110_000 h_S_) slices_S16402x3072_S16400x3072_1_0) (broadcastInDim S16400x3072 ![0, 1] bcast_S1x3072_S16400x3072_0_1 (broadcastInDim S1x3072 ![1] bcast_S3072_S1x3072_1 (shapeCast _ (extractStridedSlice S1x3072 ![1, 0] W slices_S3x3072_S1x3072_1_0) shapeCasts_S1x3072_S3072))))) (mulf (extractStridedSlice S16400x3072 ![2, 0] (pad S16402x3072 ![1, 0] ![1, 0] ![0, 0] (extractStridedSlice S16400x3072 ![0, 0] Z slices_S16400x16384_S16400x3072_0_0) (sitofp .f32 (constantI S_ 32 0#32)) pads_S16400x3072_S16402x3072_110_000 h_S_) slices_S16402x3072_S16400x3072_2_0) (broadcastInDim S16400x3072 ![0, 1] bcast_S1x3072_S16400x3072_0_1 (broadcastInDim S1x3072 ![1] bcast_S3072_S1x3072_1 (shapeCast _ (extractStridedSlice S1x3072 ![2, 0] W slices_S3x3072_S1x3072_2_0) shapeCasts_S1x3072_S3072))))) (broadcastInDim S16400x3072 ![0, 1] bcast_S1x3072_S16400x3072_0_1 (broadcastInDim S1x3072 ![1] bcast_S3072_S1x3072_1 b))
    = Cert.ShortConvIdeal.Final.conv Z W b := by
  funext x
  idx_vars x
  have h0 : (FloatOps.sitofp (F := Ideal) FTy.f32 (0#32 : BitVec 32) : EReal) = 0 := by
    show (((0#32 : BitVec 32).toInt : ℝ) : EReal) = 0
    simp
  have e1 : (if h : 1 ≤ x0.val ∧ x0.val - 1 < 16400 then Z (ix2 ⟨x0.val - 1, h.2⟩ ⟨x1.val, by omega⟩) else (0 : EReal))
      = if x0.val = 0 then 0 else Z (ix2 ⟨x0.val - 1, by omega⟩ ⟨x1.val, by omega⟩) := by
    by_cases h : x0.val = 0
    · rw [dif_neg (by omega), if_pos h]
    · rw [dif_pos (by omega), if_neg h]
  have e2 : (if h : 1 ≤ 2 + x0.val ∧ 2 + x0.val - 1 < 16400 then Z (ix2 ⟨2 + x0.val - 1, h.2⟩ ⟨x1.val, by omega⟩) else (0 : EReal))
      = if h : x0.val + 1 < 16400 then Z (ix2 ⟨x0.val + 1, h⟩ ⟨x1.val, by omega⟩) else 0 := by
    by_cases h : x0.val + 1 < 16400
    · have e : (⟨2 + x0.val - 1, by omega⟩ : Fin 16400) = ⟨x0.val + 1, h⟩ := Fin.ext (by dsimp only; omega)
      rw [dif_pos (by omega), dif_pos h, e]
    · rw [dif_neg (by omega), dif_neg h]
  show _ = Cert.ShortConvIdeal.Final.value Z W b x0 x1
  unfold Cert.ShortConvIdeal.Final.value
  rw [← e1, ← e2, ← h0]
  pointwise

end Cert.ShortConvRefIdeal.Term

namespace Cert.Proof.ShortConv

open Cert.ShortConvIdeal

/-- At the ideal instance the short convolution kernel and its reference leave the same array. -/
theorem algebraic : Cert.algebraic_ShortConvIdeal_ShortConvRefIdeal (hShortConvIdeal := Cert.ShortConvIdeal.Gen.facts)
    (hShortConvRefIdeal := Cert.ShortConvRefIdeal.Gen.facts) := by
  intro m ρ m' ρ' _ hag
  refine ⟨fun c => Final.conv (m ((c.tc : Thread nD τ).loc main_arg0)) (m ((c.tc : Thread nD τ).loc main_arg1)) (m ((c.tc : Thread nD τ).loc main_arg2)), ?_, ?_⟩
  · exact (θ_run _ _ _).mono (fun _ h c => ⟨(h c).1.trans (Final.final m c), (h c).2⟩)
      (Cert.ShortConvIdeal.Value.run_blocks (F := Ideal) m ρ)
  · refine (θ_run _ _ _).mono (fun _ h c => ⟨(h c).1.trans ?_, (h c).2⟩) (Cert.ShortConvRefIdeal.Value.run (F := Ideal) m' ρ')
    obtain ⟨h0, h1, h2⟩ := hag c
    refine (Cert.ShortConvRefIdeal.Term.ref _ _ _).trans ?_
    rw [h0, h1, h2]

end Cert.Proof.ShortConv

end
-- ==== Proof.Filter.lean ====
/-
  The filter network: at every lag, a sine network of three layers of the lag's 33 features, a linear last layer, and an
  exponential decay; a backward filter is zero at lag zero. The kernel pads the features with zero weights to 64, forms the
  network's rows of a row block once, at the block's first grid point, in a scratch buffer of 192 lanes, and multiplies them
  by one column block of the last weights at every point. The 192 lanes are the rows in three copies, of which the middle
  one is the row less itself rounded: at the ideal instance nothing but zero, as is the third copy's weight. So it leaves the host
  reference's array when the last weights are real.
-/
module

public import proofs.«01_k».proof.Defs
public import proofs.«01_k».proof.Proof.Gen.FilterIdeal.Value
public import proofs.«01_k».proof.Proof.Gen.FilterRefIdeal.Run
public import Idealize.ShloMosaic.Lib.Pipeline.ValueKit
public import Idealize.ShloMosaic.Lib.Pointwise
public import Idealize.ShloMosaic.Lib.Pipeline.ValueKit.Held
public import Idealize.ShloMosaic.Lib.Pipeline.ReadBack
public import Idealize.ShloMosaic.Lib.Routing.OpsSet
public import Idealize.ShloMosaic.Lib.ReduceAll
public import proofs.«01_k».proof.Proof.Attend

@[expose] public section

set_option maxRecDepth 16384

noncomputable section

open Idealize.ShloMosaic Idealize.ShloMosaic.TcCoe Idealize.SL.Sem
open Idealize.ShloMosaic.Pipeline (Dat)

namespace Cert.Filter

open Cert.Attend

/-- A layer of sines: the inputs' weighted sum and a bias, scaled by a frequency. -/
abbrev layer {K N : ℕ} (x : Fin K → EReal) (w : Fin K → Fin N → EReal) (b fr : Fin N → EReal) (n : Fin N) : EReal :=
  Ideal.sin (fr n * (∑ k, x k * w k n + b n))

/-- Three layers of sines; the last one's weights, biases and frequencies are its own. -/
abbrev hid {K N : ℕ} (x : Fin K → EReal) (w1 : Fin K → Fin 64 → EReal) (b1 : Fin 64 → EReal) (w2 : Fin 64 → Fin 64 → EReal)
    (b2 : Fin 64 → EReal) (w3 : Fin 64 → Fin N → EReal) (b3 : Fin N → EReal) (fr : Fin 64 → EReal) (fr3 : Fin N → EReal) :
    Fin N → EReal :=
  layer (layer (layer x w1 b1 fr) w2 b2 fr) w3 b3 fr3

/-- A sine is below infinity. -/
theorem sin_ne_top (x : EReal) : Ideal.sin x ≠ ⊤ := by
  induction x with
  | bot => exact bot_ne_top
  | top => exact bot_ne_top
  | coe r => exact EReal.coe_ne_top _

/-- A sum of 64 terms whose last 31 weights are zero. -/
theorem sum_pad (f : Fin 64 → EReal) (g : Fin 33 → EReal) :
    ∑ k : Fin 64, f k * (if h : k.val < 33 then g ⟨k.val, h⟩ else 0) = ∑ k : Fin 33, f ⟨k.val, by omega⟩ * g k := by
  rw [Fin.sum_univ_add (a := 33) (b := 31)]
  have h2 : ∑ i : Fin 31, f (Fin.natAdd 33 i) * (if h : (Fin.natAdd 33 i : Fin 64).val < 33 then g ⟨_, h⟩ else 0) = 0 :=
    Finset.sum_eq_zero fun i _ => by
      rw [dif_neg (by show ¬ 33 + i.val < 33; omega), mul_zero]
  refine (congrArg (_ + ·) h2).trans ((add_zero _).trans (Finset.sum_congr rfl fun k _ => ?_))
  rw [dif_pos (show (Fin.castAdd 31 k : Fin 64).val < 33 from k.isLt)]
  rfl

/-- A number below infinity times a real, plus the number less itself times the real. -/
theorem mul_add_sub (s w : EReal) (hs : s ≠ ⊤) (hw : Fi w) : s * w + (s - s) * w = s * w := by
  obtain ⟨w0, w1⟩ := hw
  lift w to ℝ using ⟨w1, w0⟩
  induction s with
  | bot =>
    have e : (⊥ - ⊥ : EReal) = ⊥ := rfl
    rw [e]
    rcases lt_trichotomy w 0 with h | h | h
    · rw [EReal.bot_mul_coe_of_neg h]; rfl
    · rw [h]; simp
    · rw [EReal.bot_mul_coe_of_pos h]; rfl
  | top => exact absurd rfl hs
  | coe s => rw [← EReal.coe_sub, sub_self, EReal.coe_zero, zero_mul, add_zero]

/-- The sum over the scratch buffer's 192 lanes is the sum over the network's 64 outputs. -/
theorem three (s w : Fin 64 → EReal) (hs : ∀ k, s k ≠ ⊤) (hw : ∀ k, Fi (w k)) :
    ∑ l : Fin 192, (if 64 ≤ l.val ∧ l.val < 128 then s ⟨l.val % 64, by omega⟩ - s ⟨l.val % 64, by omega⟩ else s ⟨l.val % 64, by omega⟩)
      * (if h : l.val < 64 then w ⟨l.val, h⟩ else if h : l.val - 64 < 64 then w ⟨l.val - 64, h⟩
          else w ⟨l.val - 64 - 64, by omega⟩ - w ⟨l.val - 64 - 64, by omega⟩)
    = ∑ k, s k * w k := by
  rw [Fin.sum_univ_add (a := 128) (b := 64), Fin.sum_univ_add (a := 64) (b := 64), ← Finset.sum_add_distrib,
    ← Finset.sum_add_distrib]
  refine Finset.sum_congr rfl fun k _ => ?_
  have e1 : (⟨(Fin.castAdd 64 (Fin.castAdd 64 k) : Fin 192).val % 64, by omega⟩ : Fin 64) = k :=
    Fin.ext (Nat.mod_eq_of_lt k.isLt)
  have e2 : (⟨(Fin.castAdd 64 (Fin.natAdd 64 k) : Fin 192).val % 64, by omega⟩ : Fin 64) = k :=
    Fin.ext (show (64 + k.val) % 64 = k.val by omega)
  have e3 : (⟨(Fin.natAdd 128 k : Fin 192).val % 64, by omega⟩ : Fin 64) = k :=
    Fin.ext (show (128 + k.val) % 64 = k.val by omega)
  have v1 : (Fin.castAdd 64 (Fin.castAdd 64 k) : Fin 192).val = k.val := rfl
  have v2 : (Fin.castAdd 64 (Fin.natAdd 64 k) : Fin 192).val = 64 + k.val := rfl
  have v3 : (Fin.natAdd 128 k : Fin 192).val = 128 + k.val := rfl
  rw [e1, e2, e3, if_neg (by omega), if_pos (by omega), if_neg (by omega), dif_pos (by omega), dif_neg (by omega),
    dif_pos (by omega), dif_neg (by omega), dif_neg (by omega)]
  have f2 : (⟨(Fin.castAdd 64 (Fin.natAdd 64 k) : Fin 192).val - 64, by omega⟩ : Fin 64) = k :=
    Fin.ext (show 64 + k.val - 64 = k.val by omega)
  have f3 : (⟨(Fin.natAdd 128 k : Fin 192).val - 64 - 64, by omega⟩ : Fin 64) = k :=
    Fin.ext (show 128 + k.val - 64 - 64 = k.val by omega)
  rw [f2, f3]
  have f1 : (⟨(Fin.castAdd 64 (Fin.castAdd 64 k) : Fin 192).val, by omega⟩ : Fin 64) = k := rfl
  rw [f1]
  have z : w k - w k = 0 := by
    obtain ⟨h0, h1⟩ := hw k
    lift w k to ℝ using ⟨h1, h0⟩ with r
    rw [← EReal.coe_sub, sub_self, EReal.coe_zero]
  rw [z, mul_zero, add_zero]
  exact mul_add_sub _ _ (hs k) (hw k)

end Cert.Filter

namespace Cert.FilterIdeal.Final

open Cert.FilterIdeal Cert.FilterIdeal.Gen Cert.Filter Cert.Attend

variable (m : (ℓ : Loc nD τ sig) → Buf (Elt Ideal) ℓ)

/-- Which block of its array each window holds at grid point `t`. -/
theorem idx : ∀ t : Fin cfg0.N, win0_0.index t = ![t.val / 4, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![0, t.val % 4]
    ∧ win0_10.index t = ![0, t.val % 4] ∧ win0_11.index t = ![t.val / 4, t.val % 4] :=
  (by decide +kernel : ∀ t : Fin grid0.N, _)

/-- The rows of the network's last layer that the first point of a run of 4 stores in the scratch buffer. -/
abbrev net (x0 : Vec Ideal S656x64 .f32) (x1 : Vec Ideal S64x64 .f32) (x2 : Vec Ideal S1x64 .f32) (x3 : Vec Ideal S64x64 .f32)
    (x4 : Vec Ideal S1x64 .f32) (x5 : Vec Ideal S64x192 .f32) (x6 : Vec Ideal S1x192 .f32) (x7 : Vec Ideal S1x64 .f32)
    (x8 : Vec Ideal S1x192 .f32) : FVec Ideal S656x192 .bf16 :=
  k0_pay5 (k0_pay3 x7 x0 x1 x2 x3 x4 x8 x5 x6) (k0_pay4 x7 x0 x1 x2 x3 x4 x8 x5 x6)
    (iota .tc S656x192 32 [1] iota_S656x192_d1_w32) 64#32

/-- Those rows at grid point `t`. -/
abbrev netAt (c : Dev nD) (t : Fin cfg0.N) : FVec Ideal S656x192 .bf16 :=
  net (iblk m c 0 t) (iblk m c 1 t) (iblk m c 2 t) (iblk m c 3 t) (iblk m c 4 t) (iblk m c 5 t) (iblk m c 6 t)
    (iblk m c 7 t) (iblk m c 8 t)

/-- The scratch buffer after point `t` holds what the first point of `t`'s run of 4 stored. -/
theorem held (c : Dev nD) (t : Fin cfg0.N) : (outsAt0 m c t.val t.isLt).2
    = netAt m c ⟨4 * (t.val / 4), Pipeline.run_start_lt t⟩ := by
  refine Pipeline.eq_of_write_hold (fun n h => (outsAt0 m c n h).2) 4
    (fun t => netAt m c t) (fun t h => ?_) (fun t h => ?_) t
  · rw [outsAt0_A m c t h]
    frame_out
  · rw [outsAt0_B m c t h]
    rfl

/-- Whether a grid point zeroes its block's first row: at the first row block of a backward filter. -/
abbrev drop (i : grid0.Coords) : BitVec 1 :=
  Scalar.andi (Scalar.cmpi CmpIPredicate.eq (BitVec.ofNat 32 (i 0).val) 0#32)
    (Scalar.cmpi CmpIPredicate.eq
      (Scalar.select
        (Scalar.andi (Scalar.xori (Scalar.cmpi CmpIPredicate.slt (Scalar.remsi (BitVec.ofNat 32 (i 1).val) 2#32) 0#32) 0#1)
          (Scalar.cmpi CmpIPredicate.ne (Scalar.remsi (BitVec.ofNat 32 (i 1).val) 2#32) 0#32))
        (Scalar.addi (Scalar.remsi (BitVec.ofNat 32 (i 1).val) 2#32) 2#32)
        (Scalar.remsi (BitVec.ofNat 32 (i 1).val) 2#32))
      1#32)

/-- `drop` in plain numbers. -/
theorem drop_eq : ∀ t : Fin cfg0.N, drop (grid0.coords t) = if t.val / 4 = 0 ∧ t.val % 4 % 2 = 1 then 1#1 else 0#1 :=
  (by decide +kernel : ∀ t : Fin grid0.N, _)

/-- What a point stores: its rows of the network times its block of the last weights, decayed. -/
theorem stored (c : Dev nD) (t : Fin cfg0.N) : (outsAt0 m c t.val t.isLt).1
    = k0_pay1 (k0_pay6 (View.ld (iblk m c 0 t) (Rect.unit ![0, 0] ![656, 1] inb_S656x64_S656x1_0_0)) (iblk m c 9 t)
        (netAt m c ⟨4 * (t.val / 4), Pipeline.run_start_lt t⟩) (iblk m c 10 t))
      (iota Kind.tc S656x1024 32 [0] iota_S656x1024_d0_w32) (drop (grid0.coords t)) 0#32 := by
  by_cases h : t.val % 4 = 0
  · have e : (⟨4 * (t.val / 4), Pipeline.run_start_lt t⟩ : Fin cfg0.N) = t := Fin.ext (by dsimp only; omega)
    rw [e, outsAt0_A m c t h]
    frame_out
    rfl
  · have hp := held m c ⟨t.val - 1, Nat.lt_of_le_of_lt (Nat.sub_le _ _) t.isLt⟩
    have e : (⟨4 * ((t.val - 1) / 4), Pipeline.run_start_lt ⟨t.val - 1, Nat.lt_of_le_of_lt (Nat.sub_le _ _) t.isLt⟩⟩ : Fin cfg0.N)
        = ⟨4 * (t.val / 4), Pipeline.run_start_lt t⟩ := Fin.ext (by dsimp only; omega)
    dsimp only at hp
    rw [e] at hp
    rw [outsAt0_B m c t h, ← hp]
    frame_out
    simp only [read_unread_whole]
    rfl

/-- What a point stores, at an element. -/
theorem pay (z : Vec Ideal S656x1 .f32) (w : Vec Ideal S64x1024 .f32) (h : Vec Ideal S656x192 .bf16) (d : Vec Ideal S1x1024 .f32)
    (b : BitVec 1) (r : Fin 656) (n : Fin 1024) :
    k0_pay1 (k0_pay6 z w h d) (iota Kind.tc S656x1024 32 [0] iota_S656x1024_d0_w32) b 0#32 (ix2 r n)
      = (Scalar.select (IntOp.andi b (IntOp.cmpi CmpIPredicate.eq (BitVec.ofNat 32 r.val) 0#32)) (0 : EReal)
        ((∑ x : Fin 192, (h (ix2 r x) : EReal) * (if h : x.val < 64 then w (ix2 ⟨x.val, h⟩ n)
            else if h : x.val - 64 < 64 then w (ix2 ⟨x.val - 64, h⟩ n)
            else w (ix2 ⟨x.val - 64 - 64, by omega⟩ n) - w (ix2 ⟨x.val - 64 - 64, by omega⟩ n) : EReal))
          * Ideal.exp ((0 - z (ix2 r 0)) * FloatOps.absf (F := Ideal) (φ := .f32) (d (ix2 0 n)))) : EReal) := by
  pointwise [k0_pay1, k0_pay6]

/-- Whether a lane is in the middle copy. -/
theorem lane (l : Fin 192) (x y : EReal) :
    Scalar.select (IntOp.andi (IntOp.cmpi CmpIPredicate.sge (BitVec.ofNat 32 l.val) 64#32)
        (IntOp.cmpi CmpIPredicate.slt (BitVec.ofNat 32 l.val) 128#32)) x y
      = if 64 ≤ l.val ∧ l.val < 128 then x else y := by
  have e : ∀ l : Fin 192, IntOp.andi (IntOp.cmpi CmpIPredicate.sge (BitVec.ofNat 32 l.val) 64#32)
        (IntOp.cmpi CmpIPredicate.slt (BitVec.ofNat 32 l.val) 128#32) = if 64 ≤ l.val ∧ l.val < 128 then 1#1 else 0#1 := by
    decide +kernel
  rw [e l]
  split <;> rfl

/-- The scratch buffer's rows, at an element. -/
theorem net_at (x0 : Vec Ideal S656x64 .f32) (x1 : Vec Ideal S64x64 .f32) (x2 : Vec Ideal S1x64 .f32) (x3 : Vec Ideal S64x64 .f32)
    (x4 : Vec Ideal S1x64 .f32) (x5 : Vec Ideal S64x192 .f32) (x6 : Vec Ideal S1x192 .f32) (x7 : Vec Ideal S1x64 .f32)
    (x8 : Vec Ideal S1x192 .f32) (r : Fin 656) (l : Fin 192) :
    (net x0 x1 x2 x3 x4 x5 x6 x7 x8 (ix2 r l) : EReal)
      = let s : EReal := hid (fun k : Fin 64 => x0 (ix2 r k)) (fun k n => x1 (ix2 k n)) (fun n => x2 (ix2 0 n))
          (fun k n => x3 (ix2 k n)) (fun n => x4 (ix2 0 n)) (fun k n => x5 (ix2 k n)) (fun n => x6 (ix2 0 n))
          (fun n => x7 (ix2 0 n)) (fun n => x8 (ix2 0 n)) l
        if 64 ≤ l.val ∧ l.val < 128 then s - s else s := by
  dsimp only
  rw [← lane]
  pointwise [net, k0_pay5, k0_pay4, k0_pay3, k0_pay2]

/-- Every row of the update of the padded weights lands at its own place. -/
theorem lands (j : S33x64.Idx) (w : IVec S1 32) (h : ∀ i, w i = 0#32) :
    scatter_S64x64_S1_S33x64_01_n_0_0.resultIdx? j w = some (ix2 ⟨(j 0).val, lt_of_lt_of_le (j 0).isLt (by decide)⟩ (j 1)) := by
  have hs : ∀ a, scatter_S64x64_S1_S33x64_01_n_0_0.start j w a = 0 := fun a => by
    unfold ScatterDims.start
    split
    · rw [h]; rfl
    · rfl
  have h0 : scatter_S64x64_S1_S33x64_01_n_0_0.window j 0 = (j 0).val := rfl
  have h1 : scatter_S64x64_S1_S33x64_01_n_0_0.window j 1 = (j 1).val := rfl
  unfold ScatterDims.resultIdx?
  have j0 : (j 0).val < 33 := (j 0).isLt
  have j1 : (j 1).val < 64 := (j 1).isLt
  rw [dif_pos fun a => by
    rw [hs]
    match a with
    | ⟨0, _⟩ => show 0 ≤ (0 : Int) + (scatter_S64x64_S1_S33x64_01_n_0_0.window j 0 : ℕ) ∧ (0 : Int) + (scatter_S64x64_S1_S33x64_01_n_0_0.window j 0 : ℕ) < (64 : ℕ); rw [h0]; omega
    | ⟨1, _⟩ => show 0 ≤ (0 : Int) + (scatter_S64x64_S1_S33x64_01_n_0_0.window j 1 : ℕ) ∧ (0 : Int) + (scatter_S64x64_S1_S33x64_01_n_0_0.window j 1 : ℕ) < (64 : ℕ); rw [h1]; omega]
  refine congrArg some (funext fun a => Fin.ext ?_)
  show (scatter_S64x64_S1_S33x64_01_n_0_0.start j w a + (scatter_S64x64_S1_S33x64_01_n_0_0.window j a : ℕ)).toNat = _
  rw [hs]
  match a with
  | ⟨0, _⟩ => show ((0 : Int) + (scatter_S64x64_S1_S33x64_01_n_0_0.window j 0 : ℕ)).toNat = (j 0).val; rw [h0]; omega
  | ⟨1, _⟩ => show ((0 : Int) + (scatter_S64x64_S1_S33x64_01_n_0_0.window j 1 : ℕ)).toNat = (j 1).val; rw [h1]; omega

/-- The padded first weights. -/
theorem w1_val (c : Dev nD) (k n : Fin 64) : (V m c main_v2 : Vec Ideal S64x64 .f32) (ix2 k n)
    = if h : k.val < 33 then (m ((c : Thread nD τ).loc main_arg1) : Vec Ideal S33x64 .f32) (ix2 ⟨k.val, h⟩ n) else (0 : EReal) := by
  have hw : ∀ i, (broadcastInDim S1 ![] bcast_S_S1 (constantI S_ 32 0#32) : IVec S1 32) i = 0#32 := fun _ => rfl
  entry_read
  split
  · rename_i h
    refine Routing.scatter_set_hit _ _ _ _ _ _ (fun j hj => ?_) (ix2 ⟨k.val, h⟩ n) ?_
    · rw [lands _ _ hw] at hj
      have hj := Option.some.inj hj
      refine congrArg (m ((c : Thread nD τ).loc main_arg1) : Vec Ideal S33x64 .f32) (funext fun a => Fin.ext ?_)
      match a with
      | ⟨0, _⟩ => exact (congrArg Fin.val (congrFun hj 0) : (j 0).val = k.val)
      | ⟨1, _⟩ => exact (congrArg Fin.val (congrFun hj 1) : (j 1).val = n.val)
    · rw [lands _ _ hw]
      rfl
  · rename_i h
    refine (Routing.scatter_set_miss _ _ _ _ _ (fun j hj => ?_)).trans ?_
    · rw [lands _ _ hw] at hj
      have e := congrArg Fin.val (congrFun (Option.some.inj hj) 0)
      have j0 : (j 0).val < 33 := (j 0).isLt
      have e : (j 0).val = k.val := e
      omega
    · pointwise

/-- The features of the block's rows, -/
theorem z_at (c : Dev nD) (t : Fin cfg0.N) (r : Fin 656) (k : Fin 64) :
    (iblk m c 0 t : Vec Ideal S656x64 .f32) (ix2 r k) = (m ((c : Thread nD τ).loc main_arg0) : Vec Ideal S16400x64 .f32) (ix2 ⟨656 * (t.val / 4) + r.val, by have : t.val < 100 := t.isLt; omega⟩ k) := by
  have e : (iblk m c 0 t : Vec Ideal S656x64 .f32) (ix2 r k) = (V m c main_arg0 : Vec Ideal S16400x64 .f32) (ix2 ⟨656 * (t.val / 4) + r.val, by have : t.val < 100 := t.isLt; omega⟩ k) := by
    unfold iblk
    refine congrArg (V m c main_arg0 : Vec Ideal S16400x64 .f32) (funext fun d => Fin.ext ((win0_0.rect_emb_val t _ d).trans ?_))
    rw [(idx t).1]
    match d with
    | ⟨0, _⟩ => show t.val / 4 * 656 + r.val = 656 * (t.val / 4) + r.val; omega
    | ⟨1, _⟩ => show 0 * 64 + k.val = k.val; omega
  rw [e]
  rfl

/-- the padded first weights, -/
theorem w1_at (c : Dev nD) (t : Fin cfg0.N) (k n : Fin 64) :
    (iblk m c 1 t : Vec Ideal S64x64 .f32) (ix2 k n) = if h : k.val < 33 then (m ((c : Thread nD τ).loc main_arg1) : Vec Ideal S33x64 .f32) (ix2 ⟨k.val, h⟩ n) else (0 : EReal) := by
  have e : (iblk m c 1 t : Vec Ideal S64x64 .f32) (ix2 k n) = (V m c main_v2 : Vec Ideal S64x64 .f32) (ix2 k n) := by
    unfold iblk
    refine congrArg (V m c main_v2 : Vec Ideal S64x64 .f32) (funext fun d => Fin.ext ((win0_1.rect_emb_val t _ d).trans ?_))
    rw [(idx t).2.1]
    match d with
    | ⟨0, _⟩ => show 0 * 64 + k.val = k.val; omega
    | ⟨1, _⟩ => show 0 * 64 + n.val = n.val; omega
  rw [e]
  exact w1_val m c k n

/-- the first biases, -/
theorem b1_at (c : Dev nD) (t : Fin cfg0.N) (n : Fin 64) :
    (iblk m c 2 t : Vec Ideal S1x64 .f32) (ix2 0 n) = (m ((c : Thread nD τ).loc main_arg2) : Vec Ideal S64 .f32) (ix1 n) := by
  have e : (iblk m c 2 t : Vec Ideal S1x64 .f32) (ix2 0 n) = (V m c main_v3 : Vec Ideal S1x64 .f32) (ix2 0 n) := by
    unfold iblk
    refine congrArg (V m c main_v3 : Vec Ideal S1x64 .f32) (funext fun d => Fin.ext ((win0_2.rect_emb_val t _ d).trans ?_))
    rw [(idx t).2.2.1]
    match d with
    | ⟨0, _⟩ => show 0 * 1 + 0 = 0; omega
    | ⟨1, _⟩ => show 0 * 64 + n.val = n.val; omega
  rw [e]
  entry_read
  pointwise

/-- the second weights, -/
theorem w2_at (c : Dev nD) (t : Fin cfg0.N) (k n : Fin 64) :
    (iblk m c 3 t : Vec Ideal S64x64 .f32) (ix2 k n) = (m ((c : Thread nD τ).loc main_arg3) : Vec Ideal S64x64 .f32) (ix2 k n) := by
  have e : (iblk m c 3 t : Vec Ideal S64x64 .f32) (ix2 k n) = (V m c main_arg3 : Vec Ideal S64x64 .f32) (ix2 k n) := by
    unfold iblk
    refine congrArg (V m c main_arg3 : Vec Ideal S64x64 .f32) (funext fun d => Fin.ext ((win0_3.rect_emb_val t _ d).trans ?_))
    rw [(idx t).2.2.2.1]
    match d with
    | ⟨0, _⟩ => show 0 * 64 + k.val = k.val; omega
    | ⟨1, _⟩ => show 0 * 64 + n.val = n.val; omega
  rw [e]
  rfl

/-- the second biases, -/
theorem b2_at (c : Dev nD) (t : Fin cfg0.N) (n : Fin 64) :
    (iblk m c 4 t : Vec Ideal S1x64 .f32) (ix2 0 n) = (m ((c : Thread nD τ).loc main_arg4) : Vec Ideal S64 .f32) (ix1 n) := by
  have e : (iblk m c 4 t : Vec Ideal S1x64 .f32) (ix2 0 n) = (V m c main_v4 : Vec Ideal S1x64 .f32) (ix2 0 n) := by
    unfold iblk
    refine congrArg (V m c main_v4 : Vec Ideal S1x64 .f32) (funext fun d => Fin.ext ((win0_4.rect_emb_val t _ d).trans ?_))
    rw [(idx t).2.2.2.2.1]
    match d with
    | ⟨0, _⟩ => show 0 * 1 + 0 = 0; omega
    | ⟨1, _⟩ => show 0 * 64 + n.val = n.val; omega
  rw [e]
  entry_read
  pointwise

/-- the third weights, in three copies, -/
theorem w3_at (c : Dev nD) (t : Fin cfg0.N) (k : Fin 64) (n : Fin 192) :
    (iblk m c 5 t : Vec Ideal S64x192 .f32) (ix2 k n) = (m ((c : Thread nD τ).loc main_arg5) : Vec Ideal S64x64 .f32) (ix2 k ⟨n.val % 64, by omega⟩) := by
  have e : (iblk m c 5 t : Vec Ideal S64x192 .f32) (ix2 k n) = (V m c main_v7 : Vec Ideal S64x192 .f32) (ix2 k n) := by
    unfold iblk
    refine congrArg (V m c main_v7 : Vec Ideal S64x192 .f32) (funext fun d => Fin.ext ((win0_5.rect_emb_val t _ d).trans ?_))
    rw [(idx t).2.2.2.2.2.1]
    match d with
    | ⟨0, _⟩ => show 0 * 64 + k.val = k.val; omega
    | ⟨1, _⟩ => show 0 * 192 + n.val = n.val; omega
  rw [e]
  entry_read
  pointwise

/-- the third biases, in three copies, -/
theorem b3_at (c : Dev nD) (t : Fin cfg0.N) (n : Fin 192) :
    (iblk m c 6 t : Vec Ideal S1x192 .f32) (ix2 0 n) = (m ((c : Thread nD τ).loc main_arg6) : Vec Ideal S64 .f32) (ix1 ⟨n.val % 64, by omega⟩) := by
  have e : (iblk m c 6 t : Vec Ideal S1x192 .f32) (ix2 0 n) = (V m c main_v11 : Vec Ideal S1x192 .f32) (ix2 0 n) := by
    unfold iblk
    refine congrArg (V m c main_v11 : Vec Ideal S1x192 .f32) (funext fun d => Fin.ext ((win0_6.rect_emb_val t _ d).trans ?_))
    rw [(idx t).2.2.2.2.2.2.1]
    match d with
    | ⟨0, _⟩ => show 0 * 1 + 0 = 0; omega
    | ⟨1, _⟩ => show 0 * 192 + n.val = n.val; omega
  rw [e]
  entry_read
  pointwise

/-- the frequencies, -/
theorem fr_at (c : Dev nD) (t : Fin cfg0.N) (n : Fin 64) :
    (iblk m c 7 t : Vec Ideal S1x64 .f32) (ix2 0 n) = (m ((c : Thread nD τ).loc main_arg8) : Vec Ideal S64 .f32) (ix1 n) := by
  have e : (iblk m c 7 t : Vec Ideal S1x64 .f32) (ix2 0 n) = (V m c main_v12 : Vec Ideal S1x64 .f32) (ix2 0 n) := by
    unfold iblk
    refine congrArg (V m c main_v12 : Vec Ideal S1x64 .f32) (funext fun d => Fin.ext ((win0_7.rect_emb_val t _ d).trans ?_))
    rw [(idx t).2.2.2.2.2.2.2.1]
    match d with
    | ⟨0, _⟩ => show 0 * 1 + 0 = 0; omega
    | ⟨1, _⟩ => show 0 * 64 + n.val = n.val; omega
  rw [e]
  entry_read
  pointwise

/-- the frequencies in three copies, -/
theorem fr3_at (c : Dev nD) (t : Fin cfg0.N) (n : Fin 192) :
    (iblk m c 8 t : Vec Ideal S1x192 .f32) (ix2 0 n) = (m ((c : Thread nD τ).loc main_arg8) : Vec Ideal S64 .f32) (ix1 ⟨n.val % 64, by omega⟩) := by
  have e : (iblk m c 8 t : Vec Ideal S1x192 .f32) (ix2 0 n) = (V m c main_v16 : Vec Ideal S1x192 .f32) (ix2 0 n) := by
    unfold iblk
    refine congrArg (V m c main_v16 : Vec Ideal S1x192 .f32) (funext fun d => Fin.ext ((win0_8.rect_emb_val t _ d).trans ?_))
    rw [(idx t).2.2.2.2.2.2.2.2.1]
    match d with
    | ⟨0, _⟩ => show 0 * 1 + 0 = 0; omega
    | ⟨1, _⟩ => show 0 * 192 + n.val = n.val; omega
  rw [e]
  entry_read
  pointwise

/-- the block's columns of the last weights, -/
theorem w4_at (c : Dev nD) (t : Fin cfg0.N) (k : Fin 64) (n : Fin 1024) :
    (iblk m c 9 t : Vec Ideal S64x1024 .f32) (ix2 k n) = (m ((c : Thread nD τ).loc main_arg7) : Vec Ideal S64x4096 .f32) (ix2 k ⟨1024 * (t.val % 4) + n.val, by omega⟩) := by
  have e : (iblk m c 9 t : Vec Ideal S64x1024 .f32) (ix2 k n) = (V m c main_arg7 : Vec Ideal S64x4096 .f32) (ix2 k ⟨1024 * (t.val % 4) + n.val, by omega⟩) := by
    unfold iblk
    refine congrArg (V m c main_arg7 : Vec Ideal S64x4096 .f32) (funext fun d => Fin.ext ((win0_9.rect_emb_val t _ d).trans ?_))
    rw [(idx t).2.2.2.2.2.2.2.2.2.1]
    match d with
    | ⟨0, _⟩ => show 0 * 64 + k.val = k.val; omega
    | ⟨1, _⟩ => show t.val % 4 * 1024 + n.val = 1024 * (t.val % 4) + n.val; omega
  rw [e]
  rfl

/-- and of the decays. -/
theorem d_at (c : Dev nD) (t : Fin cfg0.N) (n : Fin 1024) :
    (iblk m c 10 t : Vec Ideal S1x1024 .f32) (ix2 0 n) = (m ((c : Thread nD τ).loc main_arg9) : Vec Ideal S2x2x1024 .f32) (ix3 ⟨(1024 * (t.val % 4) + n.val) / 2048, by omega⟩ ⟨(1024 * (t.val % 4) + n.val) / 1024 % 2, by omega⟩ ⟨(1024 * (t.val % 4) + n.val) % 1024, by omega⟩) := by
  have e : (iblk m c 10 t : Vec Ideal S1x1024 .f32) (ix2 0 n) = (V m c main_v17 : Vec Ideal S1x4096 .f32) (ix2 0 ⟨1024 * (t.val % 4) + n.val, by omega⟩) := by
    unfold iblk
    refine congrArg (V m c main_v17 : Vec Ideal S1x4096 .f32) (funext fun d => Fin.ext ((win0_10.rect_emb_val t _ d).trans ?_))
    rw [(idx t).2.2.2.2.2.2.2.2.2.2.1]
    match d with
    | ⟨0, _⟩ => show 0 * 1 + 0 = 0; omega
    | ⟨1, _⟩ => show t.val % 4 * 1024 + n.val = 1024 * (t.val % 4) + n.val; omega
  rw [e]
  entry_read
  pointwise
  exact congrArg (fun x => (m ((c : Thread nD τ).loc main_arg9) : Vec Ideal S2x2x1024 .f32) (ix3 _ _ x)) (Fin.ext (by show n.val = (1024 * (t.val % 4) + n.val) % 1024; omega))

/-- Where the stored block sits in the result. -/
theorem out_at (G : Vec Ideal S16400x4096 .f32) (t : Fin cfg0.N) (r : Fin 656) (n : Fin 1024) :
    G (((cfg0.win 11).blk t).view.emb (ix2 r n : S656x1024.Idx)) = G (ix2 ⟨656 * (t.val / 4) + r.val, by have : t.val < 100 := t.isLt; omega⟩ ⟨1024 * (t.val % 4) + n.val, by omega⟩) := by
  refine congrArg G (funext fun a => Fin.ext ((win0_11.rect_emb_val t _ a).trans ?_))
  rw [(idx t).2.2.2.2.2.2.2.2.2.2.2]
  match a with
  | ⟨0, _⟩ => show t.val / 4 * 656 + r.val = 656 * (t.val / 4) + r.val; omega
  | ⟨1, _⟩ => show t.val % 4 * 1024 + n.val = 1024 * (t.val % 4) + n.val; omega

/-- The filter at lag `r`, column `C` of the last weights, and decay `(f, d, n)`. -/
def value (z : Vec Ideal S16400x64 .f32) (w1 : Vec Ideal S33x64 .f32) (b1 : Vec Ideal S64 .f32) (w2 : Vec Ideal S64x64 .f32)
    (b2 : Vec Ideal S64 .f32) (w3 : Vec Ideal S64x64 .f32) (b3 : Vec Ideal S64 .f32) (w4 : Vec Ideal S64x4096 .f32)
    (fr : Vec Ideal S64 .f32) (dec : Vec Ideal S2x2x1024 .f32) (r : Fin 16400) (C : Fin 4096) (f d : Fin 2) (n : Fin 1024) : EReal :=
  (∑ k : Fin 64, hid (fun k : Fin 33 => z (ix2 r ⟨k.val, by omega⟩)) (fun k n => w1 (ix2 k n)) (fun n => b1 (ix1 n))
      (fun k n => w2 (ix2 k n)) (fun n => b2 (ix1 n)) (fun k n => w3 (ix2 k n)) (fun n => b3 (ix1 n)) (fun n => fr (ix1 n))
      (fun n => fr (ix1 n)) k * w4 (ix2 k C))
    * Ideal.exp (-z (ix2 r 0) * FloatOps.absf (F := Ideal) (φ := .f32) (dec (ix3 f d n)))

/-- The filters of the arguments: column `2048 f + 1024 d + n` is channel `n` of filter `f` in direction `d`, and the
    backward direction, `d = 1`, is zero at lag zero. -/
def filt (z : Vec Ideal S16400x64 .f32) (w1 : Vec Ideal S33x64 .f32) (b1 : Vec Ideal S64 .f32) (w2 : Vec Ideal S64x64 .f32)
    (b2 : Vec Ideal S64 .f32) (w3 : Vec Ideal S64x64 .f32) (b3 : Vec Ideal S64 .f32) (w4 : Vec Ideal S64x4096 .f32)
    (fr : Vec Ideal S64 .f32) (dec : Vec Ideal S2x2x1024 .f32) : Vec Ideal S16400x4096 .f32 := fun i =>
  if (i 1).val / 1024 % 2 = 1 ∧ (i 0).val = 0 then (0 : EReal) else
    value z w1 b1 w2 b2 w3 b3 w4 fr dec (i 0) (i 1) ⟨(i 1).val / 2048, by have : (i 1).val < 4096 := (i 1).isLt; omega⟩
      ⟨(i 1).val / 1024 % 2, by omega⟩ ⟨(i 1).val % 1024, by omega⟩

/-- The network's outputs below infinity. -/
theorem hid_ne_top {K N : ℕ} (x : Fin K → EReal) (w1 b1 w2 b2) (w3 : Fin 64 → Fin N → EReal) (b3 fr fr3) (n : Fin N) :
    hid x w1 b1 w2 b2 w3 b3 fr fr3 n ≠ ⊤ := sin_ne_top _

/-- The network's outputs at row `r` of grid point `t`'s row block. -/
abbrev rowv (c : Dev nD) (t : Fin cfg0.N) (r : Fin 656) : Fin 64 → EReal :=
  hid (fun k : Fin 33 => (m ((c : Thread nD τ).loc main_arg0) : Vec Ideal S16400x64 .f32) (ix2 ⟨656 * (t.val / 4) + r.val, by have : t.val < 100 := t.isLt; omega⟩ ⟨k.val, by omega⟩))
    (fun k n => (m ((c : Thread nD τ).loc main_arg1) : Vec Ideal S33x64 .f32) (ix2 k n)) (fun n => (m ((c : Thread nD τ).loc main_arg2) : Vec Ideal S64 .f32) (ix1 n))
    (fun k n => (m ((c : Thread nD τ).loc main_arg3) : Vec Ideal S64x64 .f32) (ix2 k n)) (fun n => (m ((c : Thread nD τ).loc main_arg4) : Vec Ideal S64 .f32) (ix1 n))
    (fun k n => (m ((c : Thread nD τ).loc main_arg5) : Vec Ideal S64x64 .f32) (ix2 k n)) (fun n => (m ((c : Thread nD τ).loc main_arg6) : Vec Ideal S64 .f32) (ix1 n))
    (fun n => (m ((c : Thread nD τ).loc main_arg8) : Vec Ideal S64 .f32) (ix1 n)) (fun n => (m ((c : Thread nD τ).loc main_arg8) : Vec Ideal S64 .f32) (ix1 n))

/-- The scratch buffer at a point holds them in three copies, the middle one less itself. -/
theorem row_at (c : Dev nD) (t : Fin cfg0.N) (r : Fin 656) (l : Fin 192) :
    (netAt m c ⟨4 * (t.val / 4), Pipeline.run_start_lt t⟩ (ix2 r l) : EReal)
      = if 64 ≤ l.val ∧ l.val < 128 then rowv m c t r ⟨l.val % 64, by omega⟩ - rowv m c t r ⟨l.val % 64, by omega⟩
        else rowv m c t r ⟨l.val % 64, by omega⟩ := by
  have e4 : 4 * (t.val / 4) / 4 = t.val / 4 := by omega
  unfold netAt
  rw [net_at]
  have e : ∀ s s' : EReal, s = s' → (if 64 ≤ l.val ∧ l.val < 128 then s - s else s) = if 64 ≤ l.val ∧ l.val < 128 then s' - s' else s' :=
    fun s s' h => by rw [h]
  refine e _ _ ?_
  have sp (n : Fin 64) := sum_pad (fun k => (m ((c : Thread nD τ).loc main_arg0) : Vec Ideal S16400x64 .f32) (ix2 ⟨656 * (t.val / 4) + r.val, by have : t.val < 100 := t.isLt; omega⟩ k)) (fun k => (m ((c : Thread nD τ).loc main_arg1) : Vec Ideal S33x64 .f32) (ix2 k n))
  simp only [z_at, w1_at, b1_at, w2_at, b2_at, w3_at, b3_at, fr_at, fr3_at, e4, hid, layer, rowv]
  simp only [sp]

/-- What the body stores at an element of its block is the filter where the block sits in the array. -/
theorem point (c : Dev nD) (hf : ∀ k n, Fi ((m ((c : Thread nD τ).loc main_arg7) : Vec Ideal S64x4096 .f32) (ix2 k n))) (t : Fin cfg0.N) (y : S656x1024.Idx) :
    k0_pay1 (k0_pay6 (View.ld (iblk m c 0 t) (Rect.unit ![0, 0] ![656, 1] inb_S656x64_S656x1_0_0)) (iblk m c 9 t)
        (netAt m c ⟨4 * (t.val / 4), Pipeline.run_start_lt t⟩) (iblk m c 10 t))
      (iota Kind.tc S656x1024 32 [0] iota_S656x1024_d0_w32) (drop (grid0.coords t)) 0#32 y
      = filt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (((cfg0.win 11).blk t).view.emb y) := by
  idx_vars y
  rw [pay, out_at (filt _ _ _ _ _ _ _ _ _ _)]
  have ht : t.val < 100 := t.isLt
  have hz : (View.ld (iblk m c 0 t) (Rect.unit ![0, 0] ![656, 1] inb_S656x64_S656x1_0_0) : Vec Ideal S656x1 .f32) (ix2 y0 0)
      = (m ((c : Thread nD τ).loc main_arg0) : Vec Ideal S16400x64 .f32) (ix2 ⟨656 * (t.val / 4) + y0.val, by omega⟩ 0) := by
    refine Eq.trans ?_ (z_at m c t y0 0)
    refine congrArg (iblk m c 0 t : Vec Ideal S656x64 .f32) (funext fun d => Fin.ext ?_)
    match d with
    | ⟨0, _⟩ => show 0 + 1 * y0.val = y0.val; omega
    | ⟨1, _⟩ => rfl
  have hb : ∀ (x : EReal), Scalar.select (IntOp.andi (drop (grid0.coords t)) (IntOp.cmpi CmpIPredicate.eq (BitVec.ofNat 32 y0.val) 0#32)) 0 x
      = if (1024 * (t.val % 4) + y1.val) / 1024 % 2 = 1 ∧ 656 * (t.val / 4) + y0.val = 0 then 0 else x := fun x => by
    have e : ∀ r : Fin 656, IntOp.cmpi CmpIPredicate.eq (BitVec.ofNat 32 r.val) 0#32 = if r.val = 0 then 1#1 else 0#1 := by
      decide +kernel
    rw [drop_eq, e]
    by_cases h1 : t.val / 4 = 0 ∧ t.val % 4 % 2 = 1
    · by_cases h2 : y0.val = 0
      · rw [if_pos h1, if_pos h2, if_pos (by omega)]; rfl
      · rw [if_pos h1, if_neg h2, if_neg (by omega)]; rfl
    · by_cases h2 : y0.val = 0
      · rw [if_neg h1, if_pos h2, if_neg (by omega)]; rfl
      · rw [if_neg h1, if_neg h2, if_neg (by omega)]; rfl
  rw [hb, hz]
  unfold filt
  refine congrArg (fun x : EReal => if (1024 * (t.val % 4) + y1.val) / 1024 % 2 = 1 ∧ 656 * (t.val / 4) + y0.val = 0 then 0 else x) ?_
  unfold value
  rw [zero_sub, d_at]
  refine congrArg (· * _) ?_
  simp only [w4_at]
  refine Eq.trans (Finset.sum_congr rfl fun l _ => congrArg (· * _) (row_at m c t y0 l)) ?_
  exact three (fun k => rowv m c t y0 k) (fun k => (m ((c : Thread nD τ).loc main_arg7) : Vec Ideal S64x4096 .f32) (ix2 k ⟨1024 * (t.val % 4) + y1.val, by omega⟩))
    (fun k => hid_ne_top _ _ _ _ _ _ _ _ _ k) (fun k => hf k _)

/-- The result array after the run holds the filters of the kernel's arguments. -/
theorem final (c : Dev nD) (hf : ∀ k n, Fi ((m ((c : Thread nD τ).loc main_arg7) : Vec Ideal S64x4096 .f32) (ix2 k n))) : (dats m 0 c).arrAt 11 cfg0.N
    = filt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (dats m 0 c).arrAt_eq_of_covers 11 _ (by decide +kernel) fun t _ y => ?_
  blk_simp
  rw [after0_11, stored]
  exact point m c hf t y

end Cert.FilterIdeal.Final

namespace Cert.FilterRefIdeal.Term

open Cert.FilterRefIdeal Cert.FilterRefIdeal.Gen Cert.Filter

/-- The two directions' values, by column. -/
theorem pick (T : Fin 16400 → Fin 4096 → Fin 2 → Fin 2 → Fin 1024 → EReal) (r : Fin 16400) (l : Fin 4096) :
    (if h : l.val / 1024 % 2 < 1 then T r ⟨l.val / 2048 * 2048 + l.val % 1024, by omega⟩ ⟨l.val / 2048, by omega⟩ 0 ⟨l.val % 1024, by omega⟩
      else if h : r.val < 1 then 0
      else T ⟨1 + (r.val - 1), by omega⟩ ⟨l.val / 2048 * 2048 + 1024 + l.val % 1024, by omega⟩ ⟨l.val / 2048, by omega⟩ 1 ⟨l.val % 1024, by omega⟩)
    = if l.val / 1024 % 2 = 1 ∧ r.val = 0 then 0
      else T r l ⟨l.val / 2048, by omega⟩ ⟨l.val / 1024 % 2, by omega⟩ ⟨l.val % 1024, by omega⟩ := by
  by_cases h : l.val / 1024 % 2 < 1
  · have e1 : (⟨l.val / 2048 * 2048 + l.val % 1024, by omega⟩ : Fin 4096) = l := Fin.ext (by dsimp only; omega)
    have e2 : (⟨l.val / 1024 % 2, by omega⟩ : Fin 2) = 0 := Fin.ext (by show l.val / 1024 % 2 = 0; omega)
    rw [dif_pos h, if_neg (by omega), e1, e2]
  · by_cases h0 : r.val < 1
    · rw [dif_neg h, dif_pos h0, if_pos (by omega)]
    · have e0 : (⟨1 + (r.val - 1), by omega⟩ : Fin 16400) = r := Fin.ext (by dsimp only; omega)
      have e1 : (⟨l.val / 2048 * 2048 + 1024 + l.val % 1024, by omega⟩ : Fin 4096) = l := Fin.ext (by dsimp only; omega)
      have e2 : (⟨l.val / 1024 % 2, by omega⟩ : Fin 2) = 1 := Fin.ext (by show l.val / 1024 % 2 = 1; omega)
      rw [dif_neg h, dif_neg h0, if_neg (by omega), e0, e1, e2]

/-- The reference at an element. -/
theorem ref_at (m : (ℓ : Loc nD τ sig) → Buf (Elt Ideal) ℓ) (c : Dev nD) (r : Fin 16400) (l : Fin 4096) :
    (Cert.FilterRefIdeal.Value.res_main_v47 m c (ix2 r l) : EReal)
    = if h : l.val / 1024 % 2 < 1 then Cert.FilterIdeal.Final.value (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) r ⟨l.val / 2048 * 2048 + l.val % 1024, by omega⟩ ⟨l.val / 2048, by omega⟩ 0 ⟨l.val % 1024, by omega⟩
      else if h : r.val < 1 then 0
      else Cert.FilterIdeal.Final.value (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) ⟨1 + (r.val - 1), by omega⟩ ⟨l.val / 2048 * 2048 + 1024 + l.val % 1024, by omega⟩ ⟨l.val / 2048, by omega⟩ 1 ⟨l.val % 1024, by omega⟩ := by
  unfold Cert.FilterIdeal.Final.value hid layer
  pointwise [Cert.FilterRefIdeal.Value.res_main_v47]

/-- The reference's array is the filters of its arguments. -/
theorem ref (m : (ℓ : Loc nD τ sig) → Buf (Elt Ideal) ℓ) (c : Dev nD) : Cert.FilterRefIdeal.Value.res_out0 m c
    = Cert.FilterIdeal.Final.filt (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  refine funext fun (i : S16400x4096.Idx) => ?_
  idx_vars i
  show Cert.FilterRefIdeal.Value.res_main_v47 m c (ix2 i0 i1) = _
  rw [ref_at, pick (Cert.FilterIdeal.Final.value (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)))]
  rfl

end Cert.FilterRefIdeal.Term

namespace Cert.Pre_filter_real

open Cert.Attend

/-- The relations of shapes the precondition takes. -/
theorem facts : Facts where
  bcast_S_S64x4096 := by decide
  reducesTo_S64x4096_S_d0_1 := by decide
  h_S_ := by decide

/-- Where the precondition holds, every last weight is a real number. -/
theorem real (z w1 b1 w2 b2 w3 b3 w4 fr d) (h : letI := facts; fn (F := Ideal) z w1 b1 w2 b2 w3 b3 w4 fr d = fun _ => 1#1)
    (k : Fin 64) (n : Fin 4096) : Fi (w4 (ix2 k n)) := by
  letI := facts
  have h := congrFun h ix0
  simp only [fn] at h
  have := Host.reduce_andi_all _ _ _ _ _ h (ix2 k n)
  refine fi_of_abs _ ?_
  revert this
  pointwise
  exact id

end Cert.Pre_filter_real

namespace Cert.Proof.Filter

open Cert.FilterIdeal

/-- The kernel's result is the reference's on every device, when the last weights are real. -/
theorem algebraic : Cert.algebraic_FilterIdeal_FilterRefIdeal_pre_filter_real (hFilterIdeal := Cert.FilterIdeal.Gen.facts)
    (hFilterRefIdeal := Cert.FilterRefIdeal.Gen.facts) (hPre_filter_real := Cert.Pre_filter_real.facts) := by
  intro m ρ m' ρ' hpre hag
  refine ⟨fun c => Final.filt (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)), ?_, ?_⟩
  · exact (θ_run _ _ _).mono (fun _ h c => ⟨(h c).1.trans (Final.final m c (Cert.Pre_filter_real.real _ _ _ _ _ _ _ _ _ _ (hpre c))), (h c).2⟩)
      (Cert.FilterIdeal.Value.run_blocks (F := Ideal) m ρ)
  · refine (θ_run _ _ _).mono (fun _ h c => ⟨(h c).1.trans ?_, (h c).2⟩) (Cert.FilterRefIdeal.Value.run (F := Ideal) m' ρ')
    obtain ⟨h0, h1, h2, h3, h4, h5, h6, h7, h8, h9⟩ := hag c
    refine (Cert.FilterRefIdeal.Term.ref m' c).trans ?_
    rw [h0, h1, h2, h3, h4, h5, h6, h7, h8, h9]

end Cert.Proof.Filter

end
-- ==== Proof.lean ====
module

public import proofs.«01_k».proof.Defs
public import proofs.«01_k».proof.Proof.Gen.NaMain.Frame
public import proofs.«01_k».proof.Proof.Gen.NaMainIdeal.Frame
public import proofs.«01_k».proof.Proof.Gen.NaMainRefIdeal.Run
public import proofs.«01_k».proof.Proof.Gen.NaMeta.Frame
public import proofs.«01_k».proof.Proof.Gen.NaMetaIdeal.Frame
public import proofs.«01_k».proof.Proof.Gen.NaMetaRefIdeal.Run
public import proofs.«01_k».proof.Proof.Gen.InProj.Frame
public import proofs.«01_k».proof.Proof.Gen.InProjIdeal.Frame
public import proofs.«01_k».proof.Proof.Gen.InProjRefIdeal.Run
public import proofs.«01_k».proof.Proof.Gen.Merge.Frame
public import proofs.«01_k».proof.Proof.Gen.MergeIdeal.Frame
public import proofs.«01_k».proof.Proof.Gen.MergeRefIdeal.Run
public import proofs.«01_k».proof.Proof.Gen.OutProj.Frame
public import proofs.«01_k».proof.Proof.Gen.OutProjIdeal.Frame
public import proofs.«01_k».proof.Proof.Gen.OutProjRefIdeal.Run
public import proofs.«01_k».proof.Proof.Gen.FinalNorm.Frame
public import proofs.«01_k».proof.Proof.Gen.FinalNormIdeal.Frame
public import proofs.«01_k».proof.Proof.Gen.FinalNormRefIdeal.Run
public import proofs.«01_k».proof.Proof.Gen.ShortConv.Frame
public import proofs.«01_k».proof.Proof.Gen.ShortConvIdeal.Frame
public import proofs.«01_k».proof.Proof.Gen.ShortConvRefIdeal.Run
public import proofs.«01_k».proof.Proof.Gen.Filter.Frame
public import proofs.«01_k».proof.Proof.Gen.FilterIdeal.Frame
public import proofs.«01_k».proof.Proof.Gen.FilterRefIdeal.Run
public import proofs.«01_k».proof.Proof.NaMain
public import proofs.«01_k».proof.Proof.NaMeta
public import proofs.«01_k».proof.Proof.InProj
public import proofs.«01_k».proof.Proof.Merge
public import proofs.«01_k».proof.Proof.OutProj
public import proofs.«01_k».proof.Proof.FinalNorm
public import proofs.«01_k».proof.Proof.ShortConv
public import proofs.«01_k».proof.Proof.Filter
public import Idealize.ShloMosaic.Lib.Quiescent

/-!
The certificate's claims, put together. For each of the programs (the attention of the grid tokens,
the attention of the meta tokens, the input projection, the merge of the branches, the output
projection, the final norm, the short convolution and the filter network) the printed kernel and its idealization run without fault and leave
their arguments unchanged (`Gen`), the plain reference does too, idealizing rewrote nothing, and the
kernel's result is the reference's (`Proof/<Program>.lean`, one file a program).
-/

@[expose] public section

noncomputable section

namespace Cert.Proof

open Idealize.ShloMosaic Idealize.SL.Sem

/-- The plain reference of the grid tokens' attention runs without fault and leaves its arguments unchanged. -/
theorem quietNaMain : Cert.quiescent_NaMainRefIdeal (hNaMainRefIdeal := Cert.NaMainRefIdeal.Gen.facts) := fun m ρ _ =>
  (θ_run Cert.NaMainRefIdeal.defs _ _).mono
    (fun r h => ⟨fun c => (h c).2, sem_eq_zero_of_no_sems (by decide) r.2⟩)
    (Cert.NaMainRefIdeal.Value.run (F := Ideal) m ρ)

/-- The plain reference of the meta tokens' attention runs without fault and leaves its arguments unchanged. -/
theorem quietNaMeta : Cert.quiescent_NaMetaRefIdeal (hNaMetaRefIdeal := Cert.NaMetaRefIdeal.Gen.facts) := fun m ρ _ =>
  (θ_run Cert.NaMetaRefIdeal.defs _ _).mono
    (fun r h => ⟨fun c => (h c).2, sem_eq_zero_of_no_sems (by decide) r.2⟩)
    (Cert.NaMetaRefIdeal.Value.run (F := Ideal) m ρ)

/-- The plain reference of the input projection runs without fault and leaves its arguments unchanged. -/
theorem quietInProj : Cert.quiescent_InProjRefIdeal (hInProjRefIdeal := Cert.InProjRefIdeal.Gen.facts) := fun m ρ _ =>
  (θ_run Cert.InProjRefIdeal.defs _ _).mono
    (fun r h => ⟨fun c => (h c).2, sem_eq_zero_of_no_sems (by decide) r.2⟩)
    (Cert.InProjRefIdeal.Value.run (F := Ideal) m ρ)

/-- The plain reference of the merge runs without fault and leaves its arguments unchanged. -/
theorem quietMerge : Cert.quiescent_MergeRefIdeal (hMergeRefIdeal := Cert.MergeRefIdeal.Gen.facts) := fun m ρ _ =>
  (θ_run Cert.MergeRefIdeal.defs _ _).mono
    (fun r h => ⟨fun c => (h c).2, sem_eq_zero_of_no_sems (by decide) r.2⟩)
    (Cert.MergeRefIdeal.Value.run (F := Ideal) m ρ)

/-- The plain reference of the output projection runs without fault and leaves its arguments unchanged. -/
theorem quietOutProj : Cert.quiescent_OutProjRefIdeal (hOutProjRefIdeal := Cert.OutProjRefIdeal.Gen.facts) := fun m ρ _ =>
  (θ_run Cert.OutProjRefIdeal.defs _ _).mono
    (fun r h => ⟨fun c => (h c).2, sem_eq_zero_of_no_sems (by decide) r.2⟩)
    (Cert.OutProjRefIdeal.Value.run (F := Ideal) m ρ)

/-- The plain reference of the final norm runs without fault and leaves its arguments unchanged. -/
theorem quietFinalNorm : Cert.quiescent_FinalNormRefIdeal (hFinalNormRefIdeal := Cert.FinalNormRefIdeal.Gen.facts) := fun m ρ _ =>
  (θ_run Cert.FinalNormRefIdeal.defs _ _).mono
    (fun r h => ⟨fun c => (h c).2, sem_eq_zero_of_no_sems (by decide) r.2⟩)
    (Cert.FinalNormRefIdeal.Value.run (F := Ideal) m ρ)

/-- The plain reference of the short convolution runs without fault and leaves its arguments unchanged. -/
theorem quietShortConv : Cert.quiescent_ShortConvRefIdeal (hShortConvRefIdeal := Cert.ShortConvRefIdeal.Gen.facts) := fun m ρ _ =>
  (θ_run Cert.ShortConvRefIdeal.defs _ _).mono
    (fun r h => ⟨fun c => (h c).2, sem_eq_zero_of_no_sems (by decide) r.2⟩)
    (Cert.ShortConvRefIdeal.Value.run (F := Ideal) m ρ)

/-- The plain reference of the filter network runs without fault and leaves its arguments unchanged. -/
theorem quietFilter : Cert.quiescent_FilterRefIdeal (hFilterRefIdeal := Cert.FilterRefIdeal.Gen.facts) := fun m ρ _ =>
  (θ_run Cert.FilterRefIdeal.defs _ _).mono
    (fun r h => ⟨fun c => (h c).2, sem_eq_zero_of_no_sems (by decide) r.2⟩)
    (Cert.FilterRefIdeal.Value.run (F := Ideal) m ρ)

/-- Every claim of the certificate holds. -/
theorem claim : Cert.Claim :=
  ⟨Cert.NaMain.Gen.facts, Cert.NaMainIdeal.Gen.facts, Cert.NaMainRefIdeal.Gen.facts,
    Cert.NaMeta.Gen.facts, Cert.NaMetaIdeal.Gen.facts, Cert.NaMetaRefIdeal.Gen.facts, Cert.InProj.Gen.facts, Cert.InProjIdeal.Gen.facts, Cert.InProjRefIdeal.Gen.facts,
    Cert.Merge.Gen.facts, Cert.MergeIdeal.Gen.facts, Cert.MergeRefIdeal.Gen.facts, Cert.OutProj.Gen.facts, Cert.OutProjIdeal.Gen.facts, Cert.OutProjRefIdeal.Gen.facts,
    Cert.FinalNorm.Gen.facts, Cert.FinalNormIdeal.Gen.facts, Cert.FinalNormRefIdeal.Gen.facts, Cert.ShortConv.Gen.facts, Cert.ShortConvIdeal.Gen.facts, Cert.ShortConvRefIdeal.Gen.facts,
    Cert.Filter.Gen.facts, Cert.FilterIdeal.Gen.facts, Cert.FilterRefIdeal.Gen.facts, Cert.Pre_na_main_real.facts, Cert.Pre_na_meta_real.facts, Cert.Pre_filter_real.facts,
    fun m ρ _ => Cert.NaMain.Gen.frame m ρ,
    fun m ρ _ => Cert.NaMainIdeal.Gen.frame m ρ, fun m ρ _ => Cert.NaMainIdeal.Gen.frame m ρ, quietNaMain, fun m ρ _ => quietNaMain m ρ trivial,
    fun m ρ _ => Cert.NaMeta.Gen.frame m ρ,
    fun m ρ _ => Cert.NaMetaIdeal.Gen.frame m ρ, fun m ρ _ => Cert.NaMetaIdeal.Gen.frame m ρ, quietNaMeta, fun m ρ _ => quietNaMeta m ρ trivial,
    fun m ρ _ => Cert.InProj.Gen.frame m ρ,
    fun m ρ _ => Cert.InProjIdeal.Gen.frame m ρ, quietInProj,
    fun m ρ _ => Cert.Merge.Gen.frame m ρ,
    fun m ρ _ => Cert.MergeIdeal.Gen.frame m ρ, quietMerge,
    fun m ρ _ => Cert.OutProj.Gen.frame m ρ,
    fun m ρ _ => Cert.OutProjIdeal.Gen.frame m ρ, quietOutProj,
    fun m ρ _ => Cert.FinalNorm.Gen.frame m ρ,
    fun m ρ _ => Cert.FinalNormIdeal.Gen.frame m ρ, quietFinalNorm,
    fun m ρ _ => Cert.ShortConv.Gen.frame m ρ,
    fun m ρ _ => Cert.ShortConvIdeal.Gen.frame m ρ, quietShortConv,
    fun m ρ _ => Cert.Filter.Gen.frame m ρ,
    fun m ρ _ => Cert.FilterIdeal.Gen.frame m ρ, fun m ρ _ => Cert.FilterIdeal.Gen.frame m ρ, quietFilter, fun m ρ _ => quietFilter m ρ trivial,
    trivial, NaMain.algebraic,
    trivial, NaMeta.algebraic,
    trivial, InProj.algebraic,
    trivial, Merge.algebraic,
    trivial, OutProj.algebraic,
    trivial, FinalNorm.algebraic,
    trivial, ShortConv.algebraic,
    trivial, Filter.algebraic⟩

end Cert.Proof

end
